-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3)
      ∧ r.2.mem ((c.tc : Thread Cert.Kernel30.nD Cert.Kernel30.τ).loc Cert.Kernel30.main_arg4) = m ((c.tc : Thread Cert.Kernel30.nD Cert.Kernel30.τ).loc Cert.Kernel30.main_arg4))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_v16) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v6) = v2 c
          ∧ r.2.mem ((c.tc : Thread Cert.Reference19Ideal.nD Cert.Reference19Ideal.τ).loc Cert.Reference19Ideal.main_v12) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v6) = v2 c
          ∧ r.2.mem ((c.tc : Thread Cert.Reference20Ideal.nD Cert.Reference20Ideal.τ).loc Cert.Reference20Ideal.main_v12) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v6) = v2 c
          ∧ r.2.mem ((c.tc : Thread Cert.Reference21Ideal.nD Cert.Reference21Ideal.τ).loc Cert.Reference21Ideal.main_v12) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v6) = v2 c
          ∧ r.2.mem ((c.tc : Thread Cert.Reference22Ideal.nD Cert.Reference22Ideal.τ).loc Cert.Reference22Ideal.main_v12) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v6) = v2 c
          ∧ r.2.mem ((c.tc : Thread Cert.Reference23Ideal.nD Cert.Reference23Ideal.τ).loc Cert.Reference23Ideal.main_v12) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v0) = v0 c
          ∧ r.2.mem ((c.tc : Thread Cert.Reference24Ideal.nD Cert.Reference24Ideal.τ).loc Cert.Reference24Ideal.main_v25) = v1 c
          ∧ r.2.mem ((c.tc : Thread Cert.Reference24Ideal.nD Cert.Reference24Ideal.τ).loc Cert.Reference24Ideal.main_v6) = v2 c
          ∧ r.2.mem ((c.tc : Thread Cert.Reference24Ideal.nD Cert.Reference24Ideal.τ).loc Cert.Reference24Ideal.main_v12) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_v25) = v1 c
          ∧ r.2.mem ((c.tc : Thread Cert.Reference25Ideal.nD Cert.Reference25Ideal.τ).loc Cert.Reference25Ideal.main_v6) = v2 c
          ∧ r.2.mem ((c.tc : Thread Cert.Reference25Ideal.nD Cert.Reference25Ideal.τ).loc Cert.Reference25Ideal.main_v12) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v0) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_v6) = v2 c
          ∧ r.2.mem ((c.tc : Thread Cert.Reference26Ideal.nD Cert.Reference26Ideal.τ).loc Cert.Reference26Ideal.main_v12) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v0) = v0 c
          ∧ r.2.mem ((c.tc : Thread Cert.Reference27Ideal.nD Cert.Reference27Ideal.τ).loc Cert.Reference27Ideal.main_v25) = v1 c
          ∧ r.2.mem ((c.tc : Thread Cert.Reference27Ideal.nD Cert.Reference27Ideal.τ).loc Cert.Reference27Ideal.main_v6) = v2 c
          ∧ r.2.mem ((c.tc : Thread Cert.Reference27Ideal.nD Cert.Reference27Ideal.τ).loc Cert.Reference27Ideal.main_v12) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v0) = v0 c
          ∧ r.2.mem ((c.tc : Thread Cert.Reference28Ideal.nD Cert.Reference28Ideal.τ).loc Cert.Reference28Ideal.main_v25) = v1 c
          ∧ r.2.mem ((c.tc : Thread Cert.Reference28Ideal.nD Cert.Reference28Ideal.τ).loc Cert.Reference28Ideal.main_v6) = v2 c
          ∧ r.2.mem ((c.tc : Thread Cert.Reference28Ideal.nD Cert.Reference28Ideal.τ).loc Cert.Reference28Ideal.main_v12) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v0) = v0 c
          ∧ r.2.mem ((c.tc : Thread Cert.Reference29Ideal.nD Cert.Reference29Ideal.τ).loc Cert.Reference29Ideal.main_v25) = v1 c
          ∧ r.2.mem ((c.tc : Thread Cert.Reference29Ideal.nD Cert.Reference29Ideal.τ).loc Cert.Reference29Ideal.main_v6) = v2 c
          ∧ r.2.mem ((c.tc : Thread Cert.Reference29Ideal.nD Cert.Reference29Ideal.τ).loc Cert.Reference29Ideal.main_v12) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)
      ∧ m' ((c.tc : Thread Cert.Reference30Ideal.nD Cert.Reference30Ideal.τ).loc Cert.Reference30Ideal.main_arg4) = m ((c.tc : Thread Cert.Kernel30Ideal.nD Cert.Kernel30Ideal.τ).loc Cert.Kernel30Ideal.main_arg4)) →
    ∃ (v0 : (c : Dev Cert.Kernel30Ideal.nD) → Buf (Elt Ideal) ((c.tc : Thread Cert.Kernel30Ideal.nD Cert.Kernel30Ideal.τ).loc Cert.Kernel30Ideal.main_v1_0)) (v1 : (c : Dev Cert.Kernel30Ideal.nD) → Buf (Elt Ideal) ((c.tc : Thread Cert.Kernel30Ideal.nD Cert.Kernel30Ideal.τ).loc Cert.Kernel30Ideal.main_v1_1)) (v2 : (c : Dev Cert.Kernel30Ideal.nD) → Buf (Elt Ideal) ((c.tc : Thread Cert.Kernel30Ideal.nD Cert.Kernel30Ideal.τ).loc Cert.Kernel30Ideal.main_v1_2)) (v3 : (c : Dev Cert.Kernel30Ideal.nD) → Buf (Elt Ideal) ((c.tc : Thread Cert.Kernel30Ideal.nD Cert.Kernel30Ideal.τ).loc Cert.Kernel30Ideal.main_v1_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v1_0) = v0 c
          ∧ r.2.mem ((c.tc : Thread Cert.Kernel30Ideal.nD Cert.Kernel30Ideal.τ).loc Cert.Kernel30Ideal.main_v1_1) = v1 c
          ∧ r.2.mem ((c.tc : Thread Cert.Kernel30Ideal.nD Cert.Kernel30Ideal.τ).loc Cert.Kernel30Ideal.main_v1_2) = v2 c
          ∧ r.2.mem ((c.tc : Thread Cert.Kernel30Ideal.nD Cert.Kernel30Ideal.τ).loc Cert.Kernel30Ideal.main_v1_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
          ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v2) = v0 c
          ∧ r.2.mem ((c.tc : Thread Cert.Reference30Ideal.nD Cert.Reference30Ideal.τ).loc Cert.Reference30Ideal.main_v26) = v1 c
          ∧ r.2.mem ((c.tc : Thread Cert.Reference30Ideal.nD Cert.Reference30Ideal.τ).loc Cert.Reference30Ideal.main_v7) = v2 c
          ∧ r.2.mem ((c.tc : Thread Cert.Reference30Ideal.nD Cert.Reference30Ideal.τ).loc Cert.Reference30Ideal.main_v13) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)) →
    ∃ (v0 : (c : Dev Cert.Kernel31Ideal.nD) → Buf (Elt Ideal) ((c.tc : Thread Cert.Kernel31Ideal.nD Cert.Kernel31Ideal.τ).loc Cert.Kernel31Ideal.main_v1_0)) (v1 : (c : Dev Cert.Kernel31Ideal.nD) → Buf (Elt Ideal) ((c.tc : Thread Cert.Kernel31Ideal.nD Cert.Kernel31Ideal.τ).loc Cert.Kernel31Ideal.main_v1_1)) (v2 : (c : Dev Cert.Kernel31Ideal.nD) → Buf (Elt Ideal) ((c.tc : Thread Cert.Kernel31Ideal.nD Cert.Kernel31Ideal.τ).loc Cert.Kernel31Ideal.main_v1_2)) (v3 : (c : Dev Cert.Kernel31Ideal.nD) → Buf (Elt Ideal) ((c.tc : Thread Cert.Kernel31Ideal.nD Cert.Kernel31Ideal.τ).loc Cert.Kernel31Ideal.main_v1_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v1_0) = v0 c
          ∧ r.2.mem ((c.tc : Thread Cert.Kernel31Ideal.nD Cert.Kernel31Ideal.τ).loc Cert.Kernel31Ideal.main_v1_1) = v1 c
          ∧ r.2.mem ((c.tc : Thread Cert.Kernel31Ideal.nD Cert.Kernel31Ideal.τ).loc Cert.Kernel31Ideal.main_v1_2) = v2 c
          ∧ r.2.mem ((c.tc : Thread Cert.Kernel31Ideal.nD Cert.Kernel31Ideal.τ).loc Cert.Kernel31Ideal.main_v1_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v2) = v0 c
          ∧ r.2.mem ((c.tc : Thread Cert.Reference31Ideal.nD Cert.Reference31Ideal.τ).loc Cert.Reference31Ideal.main_v26) = v1 c
          ∧ r.2.mem ((c.tc : Thread Cert.Reference31Ideal.nD Cert.Reference31Ideal.τ).loc Cert.Reference31Ideal.main_v7) = v2 c
          ∧ r.2.mem ((c.tc : Thread Cert.Reference31Ideal.nD Cert.Reference31Ideal.τ).loc Cert.Reference31Ideal.main_v13) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v38) = v0 c
          ∧ r.2.mem ((c.tc : Thread Cert.Reference32Ideal.nD Cert.Reference32Ideal.τ).loc Cert.Reference32Ideal.main_v39) = v1 c
          ∧ r.2.mem ((c.tc : Thread Cert.Reference32Ideal.nD Cert.Reference32Ideal.τ).loc Cert.Reference32Ideal.main_v41) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v14) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)) (v3 : (c : Dev Cert.Kernel34Ideal.nD) → Buf (Elt Ideal) ((c.tc : Thread Cert.Kernel34Ideal.nD Cert.Kernel34Ideal.τ).loc Cert.Kernel34Ideal.main_v0_3)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_v0_3) = v3 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v74) = v0 c
          ∧ r.2.mem ((c.tc : Thread Cert.Reference34Ideal.nD Cert.Reference34Ideal.τ).loc Cert.Reference34Ideal.main_v51) = v1 c
          ∧ r.2.mem ((c.tc : Thread Cert.Reference34Ideal.nD Cert.Reference34Ideal.τ).loc Cert.Reference34Ideal.main_v75) = v2 c
          ∧ r.2.mem ((c.tc : Thread Cert.Reference34Ideal.nD Cert.Reference34Ideal.τ).loc Cert.Reference34Ideal.main_v77) = v3 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v6) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v6) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
-- ==== Kernel.lean ====
abbrev S8192x6144 : Shape := ⟨2, ![8192, 6144]⟩
abbrev S8192x2048 : Shape := ⟨2, ![8192, 2048]⟩
abbrev S3x2048 : Shape := ⟨2, ![3, 2048]⟩
abbrev S8x2048 : Shape := ⟨2, ![8, 2048]⟩
abbrev S256x6144 : Shape := ⟨2, ![256, 6144]⟩
abbrev S16x6144 : Shape := ⟨2, ![16, 6144]⟩
abbrev S256x2048 : Shape := ⟨2, ![256, 2048]⟩
abbrev S8x512 : Shape := ⟨2, ![8, 512]⟩
abbrev S256x512 : Shape := ⟨2, ![256, 512]⟩
abbrev S16x512 : Shape := ⟨2, ![16, 512]⟩
abbrev S272x512 : Shape := ⟨2, ![272, 512]⟩
abbrev S3x512 : Shape := ⟨2, ![3, 512]⟩
abbrev S1x512 : Shape := ⟨2, ![1, 512]⟩
abbrev S512 : Shape := ⟨1, ![512]⟩

abbrev nBuf : Space → Nat
  | .hbm => 5
  | .vmem => 14
  | .smem => 0
  | _ => 0

abbrev bufTy : (tb : Table) → Fin (tcTables nBuf tb) → BufTy
  | .hbm, ⟨0, _⟩ => ⟨S8192x6144, .bf16⟩
  | .hbm, ⟨1, _⟩ => ⟨S8192x2048, .f32⟩
  | .hbm, ⟨2, _⟩ => ⟨S3x2048, .f32⟩
  | .hbm, ⟨3, _⟩ => ⟨S8192x6144, .bf16⟩
  | .hbm, ⟨4, _⟩ => ⟨S8x2048, .f32⟩
  | .local _ .vmem, ⟨0, _⟩ => ⟨S256x6144, .bf16⟩
  | .local _ .vmem, ⟨1, _⟩ => ⟨S256x6144, .bf16⟩
  | .local _ .vmem, ⟨2, _⟩ => ⟨S16x6144, .bf16⟩
  | .local _ .vmem, ⟨3, _⟩ => ⟨S16x6144, .bf16⟩
  | .local _ .vmem, ⟨4, _⟩ => ⟨S16x6144, .bf16⟩
  | .local _ .vmem, ⟨5, _⟩ => ⟨S16x6144, .bf16⟩
  | .local _ .vmem, ⟨6, _⟩ => ⟨S256x2048, .f32⟩
  | .local _ .vmem, ⟨7, _⟩ => ⟨S256x2048, .f32⟩
  | .local _ .vmem, ⟨8, _⟩ => ⟨S8x2048, .f32⟩
  | .local _ .vmem, ⟨9, _⟩ => ⟨S8x2048, .f32⟩
  | .local _ .vmem, ⟨10, _⟩ => ⟨S3x2048, .f32⟩
  | .local _ .vmem, ⟨11, _⟩ => ⟨S256x6144, .bf16⟩
  | .local _ .vmem, ⟨12, _⟩ => ⟨S256x6144, .bf16⟩
  | .local _ .vmem, ⟨13, _⟩ => ⟨S8x2048, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x6144 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S8192x6144 : Shape := ⟨2, ![8192, 6144]⟩
abbrev S8192x2048 : Shape := ⟨2, ![8192, 2048]⟩
abbrev S3x2048 : Shape := ⟨2, ![3, 2048]⟩
abbrev S_ : Shape := ⟨0, ![]⟩
abbrev S2x2048 : Shape := ⟨2, ![2, 2048]⟩
abbrev S8194x2048 : Shape := ⟨2, ![8194, 2048]⟩
abbrev S1x2048 : Shape := ⟨2, ![1, 2048]⟩
abbrev S2048 : Shape := ⟨1, ![2048]⟩
abbrev S8x2048 : Shape := ⟨2, ![8, 2048]⟩

abbrev nBuf : Space → Nat
  | .hbm => 88
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S8192x2048, .f32⟩
  | .hbm, ⟨2, _⟩ => ⟨S3x2048, .f32⟩
  | .hbm, ⟨3, _⟩ => ⟨S8192x6144, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S2x2048, .f32⟩
  | .hbm, ⟨10, _⟩ => ⟨S8194x2048, .f32⟩
  | .hbm, ⟨11, _⟩ => ⟨S_, .f32⟩
  | .hbm, ⟨12, _⟩ => ⟨S2x2048, .f32⟩
  | .hbm, ⟨13, _⟩ => ⟨S8192x2048, .f32⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S1x2048, .f32⟩
  | .hbm, ⟨28, _⟩ => ⟨S2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S2048, .f32⟩
  | .hbm, ⟨44, _⟩ => ⟨S1x2048, .f32⟩
  | .hbm, ⟨45, _⟩ => ⟨S_, .f32⟩
  | .hbm, ⟨46, _⟩ => ⟨S3x2048, .f32⟩
  | .hbm, ⟨47, _⟩ => ⟨S_, .f32⟩
  | .hbm, ⟨48, _⟩ => ⟨S8194x2048, .f32⟩
  | .hbm, ⟨49, _⟩ => ⟨S8192x2048, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S8192x2048, .f32⟩
  | .hbm, ⟨54, _⟩ => ⟨S8192x2048, .f32⟩
  | .hbm, ⟨55, _⟩ => ⟨S_, .f32⟩
  | .hbm, ⟨56, _⟩ => ⟨S2048, .f32⟩
  | .hbm, ⟨57, _⟩ => ⟨S1x2048, .f32⟩
  | .hbm, ⟨58, _⟩ => ⟨S_, .f32⟩
  | .hbm, ⟨59, _⟩ => ⟨S3x2048, .f32⟩
  | .hbm, ⟨60, _⟩ => ⟨S3x2048, .f32⟩
  | .hbm, ⟨61, _⟩ => ⟨S_, .f32⟩
  | .hbm, ⟨62, _⟩ => ⟨S8194x2048, .f32⟩
  | .hbm, ⟨63, _⟩ => ⟨S8194x2048, .f32⟩
  | .hbm, ⟨64, _⟩ => ⟨S8192x2048, .f32⟩
  | .hbm, ⟨65, _⟩ => ⟨S_, .f32⟩
  | .hbm, ⟨66, _⟩ => ⟨S2048, .f32⟩
  | .hbm, ⟨67, _⟩ => ⟨S1x2048, .f32⟩
  | .hbm, ⟨68, _⟩ => ⟨S8192x2048, .f32⟩
  | .hbm, ⟨69, _⟩ => ⟨S8192x2048, .f32⟩
  | .hbm, ⟨70, _⟩ => ⟨S_, .f32⟩
  | .hbm, ⟨71, _⟩ => ⟨S2048, .f32⟩
  | .hbm, ⟨72, _⟩ => ⟨S1x2048, .f32⟩
  | .hbm, ⟨73, _⟩ => ⟨S_, .f32⟩
  | .hbm, ⟨74, _⟩ => ⟨S3x2048, .f32⟩
  | .hbm, ⟨75, _⟩ => ⟨S3x2048, .f32⟩
  | .hbm, ⟨76, _⟩ => ⟨S_, .f32⟩
  | .hbm, ⟨77, _⟩ => ⟨S8194x2048, .f32⟩
  | .hbm, ⟨78, _⟩ => ⟨S8194x2048, .f32⟩
  | .hbm, ⟨79, _⟩ => ⟨S2x2048, .f32⟩
  | .hbm, ⟨80, _⟩ => ⟨S8192x2048, .f32⟩
  | .hbm, ⟨81, _⟩ => ⟨S8192x2048, .f32⟩
  | .hbm, ⟨82, _⟩ => ⟨S8192x2048, .f32⟩
  | .hbm, ⟨83, _⟩ => ⟨S8192x6144, .f32⟩
  | .hbm, ⟨84, _⟩ => ⟨S8192x6144, .bf16⟩
  | .hbm, ⟨85, _⟩ => ⟨S_, .i32⟩
  | .hbm, ⟨86, _⟩ => ⟨S_, .f32⟩
  | .hbm, ⟨87, _⟩ => ⟨S8x2048, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_9 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_10 : Ref sig .tc := ⟨.hbm, 70, rfl⟩
abbrev main_v56 : Ref sig .tc := ⟨.hbm, 71, rfl⟩
abbrev main_v57 : Ref sig .tc := ⟨.hbm, 72, rfl⟩
abbrev main_cst_11 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_c : Ref sig .tc := ⟨.hbm, 85, rfl⟩
abbrev main_call0_v0 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== Kernel2.lean ====
abbrev S8192x2048 : Shape := ⟨2, ![8192, 2048]⟩
abbrev S8192x11264 : Shape := ⟨2, ![8192, 11264]⟩
abbrev S2048x11264 : Shape := ⟨2, ![2048, 11264]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x11264, .bf16⟩
  | .hbm, ⟨2, _⟩ => ⟨S2048x11264, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x2048 : Shape := ⟨2, ![8192, 2048]⟩
abbrev S8192x11264 : Shape := ⟨2, ![8192, 11264]⟩
abbrev S_ : Shape := ⟨0, ![]⟩
abbrev S2048x11264 : Shape := ⟨2, ![2048, 11264]⟩
abbrev S11264x2048 : Shape := ⟨2, ![11264, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x11264, .bf16⟩
  | .hbm, ⟨2, _⟩ => ⟨S_, .f32⟩
  | .hbm, ⟨3, _⟩ => ⟨S2048x11264, .f32⟩
  | .hbm, ⟨4, _⟩ => ⟨S8192x2048, .f32⟩
  | .hbm, ⟨5, _⟩ => ⟨S8192x11264, .f32⟩
  | .hbm, ⟨6, _⟩ => ⟨S8192x11264, .f32⟩
  | .hbm, ⟨7, _⟩ => ⟨S11264x2048, .f32⟩
  | .hbm, ⟨8, _⟩ => ⟨S2048x11264, .f32⟩
  | .hbm, ⟨9, _⟩ => ⟨S2048x11264, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8192x11264 : Shape := ⟨2, ![8192, 11264]⟩
abbrev S2048x11264 : Shape := ⟨2, ![2048, 11264]⟩
abbrev S8192x2048 : Shape := ⟨2, ![8192, 2048]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x11264, .bf16⟩
  | .hbm, ⟨1, _⟩ => ⟨S2048x11264, .bf16⟩
  | .hbm, ⟨2, _⟩ => ⟨S8192x2048, .bf16⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x11264 : Shape := ⟨2, ![8192, 11264]⟩
abbrev S2048x11264 : Shape := ⟨2, ![2048, 11264]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x11264, .bf16⟩
  | .hbm, ⟨1, _⟩ => ⟨S2048x11264, .bf16⟩
  | .hbm, ⟨2, _⟩ => ⟨S_, .f32⟩
  | .hbm, ⟨3, _⟩ => ⟨S8192x2048, .f32⟩
  | .hbm, ⟨4, _⟩ => ⟨S2048x11264, .f32⟩
  | .hbm, ⟨5, _⟩ => ⟨S8192x11264, .f32⟩
  | .hbm, ⟨6, _⟩ => ⟨S8192x11264, .f32⟩
  | .hbm, ⟨7, _⟩ => ⟨S8192x2048, .f32⟩
  | .hbm, ⟨8, _⟩ => ⟨S8192x2048, .bf16⟩
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x5632 : Shape := ⟨2, ![8192, 5632]⟩
abbrev S8192x2048 : Shape := ⟨2, ![8192, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x2048 : Shape := ⟨2, ![8192, 2048]⟩
abbrev S5632x2048 : Shape := ⟨2, ![5632, 2048]⟩
abbrev S8192x5632 : Shape := ⟨2, ![8192, 5632]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .f32⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .f32⟩
  | .local _ .vmem, ⟨5, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S5632x2048 : Shape := ⟨2, ![5632, 2048]⟩
abbrev S_ : Shape := ⟨0, ![]⟩
abbrev S8192x5632 : Shape := ⟨2, ![8192, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S_, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | .hbm, ⟨7, _⟩ => ⟨S8192x5632, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S8192x2048 : Shape := ⟨2, ![8192, 2048]⟩
abbrev S8192x6144 : Shape := ⟨2, ![8192, 6144]⟩
abbrev S2048x6144 : Shape := ⟨2, ![2048, 6144]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S2048x6144, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S8192x6144 : Shape := ⟨2, ![8192, 6144]⟩
abbrev S_ : Shape := ⟨0, ![]⟩
abbrev S2048x6144 : Shape := ⟨2, ![2048, 6144]⟩
abbrev S6144x2048 : Shape := ⟨2, ![6144, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S_, .f32⟩
  | .hbm, ⟨3, _⟩ => ⟨S2048x6144, .f32⟩
  | .hbm, ⟨4, _⟩ => ⟨S8192x2048, .f32⟩
  | .hbm, ⟨5, _⟩ => ⟨S8192x6144, .f32⟩
  | .hbm, ⟨6, _⟩ => ⟨S8192x6144, .f32⟩
  | .hbm, ⟨7, _⟩ => ⟨S6144x2048, .f32⟩
  | .hbm, ⟨8, _⟩ => ⟨S2048x6144, .f32⟩
  | .hbm, ⟨9, _⟩ => ⟨S2048x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x6144 : Shape := ⟨2, ![8192, 6144]⟩
abbrev S2048x6144 : Shape := ⟨2, ![2048, 6144]⟩
abbrev S8192x2048 : Shape := ⟨2, ![8192, 2048]⟩
abbrev S1024x3072 : Shape := ⟨2, ![1024, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x6144, .bf16⟩
  | .hbm, ⟨1, _⟩ => ⟨S2048x6144, .bf16⟩
  | .hbm, ⟨2, _⟩ => ⟨S8192x2048, .bf16⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x3072, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x6144 : Shape := ⟨2, ![8192, 6144]⟩
abbrev S2048x6144 : Shape := ⟨2, ![2048, 6144]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S2048x6144, .bf16⟩
  | .hbm, ⟨2, _⟩ => ⟨S_, .f32⟩
  | .hbm, ⟨3, _⟩ => ⟨S8192x2048, .f32⟩
  | .hbm, ⟨4, _⟩ => ⟨S2048x6144, .f32⟩
  | .hbm, ⟨5, _⟩ => ⟨S8192x6144, .f32⟩
  | .hbm, ⟨6, _⟩ => ⟨S8192x6144, .f32⟩
  | .hbm, ⟨7, _⟩ => ⟨S8192x2048, .f32⟩
  | .hbm, ⟨8, _⟩ => ⟨S8192x2048, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x2048 : Shape := ⟨2, ![8192, 2048]⟩
abbrev S8192x4096 : Shape := ⟨2, ![8192, 4096]⟩
abbrev S2048x4096 : Shape := ⟨2, ![2048, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S2048x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S8192x4096 : Shape := ⟨2, ![8192, 4096]⟩
abbrev S_ : Shape := ⟨0, ![]⟩
abbrev S2048x4096 : Shape := ⟨2, ![2048, 4096]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S_, .f32⟩
  | .hbm, ⟨3, _⟩ => ⟨S2048x4096, .f32⟩
  | .hbm, ⟨4, _⟩ => ⟨S8192x2048, .f32⟩
  | .hbm, ⟨5, _⟩ => ⟨S8192x4096, .f32⟩
  | .hbm, ⟨6, _⟩ => ⟨S8192x4096, .f32⟩
  | .hbm, ⟨7, _⟩ => ⟨S4096x2048, .f32⟩
  | .hbm, ⟨8, _⟩ => ⟨S2048x4096, .f32⟩
  | .hbm, ⟨9, _⟩ => ⟨S2048x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8192x4096 : Shape := ⟨2, ![8192, 4096]⟩
abbrev S2048x4096 : Shape := ⟨2, ![2048, 4096]⟩
abbrev S8192x2048 : Shape := ⟨2, ![8192, 2048]⟩
abbrev S1024x4096 : Shape := ⟨2, ![1024, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S2048x4096, .bf16⟩
  | .hbm, ⟨2, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x4096 : Shape := ⟨2, ![8192, 4096]⟩
abbrev S2048x4096 : Shape := ⟨2, ![2048, 4096]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2048x4096, .bf16⟩
  | .hbm, ⟨2, _⟩ => ⟨S_, .f32⟩
  | .hbm, ⟨3, _⟩ => ⟨S8192x2048, .f32⟩
  | .hbm, ⟨4, _⟩ => ⟨S2048x4096, .f32⟩
  | .hbm, ⟨5, _⟩ => ⟨S8192x4096, .f32⟩
  | .hbm, ⟨6, _⟩ => ⟨S8192x4096, .f32⟩
  | .hbm, ⟨7, _⟩ => ⟨S8192x2048, .f32⟩
  | .hbm, ⟨8, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8192x2048 : Shape := ⟨2, ![8192, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8192x2048 : Shape := ⟨2, ![8192, 2048]⟩
abbrev S2048x11264 : Shape := ⟨2, ![2048, 11264]⟩
abbrev S8192x11264 : Shape := ⟨2, ![8192, 11264]⟩
abbrev S2048x2048 : Shape := ⟨2, ![2048, 2048]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x11264, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x2048 : Shape := ⟨2, ![8192, 2048]⟩
abbrev S2048x11264 : Shape := ⟨2, ![2048, 11264]⟩
abbrev S8192x11264 : Shape := ⟨2, ![8192, 11264]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x2048, .f32⟩
  | .hbm, ⟨3, _⟩ => ⟨S2048x11264, .f32⟩
  | .hbm, ⟨4, _⟩ => ⟨S8192x11264, .f32⟩
  | .hbm, ⟨5, _⟩ => ⟨S8192x11264, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S8192x5632 : Shape := ⟨2, ![8192, 5632]⟩
abbrev S5632x2048 : Shape := ⟨2, ![5632, 2048]⟩
abbrev S8192x2048 : Shape := ⟨2, ![8192, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let c1_i32 : BitVec 32 := 1#32
  let v7 : BitVec 1 := Scalar.cmpi .slt arg2 c1_i32
  let v8 : BitVec 1 := Scalar.andi v6 v7
  let v9 : BitVec 32 := Scalar.extui v8
  let c0_i32_5 : BitVec 32 := 0#32
  let v10 : BitVec 1 := Scalar.cmpi .ne v9 c0_i32_5
  v10

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S8192x2048 : Shape := ⟨2, ![8192, 2048]⟩
abbrev S2048x6144 : Shape := ⟨2, ![2048, 6144]⟩
abbrev S8192x6144 : Shape := ⟨2, ![8192, 6144]⟩
abbrev S2048x2048 : Shape := ⟨2, ![2048, 2048]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .bf16⟩
  | .hbm, ⟨2, _⟩ => ⟨S8192x6144, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x2048 : Shape := ⟨2, ![8192, 2048]⟩
abbrev S2048x6144 : Shape := ⟨2, ![2048, 6144]⟩
abbrev S8192x6144 : Shape := ⟨2, ![8192, 6144]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .bf16⟩
  | .hbm, ⟨2, _⟩ => ⟨S8192x2048, .f32⟩
  | .hbm, ⟨3, _⟩ => ⟨S2048x6144, .f32⟩
  | .hbm, ⟨4, _⟩ => ⟨S8192x6144, .f32⟩
  | .hbm, ⟨5, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel16.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference16Ideal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S8192x2048 : Shape := ⟨2, ![8192, 2048]⟩
abbrev S2048x4096 : Shape := ⟨2, ![2048, 4096]⟩
abbrev S8192x4096 : Shape := ⟨2, ![8192, 4096]⟩
abbrev S2048x2048 : Shape := ⟨2, ![2048, 2048]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192x4096, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x2048 : Shape := ⟨2, ![8192, 2048]⟩
abbrev S2048x4096 : Shape := ⟨2, ![2048, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192x2048, .f32⟩
  | .hbm, ⟨3, _⟩ => ⟨S2048x4096, .f32⟩
  | .hbm, ⟨4, _⟩ => ⟨S8192x4096, .f32⟩
  | .hbm, ⟨5, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S8192x2048 : Shape := ⟨2, ![8192, 2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference18Ideal.lean ====
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel19.lean ====
abbrev S1x2048x1536 : Shape := ⟨3, ![1, 2048, 1536]⟩
abbrev S2048x1536 : Shape := ⟨2, ![2048, 1536]⟩
abbrev S1x256x1536 : Shape := ⟨3, ![1, 256, 1536]⟩
abbrev S256x1536 : Shape := ⟨2, ![256, 1536]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x1536, .f32⟩
  | .hbm, ⟨1, _⟩ => ⟨S2048x1536, .f32⟩
  | .hbm, ⟨2, _⟩ => ⟨S1x2048x1536, .f32⟩
  | .hbm, ⟨3, _⟩ => ⟨S1x2048x1536, .f32⟩
  | .hbm, ⟨4, _⟩ => ⟨S1x2048x1536, .f32⟩
  | .hbm, ⟨5, _⟩ => ⟨S1x2048x1536, .f32⟩
  | .hbm, ⟨6, _⟩ => ⟨S1x2048x1536, .f32⟩
  | .hbm, ⟨7, _⟩ => ⟨S1x2048x1536, .f32⟩
  | .local _ .vmem, ⟨0, _⟩ => ⟨S1x256x1536, .f32⟩
  | .local _ .vmem, ⟨1, _⟩ => ⟨S1x256x1536, .f32⟩
  | .local _ .vmem, ⟨2, _⟩ => ⟨S256x1536, .f32⟩
  | .local _ .vmem, ⟨3, _⟩ => ⟨S256x1536, .f32⟩
  | .local _ .vmem, ⟨4, _⟩ => ⟨S1x256x1536, .f32⟩
  | .local _ .vmem, ⟨5, _⟩ => ⟨S1x256x1536, .f32⟩
  | .local _ .vmem, ⟨6, _⟩ => ⟨S1x256x1536, .f32⟩
  | .local _ .vmem, ⟨7, _⟩ => ⟨S1x256x1536, .f32⟩
  | .local _ .vmem, ⟨8, _⟩ => ⟨S1x256x1536, .f32⟩
  | .local _ .vmem, ⟨9, _⟩ => ⟨S1x256x1536, .f32⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | .local _ .vmem, ⟨14, _⟩ => ⟨S1x256x1536, .f32⟩
  | .local _ .vmem, ⟨15, _⟩ => ⟨S1x256x1536, .f32⟩
  | _, _ => ⟨S1x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S1x2048x1536 : Shape := ⟨3, ![1, 2048, 1536]⟩
abbrev S2048x1536 : Shape := ⟨2, ![2048, 1536]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x2048x1536, .f32⟩
  | .hbm, ⟨1, _⟩ => ⟨S2048x1536, .f32⟩
  | .hbm, ⟨2, _⟩ => ⟨S1x2048x1536, .f32⟩
  | .hbm, ⟨3, _⟩ => ⟨S1x2048x1536, .f32⟩
  | .hbm, ⟨4, _⟩ => ⟨S1x2048x1536, .f32⟩
  | .hbm, ⟨5, _⟩ => ⟨S1x2048x1536, .f32⟩
  | .hbm, ⟨6, _⟩ => ⟨S_, .f32⟩
  | .hbm, ⟨7, _⟩ => ⟨S1x2048x1536, .f32⟩
  | .hbm, ⟨8, _⟩ => ⟨S1x2048x1536, .f32⟩
  | .hbm, ⟨9, _⟩ => ⟨S_, .f32⟩
  | .hbm, ⟨10, _⟩ => ⟨S1x2048x1536, .f32⟩
  | .hbm, ⟨11, _⟩ => ⟨S1x2048x1536, .f32⟩
  | .hbm, ⟨12, _⟩ => ⟨S1x2048x1536, .f32⟩
  | .hbm, ⟨13, _⟩ => ⟨S_, .f32⟩
  | .hbm, ⟨14, _⟩ => ⟨S1x2048x1536, .f32⟩
  | .hbm, ⟨15, _⟩ => ⟨S1x2048x1536, .f32⟩
  | .hbm, ⟨16, _⟩ => ⟨S1x2048x1536, .f32⟩
  | .hbm, ⟨17, _⟩ => ⟨S_, .f32⟩
  | .hbm, ⟨18, _⟩ => ⟨S1x2048x1536, .f32⟩
  | .hbm, ⟨19, _⟩ => ⟨S1x2048x1536, .f32⟩
  | .hbm, ⟨20, _⟩ => ⟨S1x2048x1536, .f32⟩
  | .hbm, ⟨21, _⟩ => ⟨S_, .f32⟩
  | .hbm, ⟨22, _⟩ => ⟨S1x2048x1536, .f32⟩
  | .hbm, ⟨23, _⟩ => ⟨S1x2048x1536, .f32⟩
  | .hbm, ⟨24, _⟩ => ⟨S_, .f32⟩
  | .hbm, ⟨25, _⟩ => ⟨S1x2048x1536, .f32⟩
  | .hbm, ⟨26, _⟩ => ⟨S1x2048x1536, .f32⟩
  | .hbm, ⟨27, _⟩ => ⟨S1x2048x1536, .f32⟩
  | .hbm, ⟨28, _⟩ => ⟨S_, .f32⟩
  | .hbm, ⟨29, _⟩ => ⟨S1x2048x1536, .f32⟩
  | .hbm, ⟨30, _⟩ => ⟨S1x2048x1536, .f32⟩
  | .hbm, ⟨31, _⟩ => ⟨S1x2048x1536, .f32⟩
  | .hbm, ⟨32, _⟩ => ⟨S_, .f32⟩
  | .hbm, ⟨33, _⟩ => ⟨S1x2048x1536, .f32⟩
  | .hbm, ⟨34, _⟩ => ⟨S1x2048x1536, .f32⟩
  | .hbm, ⟨35, _⟩ => ⟨S1x2048x1536, .f32⟩
  | .hbm, ⟨36, _⟩ => ⟨S_, .f32⟩
  | .hbm, ⟨37, _⟩ => ⟨S1x2048x1536, .f32⟩
  | .hbm, ⟨38, _⟩ => ⟨S1x2048x1536, .f32⟩
  | _, _ => ⟨S1x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel20.lean ====
abbrev S1x512x2048 : Shape := ⟨3, ![1, 512, 2048]⟩
abbrev S512x2048 : Shape := ⟨2, ![512, 2048]⟩
abbrev S1x256x2048 : Shape := ⟨3, ![1, 256, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1x512x2048, .f32⟩
  | .hbm, ⟨1, _⟩ => ⟨S512x2048, .f32⟩
  | .hbm, ⟨2, _⟩ => ⟨S1x512x2048, .f32⟩
  | .hbm, ⟨3, _⟩ => ⟨S1x512x2048, .f32⟩
  | .hbm, ⟨4, _⟩ => ⟨S1x512x2048, .f32⟩
  | .hbm, ⟨5, _⟩ => ⟨S1x512x2048, .f32⟩
  | .hbm, ⟨6, _⟩ => ⟨S1x512x2048, .f32⟩
  | .hbm, ⟨7, _⟩ => ⟨S1x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S256x2048, .f32⟩
  | .local _ .vmem, ⟨3, _⟩ => ⟨S256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S1x512x2048 : Shape := ⟨3, ![1, 512, 2048]⟩
abbrev S512x2048 : Shape := ⟨2, ![512, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x512x2048, .f32⟩
  | .hbm, ⟨1, _⟩ => ⟨S512x2048, .f32⟩
  | .hbm, ⟨2, _⟩ => ⟨S1x512x2048, .f32⟩
  | .hbm, ⟨3, _⟩ => ⟨S1x512x2048, .f32⟩
  | .hbm, ⟨4, _⟩ => ⟨S1x512x2048, .f32⟩
  | .hbm, ⟨5, _⟩ => ⟨S1x512x2048, .f32⟩
  | .hbm, ⟨6, _⟩ => ⟨S_, .f32⟩
  | .hbm, ⟨7, _⟩ => ⟨S1x512x2048, .f32⟩
  | .hbm, ⟨8, _⟩ => ⟨S1x512x2048, .f32⟩
  | .hbm, ⟨9, _⟩ => ⟨S_, .f32⟩
  | .hbm, ⟨10, _⟩ => ⟨S1x512x2048, .f32⟩
  | .hbm, ⟨11, _⟩ => ⟨S1x512x2048, .f32⟩
  | .hbm, ⟨12, _⟩ => ⟨S1x512x2048, .f32⟩
  | .hbm, ⟨13, _⟩ => ⟨S_, .f32⟩
  | .hbm, ⟨14, _⟩ => ⟨S1x512x2048, .f32⟩
  | .hbm, ⟨15, _⟩ => ⟨S1x512x2048, .f32⟩
  | .hbm, ⟨16, _⟩ => ⟨S1x512x2048, .f32⟩
  | .hbm, ⟨17, _⟩ => ⟨S_, .f32⟩
  | .hbm, ⟨18, _⟩ => ⟨S1x512x2048, .f32⟩
  | .hbm, ⟨19, _⟩ => ⟨S1x512x2048, .f32⟩
  | .hbm, ⟨20, _⟩ => ⟨S1x512x2048, .f32⟩
  | .hbm, ⟨21, _⟩ => ⟨S_, .f32⟩
  | .hbm, ⟨22, _⟩ => ⟨S1x512x2048, .f32⟩
  | .hbm, ⟨23, _⟩ => ⟨S1x512x2048, .f32⟩
  | .hbm, ⟨24, _⟩ => ⟨S_, .f32⟩
  | .hbm, ⟨25, _⟩ => ⟨S1x512x2048, .f32⟩
  | .hbm, ⟨26, _⟩ => ⟨S1x512x2048, .f32⟩
  | .hbm, ⟨27, _⟩ => ⟨S1x512x2048, .f32⟩
  | .hbm, ⟨28, _⟩ => ⟨S_, .f32⟩
  | .hbm, ⟨29, _⟩ => ⟨S1x512x2048, .f32⟩
  | .hbm, ⟨30, _⟩ => ⟨S1x512x2048, .f32⟩
  | .hbm, ⟨31, _⟩ => ⟨S1x512x2048, .f32⟩
  | .hbm, ⟨32, _⟩ => ⟨S_, .f32⟩
  | .hbm, ⟨33, _⟩ => ⟨S1x512x2048, .f32⟩
  | .hbm, ⟨34, _⟩ => ⟨S1x512x2048, .f32⟩
  | .hbm, ⟨35, _⟩ => ⟨S1x512x2048, .f32⟩
  | .hbm, ⟨36, _⟩ => ⟨S_, .f32⟩
  | .hbm, ⟨37, _⟩ => ⟨S1x512x2048, .f32⟩
  | .hbm, ⟨38, _⟩ => ⟨S1x512x2048, .f32⟩
  | _, _ => ⟨S1x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel21.lean ====
abbrev S1x2048x1024 : Shape := ⟨3, ![1, 2048, 1024]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x1024, .f32⟩
  | .hbm, ⟨1, _⟩ => ⟨S2048x1024, .f32⟩
  | .hbm, ⟨2, _⟩ => ⟨S1x2048x1024, .f32⟩
  | .hbm, ⟨3, _⟩ => ⟨S1x2048x1024, .f32⟩
  | .hbm, ⟨4, _⟩ => ⟨S1x2048x1024, .f32⟩
  | .hbm, ⟨5, _⟩ => ⟨S1x2048x1024, .f32⟩
  | .hbm, ⟨6, _⟩ => ⟨S1x2048x1024, .f32⟩
  | .hbm, ⟨7, _⟩ => ⟨S1x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S1x2048x1024 : Shape := ⟨3, ![1, 2048, 1024]⟩
abbrev S2048x1024 : Shape := ⟨2, ![2048, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S2048x1024, .f32⟩
  | .hbm, ⟨2, _⟩ => ⟨S1x2048x1024, .f32⟩
  | .hbm, ⟨3, _⟩ => ⟨S1x2048x1024, .f32⟩
  | .hbm, ⟨4, _⟩ => ⟨S1x2048x1024, .f32⟩
  | .hbm, ⟨5, _⟩ => ⟨S1x2048x1024, .f32⟩
  | .hbm, ⟨6, _⟩ => ⟨S_, .f32⟩
  | .hbm, ⟨7, _⟩ => ⟨S1x2048x1024, .f32⟩
  | .hbm, ⟨8, _⟩ => ⟨S1x2048x1024, .f32⟩
  | .hbm, ⟨9, _⟩ => ⟨S_, .f32⟩
  | .hbm, ⟨10, _⟩ => ⟨S1x2048x1024, .f32⟩
  | .hbm, ⟨11, _⟩ => ⟨S1x2048x1024, .f32⟩
  | .hbm, ⟨12, _⟩ => ⟨S1x2048x1024, .f32⟩
  | .hbm, ⟨13, _⟩ => ⟨S_, .f32⟩
  | .hbm, ⟨14, _⟩ => ⟨S1x2048x1024, .f32⟩
  | .hbm, ⟨15, _⟩ => ⟨S1x2048x1024, .f32⟩
  | .hbm, ⟨16, _⟩ => ⟨S1x2048x1024, .f32⟩
  | .hbm, ⟨17, _⟩ => ⟨S_, .f32⟩
  | .hbm, ⟨18, _⟩ => ⟨S1x2048x1024, .f32⟩
  | .hbm, ⟨19, _⟩ => ⟨S1x2048x1024, .f32⟩
  | .hbm, ⟨20, _⟩ => ⟨S1x2048x1024, .f32⟩
  | .hbm, ⟨21, _⟩ => ⟨S_, .f32⟩
  | .hbm, ⟨22, _⟩ => ⟨S1x2048x1024, .f32⟩
  | .hbm, ⟨23, _⟩ => ⟨S1x2048x1024, .f32⟩
  | .hbm, ⟨24, _⟩ => ⟨S_, .f32⟩
  | .hbm, ⟨25, _⟩ => ⟨S1x2048x1024, .f32⟩
  | .hbm, ⟨26, _⟩ => ⟨S1x2048x1024, .f32⟩
  | .hbm, ⟨27, _⟩ => ⟨S1x2048x1024, .f32⟩
  | .hbm, ⟨28, _⟩ => ⟨S_, .f32⟩
  | .hbm, ⟨29, _⟩ => ⟨S1x2048x1024, .f32⟩
  | .hbm, ⟨30, _⟩ => ⟨S1x2048x1024, .f32⟩
  | .hbm, ⟨31, _⟩ => ⟨S1x2048x1024, .f32⟩
  | .hbm, ⟨32, _⟩ => ⟨S_, .f32⟩
  | .hbm, ⟨33, _⟩ => ⟨S1x2048x1024, .f32⟩
  | .hbm, ⟨34, _⟩ => ⟨S1x2048x1024, .f32⟩
  | .hbm, ⟨35, _⟩ => ⟨S1x2048x1024, .f32⟩
  | .hbm, ⟨36, _⟩ => ⟨S_, .f32⟩
  | .hbm, ⟨37, _⟩ => ⟨S1x2048x1024, .f32⟩
  | .hbm, ⟨38, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel22.lean ====
abbrev S1x1x2048 : Shape := ⟨3, ![1, 1, 2048]⟩
abbrev S1x2048 : Shape := ⟨2, ![1, 2048]⟩

abbrev nBuf : Space → Nat
  | .hbm => 8
  | .vmem => 8
  | .smem => 0
  | _ => 0

abbrev bufTy : (tb : Table) → Fin (tcTables nBuf tb) → BufTy
  | .hbm, ⟨0, _⟩ => ⟨S1x1x2048, .f32⟩
  | .hbm, ⟨1, _⟩ => ⟨S1x2048, .f32⟩
  | .hbm, ⟨2, _⟩ => ⟨S1x1x2048, .f32⟩
  | .hbm, ⟨3, _⟩ => ⟨S1x1x2048, .f32⟩
  | .hbm, ⟨4, _⟩ => ⟨S1x1x2048, .f32⟩
  | .hbm, ⟨5, _⟩ => ⟨S1x1x2048, .f32⟩
  | .hbm, ⟨6, _⟩ => ⟨S1x1x2048, .f32⟩
  | .hbm, ⟨7, _⟩ => ⟨S1x1x2048, .f32⟩
  | .local _ .vmem, ⟨0, _⟩ => ⟨S1x1x2048, .f32⟩
  | .local _ .vmem, ⟨1, _⟩ => ⟨S1x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | _, _ => ⟨S1x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference22Ideal.lean ====
abbrev S1x1x2048 : Shape := ⟨3, ![1, 1, 2048]⟩
abbrev S1x2048 : Shape := ⟨2, ![1, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1x2048, .f32⟩
  | .hbm, ⟨1, _⟩ => ⟨S1x2048, .f32⟩
  | .hbm, ⟨2, _⟩ => ⟨S1x1x2048, .f32⟩
  | .hbm, ⟨3, _⟩ => ⟨S1x1x2048, .f32⟩
  | .hbm, ⟨4, _⟩ => ⟨S1x1x2048, .f32⟩
  | .hbm, ⟨5, _⟩ => ⟨S1x1x2048, .f32⟩
  | .hbm, ⟨6, _⟩ => ⟨S_, .f32⟩
  | .hbm, ⟨7, _⟩ => ⟨S1x1x2048, .f32⟩
  | .hbm, ⟨8, _⟩ => ⟨S1x1x2048, .f32⟩
  | .hbm, ⟨9, _⟩ => ⟨S_, .f32⟩
  | .hbm, ⟨10, _⟩ => ⟨S1x1x2048, .f32⟩
  | .hbm, ⟨11, _⟩ => ⟨S1x1x2048, .f32⟩
  | .hbm, ⟨12, _⟩ => ⟨S1x1x2048, .f32⟩
  | .hbm, ⟨13, _⟩ => ⟨S_, .f32⟩
  | .hbm, ⟨14, _⟩ => ⟨S1x1x2048, .f32⟩
  | .hbm, ⟨15, _⟩ => ⟨S1x1x2048, .f32⟩
  | .hbm, ⟨16, _⟩ => ⟨S1x1x2048, .f32⟩
  | .hbm, ⟨17, _⟩ => ⟨S_, .f32⟩
  | .hbm, ⟨18, _⟩ => ⟨S1x1x2048, .f32⟩
  | .hbm, ⟨19, _⟩ => ⟨S1x1x2048, .f32⟩
  | .hbm, ⟨20, _⟩ => ⟨S1x1x2048, .f32⟩
  | .hbm, ⟨21, _⟩ => ⟨S_, .f32⟩
  | .hbm, ⟨22, _⟩ => ⟨S1x1x2048, .f32⟩
  | .hbm, ⟨23, _⟩ => ⟨S1x1x2048, .f32⟩
  | .hbm, ⟨24, _⟩ => ⟨S_, .f32⟩
  | .hbm, ⟨25, _⟩ => ⟨S1x1x2048, .f32⟩
  | .hbm, ⟨26, _⟩ => ⟨S1x1x2048, .f32⟩
  | .hbm, ⟨27, _⟩ => ⟨S1x1x2048, .f32⟩
  | .hbm, ⟨28, _⟩ => ⟨S_, .f32⟩
  | .hbm, ⟨29, _⟩ => ⟨S1x1x2048, .f32⟩
  | .hbm, ⟨30, _⟩ => ⟨S1x1x2048, .f32⟩
  | .hbm, ⟨31, _⟩ => ⟨S1x1x2048, .f32⟩
  | .hbm, ⟨32, _⟩ => ⟨S_, .f32⟩
  | .hbm, ⟨33, _⟩ => ⟨S1x1x2048, .f32⟩
  | .hbm, ⟨34, _⟩ => ⟨S1x1x2048, .f32⟩
  | .hbm, ⟨35, _⟩ => ⟨S1x1x2048, .f32⟩
  | .hbm, ⟨36, _⟩ => ⟨S_, .f32⟩
  | .hbm, ⟨37, _⟩ => ⟨S1x1x2048, .f32⟩
  | .hbm, ⟨38, _⟩ => ⟨S1x1x2048, .f32⟩
  | _, _ => ⟨S1x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel23.lean ====
abbrev S1x3x512 : Shape := ⟨3, ![1, 3, 512]⟩
abbrev S3x512 : Shape := ⟨2, ![3, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x3x512, .f32⟩
  | .hbm, ⟨1, _⟩ => ⟨S3x512, .f32⟩
  | .hbm, ⟨2, _⟩ => ⟨S1x3x512, .f32⟩
  | .hbm, ⟨3, _⟩ => ⟨S1x3x512, .f32⟩
  | .hbm, ⟨4, _⟩ => ⟨S1x3x512, .f32⟩
  | .hbm, ⟨5, _⟩ => ⟨S1x3x512, .f32⟩
  | .hbm, ⟨6, _⟩ => ⟨S1x3x512, .f32⟩
  | .hbm, ⟨7, _⟩ => ⟨S1x3x512, .f32⟩
  | .local _ .vmem, ⟨0, _⟩ => ⟨S1x3x512, .f32⟩
  | .local _ .vmem, ⟨1, _⟩ => ⟨S3x512, .f32⟩
  | .local _ .vmem, ⟨2, _⟩ => ⟨S1x3x512, .f32⟩
  | .local _ .vmem, ⟨3, _⟩ => ⟨S1x3x512, .f32⟩
  | .local _ .vmem, ⟨4, _⟩ => ⟨S1x3x512, .f32⟩
  | .local _ .vmem, ⟨5, _⟩ => ⟨S1x3x512, .f32⟩
  | .local _ .vmem, ⟨6, _⟩ => ⟨S1x3x512, .f32⟩
  | .local _ .vmem, ⟨7, _⟩ => ⟨S1x3x512, .f32⟩
  | _, _ => ⟨S1x3x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x3x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x3x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference23Ideal.lean ====
abbrev S1x3x512 : Shape := ⟨3, ![1, 3, 512]⟩
abbrev S3x512 : Shape := ⟨2, ![3, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x3x512, .f32⟩
  | .hbm, ⟨1, _⟩ => ⟨S3x512, .f32⟩
  | .hbm, ⟨2, _⟩ => ⟨S1x3x512, .f32⟩
  | .hbm, ⟨3, _⟩ => ⟨S1x3x512, .f32⟩
  | .hbm, ⟨4, _⟩ => ⟨S1x3x512, .f32⟩
  | .hbm, ⟨5, _⟩ => ⟨S1x3x512, .f32⟩
  | .hbm, ⟨6, _⟩ => ⟨S_, .f32⟩
  | .hbm, ⟨7, _⟩ => ⟨S1x3x512, .f32⟩
  | .hbm, ⟨8, _⟩ => ⟨S1x3x512, .f32⟩
  | .hbm, ⟨9, _⟩ => ⟨S_, .f32⟩
  | .hbm, ⟨10, _⟩ => ⟨S1x3x512, .f32⟩
  | .hbm, ⟨11, _⟩ => ⟨S1x3x512, .f32⟩
  | .hbm, ⟨12, _⟩ => ⟨S1x3x512, .f32⟩
  | .hbm, ⟨13, _⟩ => ⟨S_, .f32⟩
  | .hbm, ⟨14, _⟩ => ⟨S1x3x512, .f32⟩
  | .hbm, ⟨15, _⟩ => ⟨S1x3x512, .f32⟩
  | .hbm, ⟨16, _⟩ => ⟨S1x3x512, .f32⟩
  | .hbm, ⟨17, _⟩ => ⟨S_, .f32⟩
  | .hbm, ⟨18, _⟩ => ⟨S1x3x512, .f32⟩
  | .hbm, ⟨19, _⟩ => ⟨S1x3x512, .f32⟩
  | .hbm, ⟨20, _⟩ => ⟨S1x3x512, .f32⟩
  | .hbm, ⟨21, _⟩ => ⟨S_, .f32⟩
  | .hbm, ⟨22, _⟩ => ⟨S1x3x512, .f32⟩
  | .hbm, ⟨23, _⟩ => ⟨S1x3x512, .f32⟩
  | .hbm, ⟨24, _⟩ => ⟨S_, .f32⟩
  | .hbm, ⟨25, _⟩ => ⟨S1x3x512, .f32⟩
  | .hbm, ⟨26, _⟩ => ⟨S1x3x512, .f32⟩
  | .hbm, ⟨27, _⟩ => ⟨S1x3x512, .f32⟩
  | .hbm, ⟨28, _⟩ => ⟨S_, .f32⟩
  | .hbm, ⟨29, _⟩ => ⟨S1x3x512, .f32⟩
  | .hbm, ⟨30, _⟩ => ⟨S1x3x512, .f32⟩
  | .hbm, ⟨31, _⟩ => ⟨S1x3x512, .f32⟩
  | .hbm, ⟨32, _⟩ => ⟨S_, .f32⟩
  | .hbm, ⟨33, _⟩ => ⟨S1x3x512, .f32⟩
  | .hbm, ⟨34, _⟩ => ⟨S1x3x512, .f32⟩
  | .hbm, ⟨35, _⟩ => ⟨S1x3x512, .f32⟩
  | .hbm, ⟨36, _⟩ => ⟨S_, .f32⟩
  | .hbm, ⟨37, _⟩ => ⟨S1x3x512, .f32⟩
  | .hbm, ⟨38, _⟩ => ⟨S1x3x512, .f32⟩
  | _, _ => ⟨S1x3x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel24.lean ====
abbrev S1x1x512 : Shape := ⟨3, ![1, 1, 512]⟩
abbrev S1x512 : Shape := ⟨2, ![1, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x1x512, .f32⟩
  | .hbm, ⟨1, _⟩ => ⟨S1x512, .f32⟩
  | .hbm, ⟨2, _⟩ => ⟨S1x1x512, .f32⟩
  | .hbm, ⟨3, _⟩ => ⟨S1x1x512, .f32⟩
  | .hbm, ⟨4, _⟩ => ⟨S1x1x512, .f32⟩
  | .hbm, ⟨5, _⟩ => ⟨S1x1x512, .f32⟩
  | .hbm, ⟨6, _⟩ => ⟨S1x1x512, .f32⟩
  | .hbm, ⟨7, _⟩ => ⟨S1x1x512, .f32⟩
  | .local _ .vmem, ⟨0, _⟩ => ⟨S1x1x512, .f32⟩
  | .local _ .vmem, ⟨1, _⟩ => ⟨S1x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | .local _ .vmem, ⟨7, _⟩ => ⟨S1x1x512, .f32⟩
  | _, _ => ⟨S1x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference24Ideal.lean ====
abbrev S1x1x512 : Shape := ⟨3, ![1, 1, 512]⟩
abbrev S1x512 : Shape := ⟨2, ![1, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1x512, .f32⟩
  | .hbm, ⟨1, _⟩ => ⟨S1x512, .f32⟩
  | .hbm, ⟨2, _⟩ => ⟨S1x1x512, .f32⟩
  | .hbm, ⟨3, _⟩ => ⟨S1x1x512, .f32⟩
  | .hbm, ⟨4, _⟩ => ⟨S1x1x512, .f32⟩
  | .hbm, ⟨5, _⟩ => ⟨S1x1x512, .f32⟩
  | .hbm, ⟨6, _⟩ => ⟨S_, .f32⟩
  | .hbm, ⟨7, _⟩ => ⟨S1x1x512, .f32⟩
  | .hbm, ⟨8, _⟩ => ⟨S1x1x512, .f32⟩
  | .hbm, ⟨9, _⟩ => ⟨S_, .f32⟩
  | .hbm, ⟨10, _⟩ => ⟨S1x1x512, .f32⟩
  | .hbm, ⟨11, _⟩ => ⟨S1x1x512, .f32⟩
  | .hbm, ⟨12, _⟩ => ⟨S1x1x512, .f32⟩
  | .hbm, ⟨13, _⟩ => ⟨S_, .f32⟩
  | .hbm, ⟨14, _⟩ => ⟨S1x1x512, .f32⟩
  | .hbm, ⟨15, _⟩ => ⟨S1x1x512, .f32⟩
  | .hbm, ⟨16, _⟩ => ⟨S1x1x512, .f32⟩
  | .hbm, ⟨17, _⟩ => ⟨S_, .f32⟩
  | .hbm, ⟨18, _⟩ => ⟨S1x1x512, .f32⟩
  | .hbm, ⟨19, _⟩ => ⟨S1x1x512, .f32⟩
  | .hbm, ⟨20, _⟩ => ⟨S1x1x512, .f32⟩
  | .hbm, ⟨21, _⟩ => ⟨S_, .f32⟩
  | .hbm, ⟨22, _⟩ => ⟨S1x1x512, .f32⟩
  | .hbm, ⟨23, _⟩ => ⟨S1x1x512, .f32⟩
  | .hbm, ⟨24, _⟩ => ⟨S_, .f32⟩
  | .hbm, ⟨25, _⟩ => ⟨S1x1x512, .f32⟩
  | .hbm, ⟨26, _⟩ => ⟨S1x1x512, .f32⟩
  | .hbm, ⟨27, _⟩ => ⟨S1x1x512, .f32⟩
  | .hbm, ⟨28, _⟩ => ⟨S_, .f32⟩
  | .hbm, ⟨29, _⟩ => ⟨S1x1x512, .f32⟩
  | .hbm, ⟨30, _⟩ => ⟨S1x1x512, .f32⟩
  | .hbm, ⟨31, _⟩ => ⟨S1x1x512, .f32⟩
  | .hbm, ⟨32, _⟩ => ⟨S_, .f32⟩
  | .hbm, ⟨33, _⟩ => ⟨S1x1x512, .f32⟩
  | .hbm, ⟨34, _⟩ => ⟨S1x1x512, .f32⟩
  | .hbm, ⟨35, _⟩ => ⟨S1x1x512, .f32⟩
  | .hbm, ⟨36, _⟩ => ⟨S_, .f32⟩
  | .hbm, ⟨37, _⟩ => ⟨S1x1x512, .f32⟩
  | .hbm, ⟨38, _⟩ => ⟨S1x1x512, .f32⟩
  | _, _ => ⟨S1x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel25.lean ====
abbrev S1x2x2048 : Shape := ⟨3, ![1, 2, 2048]⟩
abbrev S2x2048 : Shape := ⟨2, ![2, 2048]⟩

abbrev nBuf : Space → Nat
  | .hbm => 8
  | .vmem => 8
  | .smem => 0
  | _ => 0

abbrev bufTy : (tb : Table) → Fin (tcTables nBuf tb) → BufTy
  | .hbm, ⟨0, _⟩ => ⟨S1x2x2048, .f32⟩
  | .hbm, ⟨1, _⟩ => ⟨S2x2048, .f32⟩
  | .hbm, ⟨2, _⟩ => ⟨S1x2x2048, .f32⟩
  | .hbm, ⟨3, _⟩ => ⟨S1x2x2048, .f32⟩
  | .hbm, ⟨4, _⟩ => ⟨S1x2x2048, .f32⟩
  | .hbm, ⟨5, _⟩ => ⟨S1x2x2048, .f32⟩
  | .hbm, ⟨6, _⟩ => ⟨S1x2x2048, .f32⟩
  | .hbm, ⟨7, _⟩ => ⟨S1x2x2048, .f32⟩
  | .local _ .vmem, ⟨0, _⟩ => ⟨S1x2x2048, .f32⟩
  | .local _ .vmem, ⟨1, _⟩ => ⟨S2x2048, .f32⟩
  | .local _ .vmem, ⟨2, _⟩ => ⟨S1x2x2048, .f32⟩
  | .local _ .vmem, ⟨3, _⟩ => ⟨S1x2x2048, .f32⟩
  | .local _ .vmem, ⟨4, _⟩ => ⟨S1x2x2048, .f32⟩
  | .local _ .vmem, ⟨5, _⟩ => ⟨S1x2x2048, .f32⟩
  | .local _ .vmem, ⟨6, _⟩ => ⟨S1x2x2048, .f32⟩
  | .local _ .vmem, ⟨7, _⟩ => ⟨S1x2x2048, .f32⟩
  | _, _ => ⟨S1x2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference25Ideal.lean ====
abbrev S1x2x2048 : Shape := ⟨3, ![1, 2, 2048]⟩
abbrev S2x2048 : Shape := ⟨2, ![2, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x2x2048, .f32⟩
  | .hbm, ⟨1, _⟩ => ⟨S2x2048, .f32⟩
  | .hbm, ⟨2, _⟩ => ⟨S1x2x2048, .f32⟩
  | .hbm, ⟨3, _⟩ => ⟨S1x2x2048, .f32⟩
  | .hbm, ⟨4, _⟩ => ⟨S1x2x2048, .f32⟩
  | .hbm, ⟨5, _⟩ => ⟨S1x2x2048, .f32⟩
  | .hbm, ⟨6, _⟩ => ⟨S_, .f32⟩
  | .hbm, ⟨7, _⟩ => ⟨S1x2x2048, .f32⟩
  | .hbm, ⟨8, _⟩ => ⟨S1x2x2048, .f32⟩
  | .hbm, ⟨9, _⟩ => ⟨S_, .f32⟩
  | .hbm, ⟨10, _⟩ => ⟨S1x2x2048, .f32⟩
  | .hbm, ⟨11, _⟩ => ⟨S1x2x2048, .f32⟩
  | .hbm, ⟨12, _⟩ => ⟨S1x2x2048, .f32⟩
  | .hbm, ⟨13, _⟩ => ⟨S_, .f32⟩
  | .hbm, ⟨14, _⟩ => ⟨S1x2x2048, .f32⟩
  | .hbm, ⟨15, _⟩ => ⟨S1x2x2048, .f32⟩
  | .hbm, ⟨16, _⟩ => ⟨S1x2x2048, .f32⟩
  | .hbm, ⟨17, _⟩ => ⟨S_, .f32⟩
  | .hbm, ⟨18, _⟩ => ⟨S1x2x2048, .f32⟩
  | .hbm, ⟨19, _⟩ => ⟨S1x2x2048, .f32⟩
  | .hbm, ⟨20, _⟩ => ⟨S1x2x2048, .f32⟩
  | .hbm, ⟨21, _⟩ => ⟨S_, .f32⟩
  | .hbm, ⟨22, _⟩ => ⟨S1x2x2048, .f32⟩
  | .hbm, ⟨23, _⟩ => ⟨S1x2x2048, .f32⟩
  | .hbm, ⟨24, _⟩ => ⟨S_, .f32⟩
  | .hbm, ⟨25, _⟩ => ⟨S1x2x2048, .f32⟩
  | .hbm, ⟨26, _⟩ => ⟨S1x2x2048, .f32⟩
  | .hbm, ⟨27, _⟩ => ⟨S1x2x2048, .f32⟩
  | .hbm, ⟨28, _⟩ => ⟨S_, .f32⟩
  | .hbm, ⟨29, _⟩ => ⟨S1x2x2048, .f32⟩
  | .hbm, ⟨30, _⟩ => ⟨S1x2x2048, .f32⟩
  | .hbm, ⟨31, _⟩ => ⟨S1x2x2048, .f32⟩
  | .hbm, ⟨32, _⟩ => ⟨S_, .f32⟩
  | .hbm, ⟨33, _⟩ => ⟨S1x2x2048, .f32⟩
  | .hbm, ⟨34, _⟩ => ⟨S1x2x2048, .f32⟩
  | .hbm, ⟨35, _⟩ => ⟨S1x2x2048, .f32⟩
  | .hbm, ⟨36, _⟩ => ⟨S_, .f32⟩
  | .hbm, ⟨37, _⟩ => ⟨S1x2x2048, .f32⟩
  | .hbm, ⟨38, _⟩ => ⟨S1x2x2048, .f32⟩
  | _, _ => ⟨S1x2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel26.lean ====
abbrev S1x1024x128 : Shape := ⟨3, ![1, 1024, 128]⟩
abbrev S1024x128 : Shape := ⟨2, ![1024, 128]⟩
abbrev S1x256x128 : Shape := ⟨3, ![1, 256, 128]⟩
abbrev S256x128 : Shape := ⟨2, ![256, 128]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x128, .f32⟩
  | .hbm, ⟨1, _⟩ => ⟨S1024x128, .f32⟩
  | .hbm, ⟨2, _⟩ => ⟨S1x1024x128, .f32⟩
  | .hbm, ⟨3, _⟩ => ⟨S1x1024x128, .f32⟩
  | .hbm, ⟨4, _⟩ => ⟨S1x1024x128, .f32⟩
  | .hbm, ⟨5, _⟩ => ⟨S1x1024x128, .f32⟩
  | .hbm, ⟨6, _⟩ => ⟨S1x1024x128, .f32⟩
  | .hbm, ⟨7, _⟩ => ⟨S1x1024x128, .f32⟩
  | .local _ .vmem, ⟨0, _⟩ => ⟨S1x256x128, .f32⟩
  | .local _ .vmem, ⟨1, _⟩ => ⟨S1x256x128, .f32⟩
  | .local _ .vmem, ⟨2, _⟩ => ⟨S256x128, .f32⟩
  | .local _ .vmem, ⟨3, _⟩ => ⟨S256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | _, _ => ⟨S1x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference26Ideal.lean ====
abbrev S1x1024x128 : Shape := ⟨3, ![1, 1024, 128]⟩
abbrev S1024x128 : Shape := ⟨2, ![1024, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024x128, .f32⟩
  | .hbm, ⟨1, _⟩ => ⟨S1024x128, .f32⟩
  | .hbm, ⟨2, _⟩ => ⟨S1x1024x128, .f32⟩
  | .hbm, ⟨3, _⟩ => ⟨S1x1024x128, .f32⟩
  | .hbm, ⟨4, _⟩ => ⟨S1x1024x128, .f32⟩
  | .hbm, ⟨5, _⟩ => ⟨S1x1024x128, .f32⟩
  | .hbm, ⟨6, _⟩ => ⟨S_, .f32⟩
  | .hbm, ⟨7, _⟩ => ⟨S1x1024x128, .f32⟩
  | .hbm, ⟨8, _⟩ => ⟨S1x1024x128, .f32⟩
  | .hbm, ⟨9, _⟩ => ⟨S_, .f32⟩
  | .hbm, ⟨10, _⟩ => ⟨S1x1024x128, .f32⟩
  | .hbm, ⟨11, _⟩ => ⟨S1x1024x128, .f32⟩
  | .hbm, ⟨12, _⟩ => ⟨S1x1024x128, .f32⟩
  | .hbm, ⟨13, _⟩ => ⟨S_, .f32⟩
  | .hbm, ⟨14, _⟩ => ⟨S1x1024x128, .f32⟩
  | .hbm, ⟨15, _⟩ => ⟨S1x1024x128, .f32⟩
  | .hbm, ⟨16, _⟩ => ⟨S1x1024x128, .f32⟩
  | .hbm, ⟨17, _⟩ => ⟨S_, .f32⟩
  | .hbm, ⟨18, _⟩ => ⟨S1x1024x128, .f32⟩
  | .hbm, ⟨19, _⟩ => ⟨S1x1024x128, .f32⟩
  | .hbm, ⟨20, _⟩ => ⟨S1x1024x128, .f32⟩
  | .hbm, ⟨21, _⟩ => ⟨S_, .f32⟩
  | .hbm, ⟨22, _⟩ => ⟨S1x1024x128, .f32⟩
  | .hbm, ⟨23, _⟩ => ⟨S1x1024x128, .f32⟩
  | .hbm, ⟨24, _⟩ => ⟨S_, .f32⟩
  | .hbm, ⟨25, _⟩ => ⟨S1x1024x128, .f32⟩
  | .hbm, ⟨26, _⟩ => ⟨S1x1024x128, .f32⟩
  | .hbm, ⟨27, _⟩ => ⟨S1x1024x128, .f32⟩
  | .hbm, ⟨28, _⟩ => ⟨S_, .f32⟩
  | .hbm, ⟨29, _⟩ => ⟨S1x1024x128, .f32⟩
  | .hbm, ⟨30, _⟩ => ⟨S1x1024x128, .f32⟩
  | .hbm, ⟨31, _⟩ => ⟨S1x1024x128, .f32⟩
  | .hbm, ⟨32, _⟩ => ⟨S_, .f32⟩
  | .hbm, ⟨33, _⟩ => ⟨S1x1024x128, .f32⟩
  | .hbm, ⟨34, _⟩ => ⟨S1x1024x128, .f32⟩
  | .hbm, ⟨35, _⟩ => ⟨S1x1024x128, .f32⟩
  | .hbm, ⟨36, _⟩ => ⟨S_, .f32⟩
  | .hbm, ⟨37, _⟩ => ⟨S1x1024x128, .f32⟩
  | .hbm, ⟨38, _⟩ => ⟨S1x1024x128, .f32⟩
  | _, _ => ⟨S1x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel27.lean ====
abbrev S1x8x128 : Shape := ⟨3, ![1, 8, 128]⟩
abbrev S8x128 : Shape := ⟨2, ![8, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x8x128, .f32⟩
  | .hbm, ⟨1, _⟩ => ⟨S8x128, .f32⟩
  | .hbm, ⟨2, _⟩ => ⟨S1x8x128, .f32⟩
  | .hbm, ⟨3, _⟩ => ⟨S1x8x128, .f32⟩
  | .hbm, ⟨4, _⟩ => ⟨S1x8x128, .f32⟩
  | .hbm, ⟨5, _⟩ => ⟨S1x8x128, .f32⟩
  | .hbm, ⟨6, _⟩ => ⟨S1x8x128, .f32⟩
  | .hbm, ⟨7, _⟩ => ⟨S1x8x128, .f32⟩
  | .local _ .vmem, ⟨0, _⟩ => ⟨S1x8x128, .f32⟩
  | .local _ .vmem, ⟨1, _⟩ => ⟨S8x128, .f32⟩
  | .local _ .vmem, ⟨2, _⟩ => ⟨S1x8x128, .f32⟩
  | .local _ .vmem, ⟨3, _⟩ => ⟨S1x8x128, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | _, _ => ⟨S1x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference27Ideal.lean ====
abbrev S1x8x128 : Shape := ⟨3, ![1, 8, 128]⟩
abbrev S8x128 : Shape := ⟨2, ![8, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x8x128, .f32⟩
  | .hbm, ⟨1, _⟩ => ⟨S8x128, .f32⟩
  | .hbm, ⟨2, _⟩ => ⟨S1x8x128, .f32⟩
  | .hbm, ⟨3, _⟩ => ⟨S1x8x128, .f32⟩
  | .hbm, ⟨4, _⟩ => ⟨S1x8x128, .f32⟩
  | .hbm, ⟨5, _⟩ => ⟨S1x8x128, .f32⟩
  | .hbm, ⟨6, _⟩ => ⟨S_, .f32⟩
  | .hbm, ⟨7, _⟩ => ⟨S1x8x128, .f32⟩
  | .hbm, ⟨8, _⟩ => ⟨S1x8x128, .f32⟩
  | .hbm, ⟨9, _⟩ => ⟨S_, .f32⟩
  | .hbm, ⟨10, _⟩ => ⟨S1x8x128, .f32⟩
  | .hbm, ⟨11, _⟩ => ⟨S1x8x128, .f32⟩
  | .hbm, ⟨12, _⟩ => ⟨S1x8x128, .f32⟩
  | .hbm, ⟨13, _⟩ => ⟨S_, .f32⟩
  | .hbm, ⟨14, _⟩ => ⟨S1x8x128, .f32⟩
  | .hbm, ⟨15, _⟩ => ⟨S1x8x128, .f32⟩
  | .hbm, ⟨16, _⟩ => ⟨S1x8x128, .f32⟩
  | .hbm, ⟨17, _⟩ => ⟨S_, .f32⟩
  | .hbm, ⟨18, _⟩ => ⟨S1x8x128, .f32⟩
  | .hbm, ⟨19, _⟩ => ⟨S1x8x128, .f32⟩
  | .hbm, ⟨20, _⟩ => ⟨S1x8x128, .f32⟩
  | .hbm, ⟨21, _⟩ => ⟨S_, .f32⟩
  | .hbm, ⟨22, _⟩ => ⟨S1x8x128, .f32⟩
  | .hbm, ⟨23, _⟩ => ⟨S1x8x128, .f32⟩
  | .hbm, ⟨24, _⟩ => ⟨S_, .f32⟩
  | .hbm, ⟨25, _⟩ => ⟨S1x8x128, .f32⟩
  | .hbm, ⟨26, _⟩ => ⟨S1x8x128, .f32⟩
  | .hbm, ⟨27, _⟩ => ⟨S1x8x128, .f32⟩
  | .hbm, ⟨28, _⟩ => ⟨S_, .f32⟩
  | .hbm, ⟨29, _⟩ => ⟨S1x8x128, .f32⟩
  | .hbm, ⟨30, _⟩ => ⟨S1x8x128, .f32⟩
  | .hbm, ⟨31, _⟩ => ⟨S1x8x128, .f32⟩
  | .hbm, ⟨32, _⟩ => ⟨S_, .f32⟩
  | .hbm, ⟨33, _⟩ => ⟨S1x8x128, .f32⟩
  | .hbm, ⟨34, _⟩ => ⟨S1x8x128, .f32⟩
  | .hbm, ⟨35, _⟩ => ⟨S1x8x128, .f32⟩
  | .hbm, ⟨36, _⟩ => ⟨S_, .f32⟩
  | .hbm, ⟨37, _⟩ => ⟨S1x8x128, .f32⟩
  | .hbm, ⟨38, _⟩ => ⟨S1x8x128, .f32⟩
  | _, _ => ⟨S1x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel28.lean ====
abbrev S1x6x2816 : Shape := ⟨3, ![1, 6, 2816]⟩
abbrev S6x2816 : Shape := ⟨2, ![6, 2816]⟩

abbrev nBuf : Space → Nat
  | .hbm => 8
  | .vmem => 8
  | .smem => 0
  | _ => 0

abbrev bufTy : (tb : Table) → Fin (tcTables nBuf tb) → BufTy
  | .hbm, ⟨0, _⟩ => ⟨S1x6x2816, .f32⟩
  | .hbm, ⟨1, _⟩ => ⟨S6x2816, .f32⟩
  | .hbm, ⟨2, _⟩ => ⟨S1x6x2816, .f32⟩
  | .hbm, ⟨3, _⟩ => ⟨S1x6x2816, .f32⟩
  | .hbm, ⟨4, _⟩ => ⟨S1x6x2816, .f32⟩
  | .hbm, ⟨5, _⟩ => ⟨S1x6x2816, .f32⟩
  | .hbm, ⟨6, _⟩ => ⟨S1x6x2816, .f32⟩
  | .hbm, ⟨7, _⟩ => ⟨S1x6x2816, .f32⟩
  | .local _ .vmem, ⟨0, _⟩ => ⟨S1x6x2816, .f32⟩
  | .local _ .vmem, ⟨1, _⟩ => ⟨S6x2816, .f32⟩
  | .local _ .vmem, ⟨2, _⟩ => ⟨S1x6x2816, .f32⟩
  | .local _ .vmem, ⟨3, _⟩ => ⟨S1x6x2816, .f32⟩
  | .local _ .vmem, ⟨4, _⟩ => ⟨S1x6x2816, .f32⟩
  | .local _ .vmem, ⟨5, _⟩ => ⟨S1x6x2816, .f32⟩
  | .local _ .vmem, ⟨6, _⟩ => ⟨S1x6x2816, .f32⟩
  | .local _ .vmem, ⟨7, _⟩ => ⟨S1x6x2816, .f32⟩
  | _, _ => ⟨S1x6x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x6x2816 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x6x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x6x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x6x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x6x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x6x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x6x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference28Ideal.lean ====
abbrev S1x6x2816 : Shape := ⟨3, ![1, 6, 2816]⟩
abbrev S6x2816 : Shape := ⟨2, ![6, 2816]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x6x2816, .f32⟩
  | .hbm, ⟨1, _⟩ => ⟨S6x2816, .f32⟩
  | .hbm, ⟨2, _⟩ => ⟨S1x6x2816, .f32⟩
  | .hbm, ⟨3, _⟩ => ⟨S1x6x2816, .f32⟩
  | .hbm, ⟨4, _⟩ => ⟨S1x6x2816, .f32⟩
  | .hbm, ⟨5, _⟩ => ⟨S1x6x2816, .f32⟩
  | .hbm, ⟨6, _⟩ => ⟨S_, .f32⟩
  | .hbm, ⟨7, _⟩ => ⟨S1x6x2816, .f32⟩
  | .hbm, ⟨8, _⟩ => ⟨S1x6x2816, .f32⟩
  | .hbm, ⟨9, _⟩ => ⟨S_, .f32⟩
  | .hbm, ⟨10, _⟩ => ⟨S1x6x2816, .f32⟩
  | .hbm, ⟨11, _⟩ => ⟨S1x6x2816, .f32⟩
  | .hbm, ⟨12, _⟩ => ⟨S1x6x2816, .f32⟩
  | .hbm, ⟨13, _⟩ => ⟨S_, .f32⟩
  | .hbm, ⟨14, _⟩ => ⟨S1x6x2816, .f32⟩
  | .hbm, ⟨15, _⟩ => ⟨S1x6x2816, .f32⟩
  | .hbm, ⟨16, _⟩ => ⟨S1x6x2816, .f32⟩
  | .hbm, ⟨17, _⟩ => ⟨S_, .f32⟩
  | .hbm, ⟨18, _⟩ => ⟨S1x6x2816, .f32⟩
  | .hbm, ⟨19, _⟩ => ⟨S1x6x2816, .f32⟩
  | .hbm, ⟨20, _⟩ => ⟨S1x6x2816, .f32⟩
  | .hbm, ⟨21, _⟩ => ⟨S_, .f32⟩
  | .hbm, ⟨22, _⟩ => ⟨S1x6x2816, .f32⟩
  | .hbm, ⟨23, _⟩ => ⟨S1x6x2816, .f32⟩
  | .hbm, ⟨24, _⟩ => ⟨S_, .f32⟩
  | .hbm, ⟨25, _⟩ => ⟨S1x6x2816, .f32⟩
  | .hbm, ⟨26, _⟩ => ⟨S1x6x2816, .f32⟩
  | .hbm, ⟨27, _⟩ => ⟨S1x6x2816, .f32⟩
  | .hbm, ⟨28, _⟩ => ⟨S_, .f32⟩
  | .hbm, ⟨29, _⟩ => ⟨S1x6x2816, .f32⟩
  | .hbm, ⟨30, _⟩ => ⟨S1x6x2816, .f32⟩
  | .hbm, ⟨31, _⟩ => ⟨S1x6x2816, .f32⟩
  | .hbm, ⟨32, _⟩ => ⟨S_, .f32⟩
  | .hbm, ⟨33, _⟩ => ⟨S1x6x2816, .f32⟩
  | .hbm, ⟨34, _⟩ => ⟨S1x6x2816, .f32⟩
  | .hbm, ⟨35, _⟩ => ⟨S1x6x2816, .f32⟩
  | .hbm, ⟨36, _⟩ => ⟨S_, .f32⟩
  | .hbm, ⟨37, _⟩ => ⟨S1x6x2816, .f32⟩
  | .hbm, ⟨38, _⟩ => ⟨S1x6x2816, .f32⟩
  | _, _ => ⟨S1x6x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel29.lean ====
abbrev S1x2x11264 : Shape := ⟨3, ![1, 2, 11264]⟩
abbrev S2x11264 : Shape := ⟨2, ![2, 11264]⟩

abbrev nBuf : Space → Nat
  | .hbm => 8
  | .vmem => 8
  | .smem => 0
  | _ => 0

abbrev bufTy : (tb : Table) → Fin (tcTables nBuf tb) → BufTy
  | .hbm, ⟨0, _⟩ => ⟨S1x2x11264, .f32⟩
  | .hbm, ⟨1, _⟩ => ⟨S2x11264, .f32⟩
  | .hbm, ⟨2, _⟩ => ⟨S1x2x11264, .f32⟩
  | .hbm, ⟨3, _⟩ => ⟨S1x2x11264, .f32⟩
  | .hbm, ⟨4, _⟩ => ⟨S1x2x11264, .f32⟩
  | .hbm, ⟨5, _⟩ => ⟨S1x2x11264, .f32⟩
  | .hbm, ⟨6, _⟩ => ⟨S1x2x11264, .f32⟩
  | .hbm, ⟨7, _⟩ => ⟨S1x2x11264, .f32⟩
  | .local _ .vmem, ⟨0, _⟩ => ⟨S1x2x11264, .f32⟩
  | .local _ .vmem, ⟨1, _⟩ => ⟨S2x11264, .f32⟩
  | .local _ .vmem, ⟨2, _⟩ => ⟨S1x2x11264, .f32⟩
  | .local _ .vmem, ⟨3, _⟩ => ⟨S1x2x11264, .f32⟩
  | .local _ .vmem, ⟨4, _⟩ => ⟨S1x2x11264, .f32⟩
  | .local _ .vmem, ⟨5, _⟩ => ⟨S1x2x11264, .f32⟩
  | .local _ .vmem, ⟨6, _⟩ => ⟨S1x2x11264, .f32⟩
  | .local _ .vmem, ⟨7, _⟩ => ⟨S1x2x11264, .f32⟩
  | _, _ => ⟨S1x2x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x2x11264 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x11264 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2x11264 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2x11264 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2x11264 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2x11264 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2x11264 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2x11264 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference29Ideal.lean ====
abbrev S1x2x11264 : Shape := ⟨3, ![1, 2, 11264]⟩
abbrev S2x11264 : Shape := ⟨2, ![2, 11264]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x2x11264, .f32⟩
  | .hbm, ⟨1, _⟩ => ⟨S2x11264, .f32⟩
  | .hbm, ⟨2, _⟩ => ⟨S1x2x11264, .f32⟩
  | .hbm, ⟨3, _⟩ => ⟨S1x2x11264, .f32⟩
  | .hbm, ⟨4, _⟩ => ⟨S1x2x11264, .f32⟩
  | .hbm, ⟨5, _⟩ => ⟨S1x2x11264, .f32⟩
  | .hbm, ⟨6, _⟩ => ⟨S_, .f32⟩
  | .hbm, ⟨7, _⟩ => ⟨S1x2x11264, .f32⟩
  | .hbm, ⟨8, _⟩ => ⟨S1x2x11264, .f32⟩
  | .hbm, ⟨9, _⟩ => ⟨S_, .f32⟩
  | .hbm, ⟨10, _⟩ => ⟨S1x2x11264, .f32⟩
  | .hbm, ⟨11, _⟩ => ⟨S1x2x11264, .f32⟩
  | .hbm, ⟨12, _⟩ => ⟨S1x2x11264, .f32⟩
  | .hbm, ⟨13, _⟩ => ⟨S_, .f32⟩
  | .hbm, ⟨14, _⟩ => ⟨S1x2x11264, .f32⟩
  | .hbm, ⟨15, _⟩ => ⟨S1x2x11264, .f32⟩
  | .hbm, ⟨16, _⟩ => ⟨S1x2x11264, .f32⟩
  | .hbm, ⟨17, _⟩ => ⟨S_, .f32⟩
  | .hbm, ⟨18, _⟩ => ⟨S1x2x11264, .f32⟩
  | .hbm, ⟨19, _⟩ => ⟨S1x2x11264, .f32⟩
  | .hbm, ⟨20, _⟩ => ⟨S1x2x11264, .f32⟩
  | .hbm, ⟨21, _⟩ => ⟨S_, .f32⟩
  | .hbm, ⟨22, _⟩ => ⟨S1x2x11264, .f32⟩
  | .hbm, ⟨23, _⟩ => ⟨S1x2x11264, .f32⟩
  | .hbm, ⟨24, _⟩ => ⟨S_, .f32⟩
  | .hbm, ⟨25, _⟩ => ⟨S1x2x11264, .f32⟩
  | .hbm, ⟨26, _⟩ => ⟨S1x2x11264, .f32⟩
  | .hbm, ⟨27, _⟩ => ⟨S1x2x11264, .f32⟩
  | .hbm, ⟨28, _⟩ => ⟨S_, .f32⟩
  | .hbm, ⟨29, _⟩ => ⟨S1x2x11264, .f32⟩
  | .hbm, ⟨30, _⟩ => ⟨S1x2x11264, .f32⟩
  | .hbm, ⟨31, _⟩ => ⟨S1x2x11264, .f32⟩
  | .hbm, ⟨32, _⟩ => ⟨S_, .f32⟩
  | .hbm, ⟨33, _⟩ => ⟨S1x2x11264, .f32⟩
  | .hbm, ⟨34, _⟩ => ⟨S1x2x11264, .f32⟩
  | .hbm, ⟨35, _⟩ => ⟨S1x2x11264, .f32⟩
  | .hbm, ⟨36, _⟩ => ⟨S_, .f32⟩
  | .hbm, ⟨37, _⟩ => ⟨S1x2x11264, .f32⟩
  | .hbm, ⟨38, _⟩ => ⟨S1x2x11264, .f32⟩
  | _, _ => ⟨S1x2x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel30.lean ====
abbrev S2x2048x2816 : Shape := ⟨3, ![2, 2048, 2816]⟩
abbrev S2048x2816 : Shape := ⟨2, ![2048, 2816]⟩
abbrev S1x256x2816 : Shape := ⟨3, ![1, 256, 2816]⟩
abbrev S256x2816 : Shape := ⟨2, ![256, 2816]⟩

abbrev nBuf : Space → Nat
  | .hbm => 13
  | .vmem => 32
  | .smem => 0
  | _ => 0

abbrev bufTy : (tb : Table) → Fin (tcTables nBuf tb) → BufTy
  | .hbm, ⟨0, _⟩ => ⟨S2x2048x2816, .f32⟩
  | .hbm, ⟨1, _⟩ => ⟨S2048x2816, .f32⟩
  | .hbm, ⟨2, _⟩ => ⟨S2048x2816, .f32⟩
  | .hbm, ⟨3, _⟩ => ⟨S2x2048x2816, .f32⟩
  | .hbm, ⟨4, _⟩ => ⟨S2x2048x2816, .f32⟩
  | .hbm, ⟨5, _⟩ => ⟨S2x2048x2816, .f32⟩
  | .hbm, ⟨6, _⟩ => ⟨S2x2048x2816, .f32⟩
  | .hbm, ⟨7, _⟩ => ⟨S2x2048x2816, .f32⟩
  | .hbm, ⟨8, _⟩ => ⟨S2x2048x2816, .f32⟩
  | .hbm, ⟨9, _⟩ => ⟨S2x2048x2816, .f32⟩
  | .hbm, ⟨10, _⟩ => ⟨S2x2048x2816, .f32⟩
  | .hbm, ⟨11, _⟩ => ⟨S2x2048x2816, .f32⟩
  | .hbm, ⟨12, _⟩ => ⟨S2x2048x2816, .f32⟩
  | .local _ .vmem, ⟨0, _⟩ => ⟨S1x256x2816, .f32⟩
  | .local _ .vmem, ⟨1, _⟩ => ⟨S1x256x2816, .f32⟩
  | .local _ .vmem, ⟨2, _⟩ => ⟨S256x2816, .f32⟩
  | .local _ .vmem, ⟨3, _⟩ => ⟨S256x2816, .f32⟩
  | .local _ .vmem, ⟨4, _⟩ => ⟨S1x256x2816, .f32⟩
  | .local _ .vmem, ⟨5, _⟩ => ⟨S1x256x2816, .f32⟩
  | .local _ .vmem, ⟨6, _⟩ => ⟨S1x256x2816, .f32⟩
  | .local _ .vmem, ⟨7, _⟩ => ⟨S1x256x2816, .f32⟩
  | .local _ .vmem, ⟨8, _⟩ => ⟨S1x256x2816, .f32⟩
  | .local _ .vmem, ⟨9, _⟩ => ⟨S1x256x2816, .f32⟩
  | .local _ .vmem, ⟨10, _⟩ => ⟨S1x256x2816, .f32⟩
  | .local _ .vmem, ⟨11, _⟩ => ⟨S1x256x2816, .f32⟩
  | .local _ .vmem, ⟨12, _⟩ => ⟨S1x256x2816, .f32⟩
  | .local _ .vmem, ⟨13, _⟩ => ⟨S1x256x2816, .f32⟩
  | .local _ .vmem, ⟨14, _⟩ => ⟨S1x256x2816, .f32⟩
  | .local _ .vmem, ⟨15, _⟩ => ⟨S1x256x2816, .f32⟩
  | .local _ .vmem, ⟨16, _⟩ => ⟨S1x256x2816, .f32⟩
  | .local _ .vmem, ⟨17, _⟩ => ⟨S1x256x2816, .f32⟩
  | .local _ .vmem, ⟨18, _⟩ => ⟨S256x2816, .f32⟩
  | .local _ .vmem, ⟨19, _⟩ => ⟨S256x2816, .f32⟩
  | .local _ .vmem, ⟨20, _⟩ => ⟨S1x256x2816, .f32⟩
  | .local _ .vmem, ⟨21, _⟩ => ⟨S1x256x2816, .f32⟩
  | .local _ .vmem, ⟨22, _⟩ => ⟨S1x256x2816, .f32⟩
  | .local _ .vmem, ⟨23, _⟩ => ⟨S1x256x2816, .f32⟩
  | .local _ .vmem, ⟨24, _⟩ => ⟨S1x256x2816, .f32⟩
  | .local _ .vmem, ⟨25, _⟩ => ⟨S1x256x2816, .f32⟩
  | .local _ .vmem, ⟨26, _⟩ => ⟨S1x256x2816, .f32⟩
  | .local _ .vmem, ⟨27, _⟩ => ⟨S1x256x2816, .f32⟩
  | .local _ .vmem, ⟨28, _⟩ => ⟨S1x256x2816, .f32⟩
  | .local _ .vmem, ⟨29, _⟩ => ⟨S1x256x2816, .f32⟩
  | .local _ .vmem, ⟨30, _⟩ => ⟨S1x256x2816, .f32⟩
  | .local _ .vmem, ⟨31, _⟩ => ⟨S1x256x2816, .f32⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x256x2816 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2816 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x2816 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x2816 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x2816 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x2816 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x2816 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x2816 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Reference30Ideal.lean ====
abbrev S2x2048x2816 : Shape := ⟨3, ![2, 2048, 2816]⟩
abbrev S2048x2816 : Shape := ⟨2, ![2048, 2816]⟩
abbrev S1x2048x2816 : Shape := ⟨3, ![1, 2048, 2816]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S2048x2816, .f32⟩
  | .hbm, ⟨2, _⟩ => ⟨S2048x2816, .f32⟩
  | .hbm, ⟨3, _⟩ => ⟨S2x2048x2816, .f32⟩
  | .hbm, ⟨4, _⟩ => ⟨S2x2048x2816, .f32⟩
  | .hbm, ⟨5, _⟩ => ⟨S1x2048x2816, .f32⟩
  | .hbm, ⟨6, _⟩ => ⟨S1x2048x2816, .f32⟩
  | .hbm, ⟨7, _⟩ => ⟨S2x2048x2816, .f32⟩
  | .hbm, ⟨8, _⟩ => ⟨S_, .f32⟩
  | .hbm, ⟨9, _⟩ => ⟨S2x2048x2816, .f32⟩
  | .hbm, ⟨10, _⟩ => ⟨S2x2048x2816, .f32⟩
  | .hbm, ⟨11, _⟩ => ⟨S_, .f32⟩
  | .hbm, ⟨12, _⟩ => ⟨S2x2048x2816, .f32⟩
  | .hbm, ⟨13, _⟩ => ⟨S2x2048x2816, .f32⟩
  | .hbm, ⟨14, _⟩ => ⟨S2x2048x2816, .f32⟩
  | .hbm, ⟨15, _⟩ => ⟨S_, .f32⟩
  | .hbm, ⟨16, _⟩ => ⟨S2x2048x2816, .f32⟩
  | .hbm, ⟨17, _⟩ => ⟨S2x2048x2816, .f32⟩
  | .hbm, ⟨18, _⟩ => ⟨S2x2048x2816, .f32⟩
  | .hbm, ⟨19, _⟩ => ⟨S_, .f32⟩
  | .hbm, ⟨20, _⟩ => ⟨S2x2048x2816, .f32⟩
  | .hbm, ⟨21, _⟩ => ⟨S2x2048x2816, .f32⟩
  | .hbm, ⟨22, _⟩ => ⟨S2x2048x2816, .f32⟩
  | .hbm, ⟨23, _⟩ => ⟨S_, .f32⟩
  | .hbm, ⟨24, _⟩ => ⟨S2x2048x2816, .f32⟩
  | .hbm, ⟨25, _⟩ => ⟨S2x2048x2816, .f32⟩
  | .hbm, ⟨26, _⟩ => ⟨S_, .f32⟩
  | .hbm, ⟨27, _⟩ => ⟨S2x2048x2816, .f32⟩
  | .hbm, ⟨28, _⟩ => ⟨S2x2048x2816, .f32⟩
  | .hbm, ⟨29, _⟩ => ⟨S2x2048x2816, .f32⟩
  | .hbm, ⟨30, _⟩ => ⟨S_, .f32⟩
  | .hbm, ⟨31, _⟩ => ⟨S2x2048x2816, .f32⟩
  | .hbm, ⟨32, _⟩ => ⟨S2x2048x2816, .f32⟩
  | .hbm, ⟨33, _⟩ => ⟨S2x2048x2816, .f32⟩
  | .hbm, ⟨34, _⟩ => ⟨S_, .f32⟩
  | .hbm, ⟨35, _⟩ => ⟨S2x2048x2816, .f32⟩
  | .hbm, ⟨36, _⟩ => ⟨S2x2048x2816, .f32⟩
  | .hbm, ⟨37, _⟩ => ⟨S2x2048x2816, .f32⟩
  | .hbm, ⟨38, _⟩ => ⟨S_, .f32⟩
  | .hbm, ⟨39, _⟩ => ⟨S2x2048x2816, .f32⟩
  | .hbm, ⟨40, _⟩ => ⟨S2x2048x2816, .f32⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel31.lean ====
abbrev S2x1408x2048 : Shape := ⟨3, ![2, 1408, 2048]⟩
abbrev S1408x2048 : Shape := ⟨2, ![1408, 2048]⟩
abbrev S1x176x2048 : Shape := ⟨3, ![1, 176, 2048]⟩
abbrev S176x2048 : Shape := ⟨2, ![176, 2048]⟩

abbrev nBuf : Space → Nat
  | .hbm => 13
  | .vmem => 32
  | .smem => 0
  | _ => 0

abbrev bufTy : (tb : Table) → Fin (tcTables nBuf tb) → BufTy
  | .hbm, ⟨0, _⟩ => ⟨S2x1408x2048, .f32⟩
  | .hbm, ⟨1, _⟩ => ⟨S1408x2048, .f32⟩
  | .hbm, ⟨2, _⟩ => ⟨S1408x2048, .f32⟩
  | .hbm, ⟨3, _⟩ => ⟨S2x1408x2048, .f32⟩
  | .hbm, ⟨4, _⟩ => ⟨S2x1408x2048, .f32⟩
  | .hbm, ⟨5, _⟩ => ⟨S2x1408x2048, .f32⟩
  | .hbm, ⟨6, _⟩ => ⟨S2x1408x2048, .f32⟩
  | .hbm, ⟨7, _⟩ => ⟨S2x1408x2048, .f32⟩
  | .hbm, ⟨8, _⟩ => ⟨S2x1408x2048, .f32⟩
  | .hbm, ⟨9, _⟩ => ⟨S2x1408x2048, .f32⟩
  | .hbm, ⟨10, _⟩ => ⟨S2x1408x2048, .f32⟩
  | .hbm, ⟨11, _⟩ => ⟨S2x1408x2048, .f32⟩
  | .hbm, ⟨12, _⟩ => ⟨S2x1408x2048, .f32⟩
  | .local _ .vmem, ⟨0, _⟩ => ⟨S1x176x2048, .f32⟩
  | .local _ .vmem, ⟨1, _⟩ => ⟨S1x176x2048, .f32⟩
  | .local _ .vmem, ⟨2, _⟩ => ⟨S176x2048, .f32⟩
  | .local _ .vmem, ⟨3, _⟩ => ⟨S176x2048, .f32⟩
  | .local _ .vmem, ⟨4, _⟩ => ⟨S1x176x2048, .f32⟩
  | .local _ .vmem, ⟨5, _⟩ => ⟨S1x176x2048, .f32⟩
  | .local _ .vmem, ⟨6, _⟩ => ⟨S1x176x2048, .f32⟩
  | .local _ .vmem, ⟨7, _⟩ => ⟨S1x176x2048, .f32⟩
  | .local _ .vmem, ⟨8, _⟩ => ⟨S1x176x2048, .f32⟩
  | .local _ .vmem, ⟨9, _⟩ => ⟨S1x176x2048, .f32⟩
  | .local _ .vmem, ⟨10, _⟩ => ⟨S1x176x2048, .f32⟩
  | .local _ .vmem, ⟨11, _⟩ => ⟨S1x176x2048, .f32⟩
  | .local _ .vmem, ⟨12, _⟩ => ⟨S1x176x2048, .f32⟩
  | .local _ .vmem, ⟨13, _⟩ => ⟨S1x176x2048, .f32⟩
  | .local _ .vmem, ⟨14, _⟩ => ⟨S1x176x2048, .f32⟩
  | .local _ .vmem, ⟨15, _⟩ => ⟨S1x176x2048, .f32⟩
  | .local _ .vmem, ⟨16, _⟩ => ⟨S1x176x2048, .f32⟩
  | .local _ .vmem, ⟨17, _⟩ => ⟨S1x176x2048, .f32⟩
  | .local _ .vmem, ⟨18, _⟩ => ⟨S176x2048, .f32⟩
  | .local _ .vmem, ⟨19, _⟩ => ⟨S176x2048, .f32⟩
  | .local _ .vmem, ⟨20, _⟩ => ⟨S1x176x2048, .f32⟩
  | .local _ .vmem, ⟨21, _⟩ => ⟨S1x176x2048, .f32⟩
  | .local _ .vmem, ⟨22, _⟩ => ⟨S1x176x2048, .f32⟩
  | .local _ .vmem, ⟨23, _⟩ => ⟨S1x176x2048, .f32⟩
  | .local _ .vmem, ⟨24, _⟩ => ⟨S1x176x2048, .f32⟩
  | .local _ .vmem, ⟨25, _⟩ => ⟨S1x176x2048, .f32⟩
  | .local _ .vmem, ⟨26, _⟩ => ⟨S1x176x2048, .f32⟩
  | .local _ .vmem, ⟨27, _⟩ => ⟨S1x176x2048, .f32⟩
  | .local _ .vmem, ⟨28, _⟩ => ⟨S1x176x2048, .f32⟩
  | .local _ .vmem, ⟨29, _⟩ => ⟨S1x176x2048, .f32⟩
  | .local _ .vmem, ⟨30, _⟩ => ⟨S1x176x2048, .f32⟩
  | .local _ .vmem, ⟨31, _⟩ => ⟨S1x176x2048, .f32⟩
  | _, _ => ⟨S2x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x176x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S176x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x176x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x176x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x176x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x176x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x176x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x176x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Reference31Ideal.lean ====
abbrev S2x1408x2048 : Shape := ⟨3, ![2, 1408, 2048]⟩
abbrev S1408x2048 : Shape := ⟨2, ![1408, 2048]⟩
abbrev S1x1408x2048 : Shape := ⟨3, ![1, 1408, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1408x2048, .f32⟩
  | .hbm, ⟨1, _⟩ => ⟨S1408x2048, .f32⟩
  | .hbm, ⟨2, _⟩ => ⟨S1408x2048, .f32⟩
  | .hbm, ⟨3, _⟩ => ⟨S2x1408x2048, .f32⟩
  | .hbm, ⟨4, _⟩ => ⟨S2x1408x2048, .f32⟩
  | .hbm, ⟨5, _⟩ => ⟨S1x1408x2048, .f32⟩
  | .hbm, ⟨6, _⟩ => ⟨S1x1408x2048, .f32⟩
  | .hbm, ⟨7, _⟩ => ⟨S2x1408x2048, .f32⟩
  | .hbm, ⟨8, _⟩ => ⟨S_, .f32⟩
  | .hbm, ⟨9, _⟩ => ⟨S2x1408x2048, .f32⟩
  | .hbm, ⟨10, _⟩ => ⟨S2x1408x2048, .f32⟩
  | .hbm, ⟨11, _⟩ => ⟨S_, .f32⟩
  | .hbm, ⟨12, _⟩ => ⟨S2x1408x2048, .f32⟩
  | .hbm, ⟨13, _⟩ => ⟨S2x1408x2048, .f32⟩
  | .hbm, ⟨14, _⟩ => ⟨S2x1408x2048, .f32⟩
  | .hbm, ⟨15, _⟩ => ⟨S_, .f32⟩
  | .hbm, ⟨16, _⟩ => ⟨S2x1408x2048, .f32⟩
  | .hbm, ⟨17, _⟩ => ⟨S2x1408x2048, .f32⟩
  | .hbm, ⟨18, _⟩ => ⟨S2x1408x2048, .f32⟩
  | .hbm, ⟨19, _⟩ => ⟨S_, .f32⟩
  | .hbm, ⟨20, _⟩ => ⟨S2x1408x2048, .f32⟩
  | .hbm, ⟨21, _⟩ => ⟨S2x1408x2048, .f32⟩
  | .hbm, ⟨22, _⟩ => ⟨S2x1408x2048, .f32⟩
  | .hbm, ⟨23, _⟩ => ⟨S_, .f32⟩
  | .hbm, ⟨24, _⟩ => ⟨S2x1408x2048, .f32⟩
  | .hbm, ⟨25, _⟩ => ⟨S2x1408x2048, .f32⟩
  | .hbm, ⟨26, _⟩ => ⟨S_, .f32⟩
  | .hbm, ⟨27, _⟩ => ⟨S2x1408x2048, .f32⟩
  | .hbm, ⟨28, _⟩ => ⟨S2x1408x2048, .f32⟩
  | .hbm, ⟨29, _⟩ => ⟨S2x1408x2048, .f32⟩
  | .hbm, ⟨30, _⟩ => ⟨S_, .f32⟩
  | .hbm, ⟨31, _⟩ => ⟨S2x1408x2048, .f32⟩
  | .hbm, ⟨32, _⟩ => ⟨S2x1408x2048, .f32⟩
  | .hbm, ⟨33, _⟩ => ⟨S2x1408x2048, .f32⟩
  | .hbm, ⟨34, _⟩ => ⟨S_, .f32⟩
  | .hbm, ⟨35, _⟩ => ⟨S2x1408x2048, .f32⟩
  | .hbm, ⟨36, _⟩ => ⟨S2x1408x2048, .f32⟩
  | .hbm, ⟨37, _⟩ => ⟨S2x1408x2048, .f32⟩
  | .hbm, ⟨38, _⟩ => ⟨S_, .f32⟩
  | .hbm, ⟨39, _⟩ => ⟨S2x1408x2048, .f32⟩
  | .hbm, ⟨40, _⟩ => ⟨S2x1408x2048, .f32⟩
  | _, _ => ⟨S2x1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel32.lean ====
abbrev S8192x2048 : Shape := ⟨2, ![8192, 2048]⟩
abbrev S1x2048 : Shape := ⟨2, ![1, 2048]⟩
abbrev S8x2048 : Shape := ⟨2, ![8, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S8x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S8x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference32Ideal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8x2048 : Shape := ⟨2, ![8, 2048]⟩

abbrev nBuf : Space → Nat
  | .hbm => 57
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S2048, .f32⟩
  | .hbm, ⟨34, _⟩ => ⟨S8192x2048, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .bf16⟩
  | .hbm, ⟨53, _⟩ => ⟨S1x2048, .f32⟩
  | .hbm, ⟨54, _⟩ => ⟨S_, .i32⟩
  | .hbm, ⟨55, _⟩ => ⟨S_, .f32⟩
  | .hbm, ⟨56, _⟩ => ⟨S8x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c : Ref sig .tc := ⟨.hbm, 54, rfl⟩
abbrev main_call0_v0 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Kernel33.lean ====
abbrev S8192x2048 : Shape := ⟨2, ![8192, 2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference33Ideal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel34.lean ====
abbrev S8192x2048 : Shape := ⟨2, ![8192, 2048]⟩
abbrev S1x2048 : Shape := ⟨2, ![1, 2048]⟩
abbrev S8x2048 : Shape := ⟨2, ![8, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8x2048, .f32⟩
  | .hbm, ⟨4, _⟩ => ⟨S8192x2048, .f32⟩
  | .hbm, ⟨5, _⟩ => ⟨S8192x2048, .bf16⟩
  | .hbm, ⟨6, _⟩ => ⟨S8x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S8x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference34Ideal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8x2048 : Shape := ⟨2, ![8, 2048]⟩

abbrev nBuf : Space → Nat
  | .hbm => 108
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S2048, .f32⟩
  | .hbm, ⟨55, _⟩ => ⟨S8192x2048, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x2048, .f32⟩
  | .hbm, ⟨60, _⟩ => ⟨S8192x2048, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S2048, .f32⟩
  | .hbm, ⟨73, _⟩ => ⟨S8192x2048, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S8192x1, .f32⟩
  | .hbm, ⟨84, _⟩ => ⟨S8192x2048, .f32⟩
  | .hbm, ⟨85, _⟩ => ⟨S8192x2048, .f32⟩
  | .hbm, ⟨86, _⟩ => ⟨S1x2048, .f32⟩
  | .hbm, ⟨87, _⟩ => ⟨S8192x2048, .f32⟩
  | .hbm, ⟨88, _⟩ => ⟨S8192x2048, .f32⟩
  | .hbm, ⟨89, _⟩ => ⟨S8192x2048, .f32⟩
  | .hbm, ⟨90, _⟩ => ⟨S8192x2048, .f32⟩
  | .hbm, ⟨91, _⟩ => ⟨S_, .f32⟩
  | .hbm, ⟨92, _⟩ => ⟨S2048, .f32⟩
  | .hbm, ⟨93, _⟩ => ⟨S_, .f32⟩
  | .hbm, ⟨94, _⟩ => ⟨S2048, .f32⟩
  | .hbm, ⟨95, _⟩ => ⟨S2048, .f32⟩
  | .hbm, ⟨96, _⟩ => ⟨S_, .f32⟩
  | .hbm, ⟨97, _⟩ => ⟨S2048, .f32⟩
  | .hbm, ⟨98, _⟩ => ⟨S2048, .f32⟩
  | .hbm, ⟨99, _⟩ => ⟨S1x2048, .f32⟩
  | .hbm, ⟨100, _⟩ => ⟨S_, .i32⟩
  | .hbm, ⟨101, _⟩ => ⟨S_, .f32⟩
  | .hbm, ⟨102, _⟩ => ⟨S8x2048, .f32⟩
  | .hbm, ⟨103, _⟩ => ⟨S8192x2048, .bf16⟩
  | .hbm, ⟨104, _⟩ => ⟨S1x2048, .f32⟩
  | .hbm, ⟨105, _⟩ => ⟨S_, .i32⟩
  | .hbm, ⟨106, _⟩ => ⟨S_, .f32⟩
  | .hbm, ⟨107, _⟩ => ⟨S8x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_16 : Ref sig .tc := ⟨.hbm, 74, rfl⟩
abbrev main_v54 : Ref sig .tc := ⟨.hbm, 75, rfl⟩
abbrev main_v55 : Ref sig .tc := ⟨.hbm, 76, rfl⟩
abbrev main_cst_17 : Ref sig .tc := ⟨.hbm, 77, rfl⟩
abbrev main_v56 : Ref sig .tc := ⟨.hbm, 78, rfl⟩
abbrev main_v57 : Ref sig .tc := ⟨.hbm, 79, rfl⟩
abbrev main_cst_18 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_19 : Ref sig .tc := ⟨.hbm, 91, rfl⟩
abbrev main_v68 : Ref sig .tc := ⟨.hbm, 92, rfl⟩
abbrev main_cst_20 : Ref sig .tc := ⟨.hbm, 93, rfl⟩
abbrev main_v69 : Ref sig .tc := ⟨.hbm, 94, rfl⟩
abbrev main_v70 : Ref sig .tc := ⟨.hbm, 95, rfl⟩
abbrev main_cst_21 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c : Ref sig .tc := ⟨.hbm, 100, rfl⟩
abbrev main_call0_v0 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_c_22 : Ref sig .tc := ⟨.hbm, 105, rfl⟩
abbrev main_call1_v0 : Ref sig .tc := ⟨.hbm, 106, rfl⟩
abbrev main_v77 : Ref sig .tc := ⟨.hbm, 107, rfl⟩

abbrev nD : Nat := 1
abbrev τ : Topo := Topo.v7x

variable {F : FTy → Type} [FloatOps F]
-- ==== Kernel35.lean ====
abbrev S512x128 : Shape := ⟨2, ![512, 128]⟩
abbrev S8x512x128 : Shape := ⟨3, ![8, 512, 128]⟩
abbrev S1 : Shape := ⟨1, ![1]⟩
abbrev S1x512x128 : Shape := ⟨3, ![1, 512, 128]⟩

abbrev nBuf : Space → Nat
  | .hbm => 3
  | .vmem => 3
  | .smem => 1
  | _ => 0

abbrev bufTy : (tb : Table) → Fin (tcTables nBuf tb) → BufTy
  | .hbm, ⟨0, _⟩ => ⟨S512x128, .f32⟩
  | .hbm, ⟨1, _⟩ => ⟨S8x512x128, .f32⟩
  | .hbm, ⟨2, _⟩ => ⟨S512x128, .f32⟩
  | .local _ .vmem, ⟨0, _⟩ => ⟨S512x128, .f32⟩
  | .local _ .vmem, ⟨1, _⟩ => ⟨S8x512x128, .f32⟩
  | .local _ .vmem, ⟨2, _⟩ => ⟨S512x128, .f32⟩
  | .local _ .smem, ⟨0, _⟩ => ⟨S1, .i32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference35Ideal.lean ====
abbrev S512x128 : Shape := ⟨2, ![512, 128]⟩
abbrev S8x512x128 : Shape := ⟨3, ![8, 512, 128]⟩
abbrev S1 : Shape := ⟨1, ![1]⟩
abbrev S8 : Shape := ⟨1, ![8]⟩
abbrev S_ : Shape := ⟨0, ![]⟩
abbrev S8x1x1 : Shape := ⟨3, ![8, 1, 1]⟩

abbrev nBuf : Space → Nat
  | .hbm => 13
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S8x512x128, .f32⟩
  | .hbm, ⟨2, _⟩ => ⟨S1, .i32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i1⟩
  | .hbm, ⟨7, _⟩ => ⟨S8x1x1, .i1⟩
  | .hbm, ⟨8, _⟩ => ⟨S8x512x128, .i1⟩
  | .hbm, ⟨9, _⟩ => ⟨S8x512x128, .f32⟩
  | .hbm, ⟨10, _⟩ => ⟨S8x512x128, .f32⟩
  | .hbm, ⟨11, _⟩ => ⟨S_, .f32⟩
  | .hbm, ⟨12, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Kernel36.lean ====
abbrev S3584x128 : Shape := ⟨2, ![3584, 128]⟩
abbrev S8x3584x128 : Shape := ⟨3, ![8, 3584, 128]⟩
abbrev S1 : Shape := ⟨1, ![1]⟩
abbrev S512x128 : Shape := ⟨2, ![512, 128]⟩
abbrev S8x512x128 : Shape := ⟨3, ![8, 512, 128]⟩
abbrev S1x512x128 : Shape := ⟨3, ![1, 512, 128]⟩

abbrev nBuf : Space → Nat
  | .hbm => 3
  | .vmem => 6
  | .smem => 1
  | _ => 0

abbrev bufTy : (tb : Table) → Fin (tcTables nBuf tb) → BufTy
  | .hbm, ⟨0, _⟩ => ⟨S3584x128, .f32⟩
  | .hbm, ⟨1, _⟩ => ⟨S8x3584x128, .f32⟩
  | .hbm, ⟨2, _⟩ => ⟨S3584x128, .f32⟩
  | .local _ .vmem, ⟨0, _⟩ => ⟨S512x128, .f32⟩
  | .local _ .vmem, ⟨1, _⟩ => ⟨S512x128, .f32⟩
  | .local _ .vmem, ⟨2, _⟩ => ⟨S8x512x128, .f32⟩
  | .local _ .vmem, ⟨3, _⟩ => ⟨S8x512x128, .f32⟩
  | .local _ .vmem, ⟨4, _⟩ => ⟨S512x128, .f32⟩
  | .local _ .vmem, ⟨5, _⟩ => ⟨S512x128, .f32⟩
  | .local _ .smem, ⟨0, _⟩ => ⟨S1, .i32⟩
  | _, _ => ⟨S3584x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![7], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference36Ideal.lean ====
abbrev S3584x128 : Shape := ⟨2, ![3584, 128]⟩
abbrev S8x3584x128 : Shape := ⟨3, ![8, 3584, 128]⟩
abbrev S1 : Shape := ⟨1, ![1]⟩
abbrev S8 : Shape := ⟨1, ![8]⟩
abbrev S_ : Shape := ⟨0, ![]⟩
abbrev S8x1x1 : Shape := ⟨3, ![8, 1, 1]⟩

abbrev nBuf : Space → Nat
  | .hbm => 13
  | .vmem => 0
  | .smem => 0
  | _ => 0

abbrev bufTy : (tb : Table) → Fin (tcTables nBuf tb) → BufTy
  | .hbm, ⟨0, _⟩ => ⟨S3584x128, .f32⟩
  | .hbm, ⟨1, _⟩ => ⟨S8x3584x128, .f32⟩
  | .hbm, ⟨2, _⟩ => ⟨S1, .i32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i1⟩
  | .hbm, ⟨7, _⟩ => ⟨S8x1x1, .i1⟩
  | .hbm, ⟨8, _⟩ => ⟨S8x3584x128, .i1⟩
  | .hbm, ⟨9, _⟩ => ⟨S8x3584x128, .f32⟩
  | .hbm, ⟨10, _⟩ => ⟨S8x3584x128, .f32⟩
  | .hbm, ⟨11, _⟩ => ⟨S_, .f32⟩
  | .hbm, ⟨12, _⟩ => ⟨S3584x128, .f32⟩
  | _, _ => ⟨S3584x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Proof.ConvSpec.lean ====
/-
  The gradient of the gated short convolution, written as functions of natural row and column numbers.

  An array is read by `at2`, which is zero outside the array, so that the halo rows of a block and the padding rows of
  the reference are the same expression. `shifted X k c` is the product of the gate and the input two rows above row
  `k`; the convolution is a sum of three of its rows.
-/
module

public import Idealize.ShloMosaic.Lib.Pointwise

@[expose] public section

noncomputable section

namespace Cert.Conv

open Idealize.ShloMosaic

/-- A matrix at a row and a column, zero outside it. -/
def at2 {R C : ℕ} (X : (⟨2, ![R, C]⟩ : Shape).Idx → EReal) (r c : ℕ) : EReal :=
  if h : r < R ∧ c < C then X (ix2 ⟨r, h.1⟩ ⟨c, h.2⟩) else 0

theorem at2_ix2 {R C : ℕ} (X : (⟨2, ![R, C]⟩ : Shape).Idx → EReal) (r : Fin R) (c : Fin C) : X (ix2 r c) = at2 X r.val c.val := by
  unfold at2; rw [dif_pos ⟨r.isLt, c.isLt⟩]

theorem at2_of {R C : ℕ} (X : (⟨2, ![R, C]⟩ : Shape).Idx → EReal) (r : Fin R) (c : Fin C) {r' c' : ℕ} (hr : r.val = r') (hc : c.val = c') :
    X (ix2 r c) = at2 X r' c' := by subst hr hc; exact at2_ix2 X r c

theorem at2_row {R C : ℕ} (X : (⟨2, ![R, C]⟩ : Shape).Idx → EReal) {r c : ℕ} (h : R ≤ r) : at2 X r c = 0 :=
  dif_neg fun hc => absurd hc.1 (Nat.not_lt.mpr h)

abbrev M6144 : Shape := ⟨2, ![8192, 6144]⟩
abbrev M2048 : Shape := ⟨2, ![8192, 2048]⟩
abbrev M3 : Shape := ⟨2, ![3, 2048]⟩

/-- The gated input two rows above row `k`; nothing stands above row 0. -/
def shifted (x : M6144.Idx → EReal) (k c : ℕ) : EReal :=
  if k < 2 then 0 else at2 x (k - 2) (2048 + c) * at2 x (k - 2) (4096 + c)

/-- The gradient of the convolution's result. -/
def dq (x : M6144.Idx → EReal) (dy : M2048.Idx → EReal) (r c : ℕ) : EReal := at2 dy r c * at2 x r c

theorem dq_row (x : M6144.Idx → EReal) (dy : M2048.Idx → EReal) {r c : ℕ} (h : 8192 ≤ r) : dq x dy r c = 0 := by
  unfold dq; rw [at2_row dy h, zero_mul]

/-- The convolution's result. -/
def q (x : M6144.Idx → EReal) (w : M3.Idx → EReal) (r c : ℕ) : EReal :=
  at2 w 0 c * shifted x r c + at2 w 1 c * shifted x (r + 1) c + at2 w 2 c * shifted x (r + 2) c

/-- The gradient of the gated input. -/
def dp (x : M6144.Idx → EReal) (dy : M2048.Idx → EReal) (w : M3.Idx → EReal) (r c : ℕ) : EReal :=
  at2 w 2 c * dq x dy r c + at2 w 1 c * dq x dy (r + 1) c + at2 w 0 c * dq x dy (r + 2) c

/-- The gradient of the joined projections: of the output gate, of the input gate, of the input. -/
def dbcx (x : M6144.Idx → EReal) (dy : M2048.Idx → EReal) (w : M3.Idx → EReal) (r c : ℕ) : EReal :=
  if c < 2048 then at2 dy r c * q x w r c
  else if c < 4096 then dp x dy w r (c - 2048) * at2 x r (c + 2048)
  else dp x dy w r (c - 4096) * at2 x r (c - 2048)

theorem shifted_add_two (x : M6144.Idx → EReal) (k c : ℕ) : shifted x (k + 2) c = at2 x k (2048 + c) * at2 x k (4096 + c) := by
  unfold shifted; rw [if_neg (by omega), Nat.add_sub_cancel]

theorem dbcx_gb (x : M6144.Idx → EReal) (dy : M2048.Idx → EReal) (w : M3.Idx → EReal) (r c : ℕ) (h : c < 2048) :
    dbcx x dy w r c = at2 dy r c * q x w r c := if_pos h

theorem dbcx_gc (x : M6144.Idx → EReal) (dy : M2048.Idx → EReal) (w : M3.Idx → EReal) (r c : ℕ) (h : c < 2048) :
    dbcx x dy w r (2048 + c) = dp x dy w r c * at2 x r (4096 + c) := by
  unfold dbcx
  rw [if_neg (by omega), if_pos (by omega), show 2048 + c - 2048 = c by omega, show 2048 + c + 2048 = 4096 + c by omega]

theorem dbcx_x (x : M6144.Idx → EReal) (dy : M2048.Idx → EReal) (w : M3.Idx → EReal) (r c : ℕ) :
    dbcx x dy w r (4096 + c) = dp x dy w r c * at2 x r (2048 + c) := by
  unfold dbcx
  rw [if_neg (by omega), if_neg (by omega), show 4096 + c - 4096 = c by omega, show 4096 + c - 2048 = 2048 + c by omega]

/-- The gradient of filter row `k`: over the rows, the shifted input against the gradient. -/
def dw (x : M6144.Idx → EReal) (dy : M2048.Idx → EReal) (k c : ℕ) : EReal :=
  if k < 3 then ∑ r : Fin 8192, dq x dy r.val c * shifted x (r.val + k) c else 0

end Cert.Conv

end
-- ==== Proof.ConvTile.lean ====
module

public import proofs.«01_k».proof.Proof.ConvSpec
public import proofs.«01_k».proof.Proof.Gen.KernelIdeal.Frame
public import Idealize.ShloMosaic.Lib.Pipeline.ValueKit
public import Idealize.ShloMosaic.Lib.Pipeline.ReadBack

@[expose] public section
set_option maxRecDepth 16384
noncomputable section
namespace Cert.Conv.Kernel
open Idealize.ShloMosaic Idealize.ShloMosaic.TcCoe Idealize.SL.Sem
open Cert.KernelIdeal Cert.KernelIdeal.Gen
variable (m : (ℓ : Loc nD τ sig) → Buf (Elt Ideal) ℓ)
abbrev X (c : Dev nD) : M6144.Idx → EReal := m ((c.tc : Thread nD τ).loc main_arg0)
abbrev DY (c : Dev nD) : M2048.Idx → EReal := m ((c.tc : Thread nD τ).loc main_arg1)
abbrev W (c : Dev nD) : M3.Idx → EReal := m ((c.tc : Thread nD τ).loc main_arg2)

theorem ix0 : ∀ t : Fin grid0.N, win0_0.index t = ![t.val, 0] := by decide +kernel
theorem ix1 : ∀ t : Fin grid0.N, win0_1.index t = ![16 * t.val - 1, 0] := by decide +kernel
theorem ix2' : ∀ t : Fin grid0.N, win0_2.index t = ![min (16 * t.val + 16) 511, 0] := by decide +kernel
theorem ix3 : ∀ t : Fin grid0.N, win0_3.index t = ![t.val, 0] := by decide +kernel
theorem ix4 : ∀ t : Fin grid0.N, win0_4.index t = ![min (32 * t.val + 32) 1023, 0] := by decide +kernel
theorem ix5 : ∀ t : Fin grid0.N, win0_5.index t = ![0, 0] := by decide +kernel

variable (c : Dev nD) (t : Fin grid0.N)

theorem cur (r : Fin 256) (l : Fin 6144) :
    (iblk m c 0 t : S256x6144.Idx → EReal) (ix2 r l) = at2 (X m c) (256 * t.val + r.val) l.val := by
  have hN : grid0.N = 32 := N_0
  have := t.isLt
  rw [← at2_of (X m c) ⟨256 * t.val + r.val, by omega⟩ l rfl rfl]
  blk_ext [iblk, V, ix0 t]

theorem prev (r : Fin 16) (l : Fin 6144) :
    (iblk m c 1 t : S16x6144.Idx → EReal) (ix2 r l) = at2 (X m c) (16 * (16 * t.val - 1) + r.val) l.val := by
  have hN : grid0.N = 32 := N_0
  have := t.isLt
  rw [← at2_of (X m c) ⟨16 * (16 * t.val - 1) + r.val, by omega⟩ l rfl rfl]
  blk_ext [iblk, V, ix1 t]

theorem next (r : Fin 16) (l : Fin 6144) :
    (iblk m c 2 t : S16x6144.Idx → EReal) (ix2 r l) = at2 (X m c) (16 * min (16 * t.val + 16) 511 + r.val) l.val := by
  have hN : grid0.N = 32 := N_0
  have := t.isLt
  rw [← at2_of (X m c) ⟨16 * min (16 * t.val + 16) 511 + r.val, by omega⟩ l rfl rfl]
  blk_ext [iblk, V, ix2' t]

theorem dcur (r : Fin 256) (l : Fin 2048) :
    (iblk m c 3 t : S256x2048.Idx → EReal) (ix2 r l) = at2 (DY m c) (256 * t.val + r.val) l.val := by
  have hN : grid0.N = 32 := N_0
  have := t.isLt
  rw [← at2_of (DY m c) ⟨256 * t.val + r.val, by omega⟩ l rfl rfl]
  blk_ext [iblk, V, ix3 t]

theorem dnext (r : Fin 8) (l : Fin 2048) :
    (iblk m c 4 t : S8x2048.Idx → EReal) (ix2 r l) = at2 (DY m c) (8 * min (32 * t.val + 32) 1023 + r.val) l.val := by
  have hN : grid0.N = 32 := N_0
  have := t.isLt
  rw [← at2_of (DY m c) ⟨8 * min (32 * t.val + 32) 1023 + r.val, by omega⟩ l rfl rfl]
  blk_ext [iblk, V, ix4 t]

theorem filt (k : Fin 3) (l : Fin 2048) : (iblk m c 5 t : S3x2048.Idx → EReal) (ix2 k l) = at2 (W m c) k.val l.val := by
  rw [← at2_of (W m c) k l rfl rfl]
  blk_ext [iblk, V, ix5 t]

theorem first : Scalar.cmpi CmpIPredicate.eq (BitVec.ofNat 32 (grid0.coords t 0).val) 0#32 = if t.val = 0 then 1#1 else 0#1 :=
  (by decide +kernel : ∀ t : Fin grid0.N, Scalar.cmpi CmpIPredicate.eq (BitVec.ofNat 32 (grid0.coords t 0).val) 0#32 = if t.val = 0 then 1#1 else 0#1) t

theorem last : Scalar.cmpi CmpIPredicate.eq (BitVec.ofNat 32 (grid0.coords t 0).val) 31#32 = if t.val = 31 then 1#1 else 0#1 :=
  (by decide +kernel : ∀ t : Fin grid0.N, Scalar.cmpi CmpIPredicate.eq (BitVec.ofNat 32 (grid0.coords t 0).val) 31#32 = if t.val = 31 then 1#1 else 0#1) t

/-- Row `d + 6` of the block's shifted input with its halo. -/
theorem shifted_tile (x : M6144.Idx → EReal) (d l : ℕ) (hd : d < 258) :
    (if d + 6 < 8 then
        Scalar.select (Scalar.cmpi CmpIPredicate.eq (BitVec.ofNat 32 (grid0.coords t 0).val) 0#32) 0
          (at2 x (16 * (16 * t.val - 1) + (8 + (d + 6))) (2048 + l) * at2 x (16 * (16 * t.val - 1) + (8 + (d + 6))) (4096 + l))
      else if d + 6 - 8 < 256 then at2 x (256 * t.val + (d + 6 - 8)) (2048 + l) * at2 x (256 * t.val + (d + 6 - 8)) (4096 + l) else 0)
      = shifted x (256 * t.val + d) l := by
  unfold shifted
  rw [first]
  by_cases hb : d + 6 < 8
  · rw [if_pos hb]
    by_cases ht : t.val = 0
    · rw [if_pos ht, if_pos (by omega)]; rfl
    · rw [if_neg ht, if_neg (by omega)]
      show at2 x _ _ * at2 x _ _ = _
      rw [show 16 * (16 * t.val - 1) + (8 + (d + 6)) = 256 * t.val + d - 2 by omega]
  · rw [if_neg hb, if_pos (by omega), if_neg (by omega), show 256 * t.val + (d + 6 - 8) = 256 * t.val + d - 2 by omega]

/-- Row `d + 8` of the block's gradient with its halo. -/
theorem dq_tile (x : M6144.Idx → EReal) (dy : M2048.Idx → EReal) (d l : ℕ) (hd : d < 264) :
    (if d + 8 < 8 then 0 else if d + 8 - 8 < 256 then at2 dy (256 * t.val + (d + 8 - 8)) l * at2 x (256 * t.val + (d + 8 - 8)) l
      else Scalar.select (Scalar.cmpi CmpIPredicate.eq (BitVec.ofNat 32 (grid0.coords t 0).val) 31#32) 0
          (at2 dy (8 * min (32 * t.val + 32) 1023 + (d + 8 - 8 - 256)) l * at2 x (16 * min (16 * t.val + 16) 511 + (d + 8 - 8 - 256)) l))
      = dq x dy (256 * t.val + d) l := by
  have hN : grid0.N = 32 := N_0
  have := t.isLt
  rw [last, if_neg (by omega), Nat.add_sub_cancel]
  by_cases hb : d < 256
  · rw [if_pos hb]; rfl
  · rw [if_neg hb]
    by_cases ht : t.val = 31
    · rw [if_pos ht, dq_row x dy (by omega)]; rfl
    · rw [if_neg ht, show 8 * min (32 * t.val + 32) 1023 + (d - 256) = 256 * t.val + d by omega,
        show 16 * min (16 * t.val + 16) 511 + (d - 256) = 256 * t.val + d by omega]
      rfl

theorem inb {R C r k o : ℕ} (hk : k + r ≤ R) (ho : o + 512 ≤ C) : ∀ a, (![k, o] : Fin 2 → ℕ) a + (![r, 512] : Fin 2 → ℕ) a ≤ (![R, C] : Fin 2 → ℕ) a := by
  intro a; fin_cases a
  · exact hk
  · exact ho

/-! ## The loads of one chunk of 512 columns -/

def gCur (o : ℕ) (h : o + 512 ≤ 6144) : Vec Ideal S256x512 .bf16 := View.ld (iblk m c 0 t : Vec Ideal S256x6144 .bf16) (Rect.unit ![0, o] ![256, 512] (inb (by omega) h))
def gPrev (o : ℕ) (h : o + 512 ≤ 6144) : Vec Ideal S16x512 .bf16 := View.ld (iblk m c 1 t : Vec Ideal S16x6144 .bf16) (Rect.unit ![0, o] ![16, 512] (inb (by omega) h))
def gNext (o : ℕ) (h : o + 512 ≤ 6144) : Vec Ideal S16x512 .bf16 := View.ld (iblk m c 2 t : Vec Ideal S16x6144 .bf16) (Rect.unit ![0, o] ![16, 512] (inb (by omega) h))
def gDy (o : ℕ) (h : o + 512 ≤ 2048) : Vec Ideal S256x512 .f32 := View.ld (iblk m c 3 t : Vec Ideal S256x2048 .f32) (Rect.unit ![0, o] ![256, 512] (inb (by omega) h))
def gDn (o : ℕ) (h : o + 512 ≤ 2048) : Vec Ideal S8x512 .f32 := View.ld (iblk m c 4 t : Vec Ideal S8x2048 .f32) (Rect.unit ![0, o] ![8, 512] (inb (by omega) h))
def gW (o : ℕ) (h : o + 512 ≤ 2048) : Vec Ideal S3x512 .f32 := View.ld (iblk m c 5 t : Vec Ideal S3x2048 .f32) (Rect.unit ![0, o] ![3, 512] (inb (by omega) h))

theorem gCur_at (o : ℕ) (h : o + 512 ≤ 6144) (a : Fin 256) (b : Fin 512) : gCur m c t o h (ix2 a b) = at2 (X m c) (256 * t.val + a.val) (o + b.val) :=
  (View.ld_unit_apply_of _ _ _ _ _ (ix2 a ⟨o + b.val, by omega⟩) (by intro k; fin_cases k <;> simp [ix2])).trans (cur m c t _ _)

theorem gPrev_at (o : ℕ) (h : o + 512 ≤ 6144) (a : Fin 16) (b : Fin 512) : gPrev m c t o h (ix2 a b) = at2 (X m c) (16 * (16 * t.val - 1) + a.val) (o + b.val) :=
  (View.ld_unit_apply_of _ _ _ _ _ (ix2 a ⟨o + b.val, by omega⟩) (by intro k; fin_cases k <;> simp [ix2])).trans (prev m c t _ _)

theorem gNext_at (o : ℕ) (h : o + 512 ≤ 6144) (a : Fin 16) (b : Fin 512) : gNext m c t o h (ix2 a b) = at2 (X m c) (16 * min (16 * t.val + 16) 511 + a.val) (o + b.val) :=
  (View.ld_unit_apply_of _ _ _ _ _ (ix2 a ⟨o + b.val, by omega⟩) (by intro k; fin_cases k <;> simp [ix2])).trans (next m c t _ _)

theorem gDy_at (o : ℕ) (h : o + 512 ≤ 2048) (a : Fin 256) (b : Fin 512) : gDy m c t o h (ix2 a b) = at2 (DY m c) (256 * t.val + a.val) (o + b.val) :=
  (View.ld_unit_apply_of _ _ _ _ _ (ix2 a ⟨o + b.val, by omega⟩) (by intro k; fin_cases k <;> simp [ix2])).trans (dcur m c t _ _)

theorem gDn_at (o : ℕ) (h : o + 512 ≤ 2048) (a : Fin 8) (b : Fin 512) : gDn m c t o h (ix2 a b) = at2 (DY m c) (8 * min (32 * t.val + 32) 1023 + a.val) (o + b.val) :=
  (View.ld_unit_apply_of _ _ _ _ _ (ix2 a ⟨o + b.val, by omega⟩) (by intro k; fin_cases k <;> simp [ix2])).trans (dnext m c t _ _)

theorem gW_at (o : ℕ) (h : o + 512 ≤ 2048) (a : Fin 3) (b : Fin 512) : gW m c t o h (ix2 a b) = at2 (W m c) a.val (o + b.val) :=
  (View.ld_unit_apply_of _ _ _ _ _ (ix2 a ⟨o + b.val, by omega⟩) (by intro k; fin_cases k <;> simp [ix2])).trans (filt m c t _ _)

/-- The chunk's shifted input with its halo. -/
def tE (o : ℕ) (h : o + 512 ≤ 2048) : FVec Ideal S272x512 .f32 :=
  k0_pay8 (grid0.coords t) (gCur m c t (2048 + o) (by omega)) (gCur m c t (4096 + o) (by omega)) (gPrev m c t (2048 + o) (by omega)) (gPrev m c t (4096 + o) (by omega))

/-- The same one row down. -/
def tE1 (o : ℕ) (h : o + 512 ≤ 2048) : FVec Ideal S272x512 .f32 :=
  k0_pay10 (grid0.coords t) (gCur m c t (2048 + o) (by omega)) (gCur m c t (4096 + o) (by omega)) (gPrev m c t (2048 + o) (by omega)) (gPrev m c t (4096 + o) (by omega))

/-- The chunk's gradient with its halo. -/
def tDQ (o : ℕ) (h : o + 512 ≤ 2048) : FVec Ideal S272x512 .f32 :=
  k0_pay9 (grid0.coords t) (gCur m c t o (by omega)) (gDn m c t o h) (gNext m c t o (by omega)) (gDy m c t o h)

theorem tE_at (o : ℕ) (h : o + 512 ≤ 2048) (n : Fin 272) (b : Fin 512) (d : ℕ) (hn : n.val = d + 6) (hd : d < 258) :
    tE m c t o h (ix2 n b) = shifted (X m c) (256 * t.val + d) (o + b.val) := by
  unfold tE
  pointwise [k0_pay8, k0_pay6, k0_pay7, k0_pay5]
  simp only [gCur_at, gPrev_at, dite_eq_ite, Nat.add_assoc, hn]
  exact shifted_tile t (X m c) d (o + b.val) hd

theorem tE1_at (o : ℕ) (h : o + 512 ≤ 2048) (n : Fin 272) (b : Fin 512) (d : ℕ) (hn : n.val = d + 7) (hd : d < 258) :
    tE1 m c t o h (ix2 n b) = shifted (X m c) (256 * t.val + d) (o + b.val) := by
  unfold tE1 k0_pay10
  pointwise
  exact tE_at m c t o h _ b d (by dsimp only; omega) hd

theorem tDQ_at (o : ℕ) (h : o + 512 ≤ 2048) (n : Fin 272) (b : Fin 512) (d : ℕ) (hn : n.val = d + 8) (hd : d < 264) :
    tDQ m c t o h (ix2 n b) = dq (X m c) (DY m c) (256 * t.val + d) (o + b.val) := by
  unfold tDQ
  pointwise [k0_pay9, k0_pay5]
  simp only [gCur_at, gNext_at, gDy_at, gDn_at, dite_eq_ite, Nat.add_assoc, hn]
  exact dq_tile t (X m c) (DY m c) d (o + b.val) hd

/-! ## What a chunk stores of the first result -/

theorem gb_tile (o : ℕ) (h : o + 512 ≤ 2048) (a : Fin 256) (b : Fin 512) :
    k0_pay13 (tE m c t o h) (gDy m c t o h) (gW m c t o h) (tE1 m c t o h) (ix2 a b)
      = dbcx (X m c) (DY m c) (W m c) (256 * t.val + a.val) (o + b.val) := by
  have hb := b.isLt
  generalize hE : tE m c t o h = E
  generalize hE1 : tE1 m c t o h = E1
  pointwise [k0_pay13, k0_pay11]
  rw [dbcx_gb _ _ _ _ _ (by omega)]
  subst hE hE1
  unfold q
  refine congrArg₂ (· * ·) (gDy_at m c t o h a b) (congrArg₂ (· + ·) (congrArg₂ (· + ·) (congrArg₂ (· * ·) (gW_at m c t o h _ b) (tE_at m c t o h _ b a.val ?_ (by omega)))
    (congrArg₂ (· * ·) (gW_at m c t o h _ b) (tE1_at m c t o h _ b (a.val + 1) ?_ (by omega)))) (congrArg₂ (· * ·) (gW_at m c t o h _ b) (tE_at m c t o h _ b (a.val + 2) ?_ (by omega))))
  all_goals dsimp only; omega

theorem dp_tile (o : ℕ) (h : o + 512 ≤ 2048) (a : Fin 256) (b : Fin 512) :
    k0_pay12 (tDQ m c t o h) (gW m c t o h) (ix2 a b) = dp (X m c) (DY m c) (W m c) (256 * t.val + a.val) (o + b.val) := by
  have hb := b.isLt
  generalize hD : tDQ m c t o h = D
  pointwise [k0_pay12]
  subst hD
  unfold dp
  refine congrArg₂ (· + ·) (congrArg₂ (· + ·) (congrArg₂ (· * ·) (gW_at m c t o h _ b) (tDQ_at m c t o h _ b a.val ?_ (by omega)))
    (congrArg₂ (· * ·) (gW_at m c t o h _ b) (tDQ_at m c t o h _ b (a.val + 1) ?_ (by omega)))) (congrArg₂ (· * ·) (gW_at m c t o h _ b) (tDQ_at m c t o h _ b (a.val + 2) ?_ (by omega)))
  all_goals dsimp only; omega

theorem gc_tile (o : ℕ) (h : o + 512 ≤ 2048) (a : Fin 256) (b : Fin 512) :
    k0_pay14 (k0_pay7 (gCur m c t (4096 + o) (by omega))) (tDQ m c t o h) (gW m c t o h) (ix2 a b)
      = dbcx (X m c) (DY m c) (W m c) (256 * t.val + a.val) (2048 + (o + b.val)) := by
  have hb := b.isLt
  rw [dbcx_gc _ _ _ _ _ (by omega), ← Nat.add_assoc 4096]
  exact congrArg₂ (· * ·) (dp_tile m c t o h a b) (gCur_at m c t _ (by omega) a b)

theorem x_tile (o : ℕ) (h : o + 512 ≤ 2048) (a : Fin 256) (b : Fin 512) :
    k0_pay15 (k0_pay6 (gCur m c t (2048 + o) (by omega))) (tDQ m c t o h) (gW m c t o h) (ix2 a b)
      = dbcx (X m c) (DY m c) (W m c) (256 * t.val + a.val) (4096 + (o + b.val)) := by
  rw [dbcx_x, ← Nat.add_assoc 2048]
  exact congrArg₂ (· * ·) (dp_tile m c t o h a b) (gCur_at m c t _ (by omega) a b)

/-! ## What a chunk adds to the second result -/

theorem dw0_tile (o : ℕ) (h : o + 512 ≤ 2048) (P : Vec Ideal S1x512 .f32) (a : Fin 1) (b : Fin 512) :
    k0_pay17 (tE m c t o h) (tDQ m c t o h) P (ix2 a b)
      = P (ix2 a b) + ∑ r : Fin 256, dq (X m c) (DY m c) (256 * t.val + r.val) (o + b.val) * shifted (X m c) (256 * t.val + r.val) (o + b.val) := by
  generalize hD : tDQ m c t o h = D
  generalize hE : tE m c t o h = E
  pointwise [k0_pay17, k0_pay16, k0_pay11]
  subst hD hE
  refine congrArg₂ (· + ·) ?_ (Finset.sum_congr rfl fun r _ => congrArg₂ (· * ·) (tDQ_at m c t o h _ b r.val ?_ (by omega)) (tE_at m c t o h _ b r.val ?_ (by omega)))
  · rfl
  all_goals dsimp only; omega

theorem dw1_tile (o : ℕ) (h : o + 512 ≤ 2048) (P : Vec Ideal S1x512 .f32) (a : Fin 1) (b : Fin 512) :
    k0_pay18 (tE1 m c t o h) (k0_pay16 (tDQ m c t o h)) P (ix2 a b)
      = P (ix2 a b) + ∑ r : Fin 256, dq (X m c) (DY m c) (256 * t.val + r.val) (o + b.val) * shifted (X m c) (256 * t.val + (r.val + 1)) (o + b.val) := by
  generalize hD : tDQ m c t o h = D
  generalize hE : tE1 m c t o h = E
  pointwise [k0_pay18, k0_pay16]
  subst hD hE
  refine congrArg₂ (· + ·) ?_ (Finset.sum_congr rfl fun r _ => congrArg₂ (· * ·) (tDQ_at m c t o h _ b r.val ?_ (by omega)) (tE1_at m c t o h _ b (r.val + 1) ?_ (by omega)))
  · rfl
  all_goals dsimp only; omega

theorem dw2_tile (o : ℕ) (h : o + 512 ≤ 2048) (P : Vec Ideal S1x512 .f32) (a : Fin 1) (b : Fin 512) :
    k0_pay19 (tE m c t o h) (k0_pay16 (tDQ m c t o h)) P (ix2 a b)
      = P (ix2 a b) + ∑ r : Fin 256, dq (X m c) (DY m c) (256 * t.val + r.val) (o + b.val) * shifted (X m c) (256 * t.val + (r.val + 2)) (o + b.val) := by
  generalize hD : tDQ m c t o h = D
  generalize hE : tE m c t o h = E
  pointwise [k0_pay19, k0_pay16]
  subst hD hE
  refine congrArg₂ (· + ·) ?_ (Finset.sum_congr rfl fun r _ => congrArg₂ (· * ·) (tDQ_at m c t o h _ b r.val ?_ (by omega)) (tE_at m c t o h _ b (r.val + 2) ?_ (by omega)))
  · rfl
  all_goals dsimp only; omega

end Cert.Conv.Kernel
end
-- ==== Proof.ConvKernel.lean ====
/-
  What the kernel of the short convolution's backward pass leaves: every grid point its 256 rows of the first result,
  the grid its sum in the second.
-/
module

public import proofs.«01_k».proof.Proof.ConvTile

@[expose] public section

set_option maxRecDepth 16384

noncomputable section

namespace Cert.Conv.Kernel

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ)
variable (c : Dev nD) (t : Fin grid0.N)

/-! ## Stores of chunks as pieces of one function -/

section Pieces

variable {s : Shape} {e : EltTy}

/-- A store through a unit rectangle is a piece of `G` when it is `G` at every index with the stored coordinates. -/
theorem unit_piece (G : s.Idx → Elt Ideal e) (off size : Fin s.rank → ℕ) (h : ∀ a, off a + size a ≤ s.size a)
    (w : (Rect.unit off size h).shape.Idx → Elt Ideal e)
    (hw : ∀ (x : (Rect.unit off size h).shape.Idx) (y : s.Idx), (∀ a, (y a : ℕ) = off a + (x a : ℕ)) → w x = G y)
    (x : (Rect.unit off size h).shape.Idx) : w x = G ((Rect.unit off size h).emb x) :=
  hw x _ fun a => by rw [Rect.emb_apply]; exact Rect.idx_unit_val off size h x a

/-- Off every piece the stores leave what lies under them. -/
theorem canon_under (L L' : List (View.Piece (Elt Ideal) s e)) (y : s.Idx) (hy : ∀ p ∈ L, y ∉ p.1.set) :
    View.canon (L ++ L') y = View.canon L' y := by
  induction L with
  | nil => rfl
  | cons p L ih =>
    rw [List.cons_append, View.canon_cons_of_not_mem _ _ (hy p List.mem_cons_self)]
    exact ih fun q hq => hy q (List.mem_cons_of_mem _ hq)

end Pieces

/-! ## The first result -/

abbrev pGB (o : ℕ) (h : o + 512 ≤ 2048) : View.Piece (Elt Ideal) S256x6144 .bf16 :=
  ⟨Rect.unit ![0, o] ![256, 512] (inb (by omega) (by omega)), k0_pay13 (tE m c t o h) (gDy m c t o h) (gW m c t o h) (tE1 m c t o h)⟩
abbrev pGC (o : ℕ) (h : o + 512 ≤ 2048) : View.Piece (Elt Ideal) S256x6144 .bf16 :=
  ⟨Rect.unit ![0, 2048 + o] ![256, 512] (inb (by omega) (by omega)), k0_pay14 (k0_pay7 (gCur m c t (4096 + o) (by omega))) (tDQ m c t o h) (gW m c t o h)⟩
abbrev pX (o : ℕ) (h : o + 512 ≤ 2048) : View.Piece (Elt Ideal) S256x6144 .bf16 :=
  ⟨Rect.unit ![0, 4096 + o] ![256, 512] (inb (by omega) (by omega)), k0_pay15 (k0_pay6 (gCur m c t (2048 + o) (by omega))) (tDQ m c t o h) (gW m c t o h)⟩

/-- The stores of one grid point, last first. -/
def outPieces : List (View.Piece (Elt Ideal) S256x6144 .bf16) :=
  [pX m c t 1536 (by omega), pGC m c t 1536 (by omega), pGB m c t 1536 (by omega), pX m c t 1024 (by omega), pGC m c t 1024 (by omega), pGB m c t 1024 (by omega),
   pX m c t 512 (by omega), pGC m c t 512 (by omega), pGB m c t 512 (by omega), pX m c t 0 (by omega), pGC m c t 0 (by omega), pGB m c t 0 (by omega)]

/-- The rows of the first result point `t` computes. -/
def outBlock (y : S256x6144.Idx) : EReal := dbcx (X m c) (DY m c) (W m c) (256 * t.val + (y 0).val) (y 1).val

theorem pGB_of (o : ℕ) (h : o + 512 ≤ 2048) : ∀ x, (pGB m c t o h).2 x = outBlock m c t ((pGB m c t o h).1.emb x) :=
  unit_piece (s := S256x6144) (e := .bf16) (outBlock m c t) ![0, o] ![256, 512] (inb (by omega) (by omega)) _ fun (x : S256x512.Idx) y hy => by
    have h0 : (y 0).val = 0 + (x 0).val := hy 0
    have h1 : (y 1).val = o + (x 1).val := hy 1
    unfold outBlock
    rw [h0, h1, Nat.zero_add]
    idx_vars x
    exact gb_tile m c t o h x0 x1

theorem pGC_of (o : ℕ) (h : o + 512 ≤ 2048) : ∀ x, (pGC m c t o h).2 x = outBlock m c t ((pGC m c t o h).1.emb x) :=
  unit_piece (s := S256x6144) (e := .bf16) (outBlock m c t) ![0, 2048 + o] ![256, 512] (inb (by omega) (by omega)) _ fun (x : S256x512.Idx) y hy => by
    have h0 : (y 0).val = 0 + (x 0).val := hy 0
    have h1 : (y 1).val = 2048 + o + (x 1).val := hy 1
    unfold outBlock
    rw [h0, h1, Nat.zero_add, Nat.add_assoc 2048]
    idx_vars x
    exact gc_tile m c t o h x0 x1

theorem pX_of (o : ℕ) (h : o + 512 ≤ 2048) : ∀ x, (pX m c t o h).2 x = outBlock m c t ((pX m c t o h).1.emb x) :=
  unit_piece (s := S256x6144) (e := .bf16) (outBlock m c t) ![0, 4096 + o] ![256, 512] (inb (by omega) (by omega)) _ fun (x : S256x512.Idx) y hy => by
    have h0 : (y 0).val = 0 + (x 0).val := hy 0
    have h1 : (y 1).val = 4096 + o + (x 1).val := hy 1
    unfold outBlock
    rw [h0, h1, Nat.zero_add, Nat.add_assoc 4096]
    idx_vars x
    exact x_tile m c t o h x0 x1

theorem outPieces_of : View.PiecesOf (outBlock m c t) (outPieces m c t) :=
  ⟨pX_of m c t _ _, pGC_of m c t _ _, pGB_of m c t _ _, pX_of m c t _ _, pGC_of m c t _ _, pGB_of m c t _ _,
   pX_of m c t _ _, pGC_of m c t _ _, pGB_of m c t _ _, pX_of m c t _ _, pGC_of m c t _ _, pGB_of m c t _ _, trivial⟩

theorem outPieces_cover (y : S256x6144.Idx) : ∃ p ∈ outPieces m c t, y ∈ p.1.set := by
  have h0 : (y 0).val < 256 := (y 0).isLt
  have h1 : (y 1).val < 6144 := (y 1).isLt
  unfold outPieces
  simp only [List.mem_cons, exists_eq_or_imp, exists_eq_left, List.not_mem_nil, false_and, exists_false, or_false, Rect.mem_set_unit, Fin.forall_fin_two]
  simp only [Matrix.cons_val_zero, Matrix.cons_val_one, Matrix.cons_val_fin_one]
  omega

/-- Point `t` leaves its rows. -/
theorem point_out : (outsAt0 m c t.val t.isLt).1 = outBlock m c t := by
  funext y
  refine Eq.trans ?_ (View.canon_append_of_piecesOf (outBlock m c t) [] (outPieces m c t) (outPieces_of m c t) y (outPieces_cover m c t y))
  by_cases hc : t.val % 32 = 0
  · rw [outsAt0_A m c t hc]
    frame_out
    rfl
  · rw [outsAt0_B m c t hc]
    frame_out
    rfl

/-! ## The second result -/

section Acc

variable (P : Vec Ideal S8x2048 .f32)

abbrev gAcc (k o : ℕ) (hk : k < 3) (h : o + 512 ≤ 2048) : Vec Ideal S1x512 .f32 := View.ld P (Rect.unit ![k, o] ![1, 512] (inb (by omega) (by omega)))
abbrev pDw0 (o : ℕ) (h : o + 512 ≤ 2048) : View.Piece (Elt Ideal) S8x2048 .f32 :=
  ⟨Rect.unit ![0, o] ![1, 512] (inb (by omega) (by omega)), k0_pay17 (tE m c t o h) (tDQ m c t o h) (gAcc P 0 o (by omega) h)⟩
abbrev pDw1 (o : ℕ) (h : o + 512 ≤ 2048) : View.Piece (Elt Ideal) S8x2048 .f32 :=
  ⟨Rect.unit ![1, o] ![1, 512] (inb (by omega) (by omega)), k0_pay18 (tE1 m c t o h) (k0_pay16 (tDQ m c t o h)) (gAcc P 1 o (by omega) h)⟩
abbrev pDw2 (o : ℕ) (h : o + 512 ≤ 2048) : View.Piece (Elt Ideal) S8x2048 .f32 :=
  ⟨Rect.unit ![2, o] ![1, 512] (inb (by omega) (by omega)), k0_pay19 (tE m c t o h) (k0_pay16 (tDQ m c t o h)) (gAcc P 2 o (by omega) h)⟩

/-- The additions of one grid point to an accumulator holding `P`, last first. -/
def accPieces : List (View.Piece (Elt Ideal) S8x2048 .f32) :=
  [pDw2 m c t P 1536 (by omega), pDw1 m c t P 1536 (by omega), pDw0 m c t P 1536 (by omega), pDw2 m c t P 1024 (by omega), pDw1 m c t P 1024 (by omega), pDw0 m c t P 1024 (by omega),
   pDw2 m c t P 512 (by omega), pDw1 m c t P 512 (by omega), pDw0 m c t P 512 (by omega), pDw2 m c t P 0 (by omega), pDw1 m c t P 0 (by omega), pDw0 m c t P 0 (by omega)]

/-- What point `n` adds. -/
def term (n : ℕ) (y : S8x2048.Idx) : EReal :=
  if (y 0).val < 3 then ∑ r : Fin 256, dq (X m c) (DY m c) (256 * n + r.val) (y 1).val * shifted (X m c) (256 * n + r.val + (y 0).val) (y 1).val else 0

def accBlock (y : S8x2048.Idx) : EReal := P y + term m c t.val y

theorem accBlock_at (k o : ℕ) (hk : k < 3) (h : o + 512 ≤ 2048) (x : S1x512.Idx) (y : S8x2048.Idx)
    (hy : ∀ a, (y a : ℕ) = (![k, o] : Fin 2 → ℕ) a + (x a : ℕ)) :
    accBlock m c t P y = gAcc P k o hk h x + ∑ r : Fin 256, dq (X m c) (DY m c) (256 * t.val + r.val) (o + (x 1).val) * shifted (X m c) (256 * t.val + (r.val + k)) (o + (x 1).val) := by
  have hx : (x 0).val < 1 := (x 0).isLt
  have h0 : (y 0).val = k := by have : (y 0).val = k + (x 0).val := hy 0; omega
  have h1 : (y 1).val = o + (x 1).val := hy 1
  unfold accBlock term
  have e : gAcc P k o hk h x = P y := View.ld_unit_apply_of P _ _ _ x y hy
  rw [e, h0, h1, if_pos hk]
  simp only [Nat.add_assoc]

theorem pDw0_of (o : ℕ) (h : o + 512 ≤ 2048) : ∀ x, (pDw0 m c t P o h).2 x = accBlock m c t P ((pDw0 m c t P o h).1.emb x) :=
  unit_piece (s := S8x2048) (e := .f32) (accBlock m c t P) ![0, o] ![1, 512] (inb (by omega) (by omega)) _ fun (x : S1x512.Idx) y hy => by
    rw [accBlock_at m c t P 0 o (by omega) h x y hy]
    idx_vars x
    exact dw0_tile m c t o h _ x0 x1

theorem pDw1_of (o : ℕ) (h : o + 512 ≤ 2048) : ∀ x, (pDw1 m c t P o h).2 x = accBlock m c t P ((pDw1 m c t P o h).1.emb x) :=
  unit_piece (s := S8x2048) (e := .f32) (accBlock m c t P) ![1, o] ![1, 512] (inb (by omega) (by omega)) _ fun (x : S1x512.Idx) y hy => by
    rw [accBlock_at m c t P 1 o (by omega) h x y hy]
    idx_vars x
    exact dw1_tile m c t o h _ x0 x1

theorem pDw2_of (o : ℕ) (h : o + 512 ≤ 2048) : ∀ x, (pDw2 m c t P o h).2 x = accBlock m c t P ((pDw2 m c t P o h).1.emb x) :=
  unit_piece (s := S8x2048) (e := .f32) (accBlock m c t P) ![2, o] ![1, 512] (inb (by omega) (by omega)) _ fun (x : S1x512.Idx) y hy => by
    rw [accBlock_at m c t P 2 o (by omega) h x y hy]
    idx_vars x
    exact dw2_tile m c t o h _ x0 x1

theorem accPieces_of : View.PiecesOf (accBlock m c t P) (accPieces m c t P) :=
  ⟨pDw2_of m c t P _ _, pDw1_of m c t P _ _, pDw0_of m c t P _ _, pDw2_of m c t P _ _, pDw1_of m c t P _ _, pDw0_of m c t P _ _,
   pDw2_of m c t P _ _, pDw1_of m c t P _ _, pDw0_of m c t P _ _, pDw2_of m c t P _ _, pDw1_of m c t P _ _, pDw0_of m c t P _ _, trivial⟩

theorem accPieces_cover (y : S8x2048.Idx) (h : (y 0).val < 3) : ∃ p ∈ accPieces m c t P, y ∈ p.1.set := by
  have h1 : (y 1).val < 2048 := (y 1).isLt
  unfold accPieces
  simp only [List.mem_cons, exists_eq_or_imp, exists_eq_left, List.not_mem_nil, false_and, exists_false, or_false, Rect.mem_set_unit, Fin.forall_fin_two]
  simp only [Matrix.cons_val_zero, Matrix.cons_val_one, Matrix.cons_val_fin_one]
  omega

/-- Rows that nothing is added to. -/
theorem accBlock_off (y : S8x2048.Idx) (h : ¬(y 0).val < 3) : accBlock m c t P y = P y := by
  unfold accBlock term; rw [if_neg h, add_zero]

end Acc

/-- A store over the whole accumulator. -/
theorem canon_full (P : Vec Ideal S8x2048 .f32) :
    View.canon [(⟨Rect.unit ![0, 0] ![8, 2048] inb_S8x2048_S8x2048_0_0, P⟩ : View.Piece (Elt Ideal) S8x2048 .f32)] = P :=
  View.canon_cons_unit_lit (S := S8x2048) (e := .f32) (off := ![0, 0]) inb_S8x2048_S8x2048_0_0 P [] (Fin.forall_fin_two.mpr ⟨rfl, rfl⟩)

/-- The first point starts from zeros. -/
theorem point_acc_first (hc : t.val % 32 = 0) (y : S8x2048.Idx) : (outsAt0 m c t.val t.isLt).2 y = 0 + term m c t.val y := by
  have hz : k0_pay4 (F := Ideal) y = 0 := by pointwise [k0_pay4]
  refine Eq.trans ?_ (congrArg (· + term m c t.val y) hz)
  show _ = accBlock m c t (k0_pay4 (F := Ideal)) y
  rw [outsAt0_A m c t hc]
  frame_open
  simp (disch := decide) only [↓ View.readCov_skip, ↓ View.readCov_cons_toLoadRect, ↓ View.readCov_fill]
  frame_out
  generalize k0_pay4 (F := Ideal) = P
  change View.canon (accPieces m c t P ++ [⟨Rect.unit ![0, 0] ![8, 2048] inb_S8x2048_S8x2048_0_0, P⟩]) y = accBlock m c t P y
  by_cases hy : ∃ p ∈ accPieces m c t P, y ∈ p.1.set
  · exact View.canon_append_of_piecesOf (accBlock m c t P) _ (accPieces m c t P) (accPieces_of m c t P) y hy
  · rw [canon_under _ _ _ fun p hp hm => hy ⟨p, hp, hm⟩, accBlock_off m c t P y fun h => hy (accPieces_cover m c t P y h)]
    rw [canon_full]

/-- Every later point adds to what the point before it left. -/
theorem point_acc_next (hc : ¬t.val % 32 = 0) (y : S8x2048.Idx) :
    (outsAt0 m c t.val t.isLt).2 y = (outsAt0 m c (t.val - 1) (Nat.lt_of_le_of_lt (Nat.sub_le _ _) t.isLt)).2 y + term m c t.val y := by
  show _ = accBlock m c t _ y
  rw [outsAt0_B m c t hc]
  frame_out
  generalize (outsAt0 m c (t.val - 1) _).2 = P
  by_cases hy : ∃ p ∈ accPieces m c t P, y ∈ p.1.set
  · exact View.read_writes_apply_of_pieces _ _ _ (accPieces m c t P) (accPieces_of m c t P).mem y hy
  · refine (View.read_writes_apply_of_forall_not_mem _ _ y (accPieces m c t P) fun p hp hm => hy ⟨p, hp, hm⟩).trans ?_
    rw [accBlock_off m c t P y fun h => hy (accPieces_cover m c t P y h)]
    exact congrFun ((hs0_7 t).read_unread P) y

theorem ix6 : ∀ t : Fin grid0.N, win0_6.index t = ![t.val, 0] := by decide +kernel

/-- The first result after the run. -/
theorem final_out : (dats m 0 c).arrAt 6 cfg0.N = fun y : S8192x6144.Idx => dbcx (X m c) (DY m c) (W m c) (y 0).val (y 1).val := by
  refine (dats m 0 c).arrAt_eq_of_covers 6 _ (by decide +kernel) fun t hf y => ?_
  blk_simp
  rw [after0_6, point_out, ix6]
  show dbcx _ _ _ (256 * t.val + (y 0).val) (y 1).val = dbcx _ _ _ (t.val * 256 + (y 0).val) (0 * 6144 + (y 1).val)
  rw [Nat.mul_comm, Nat.zero_mul, Nat.zero_add]

/-- Sums over the rows of all points are sums over all rows. -/
theorem sum_rows (f : ℕ → EReal) : ∑ n : Fin 32, ∑ r : Fin 256, f (256 * n.val + r.val) = ∑ r : Fin 8192, f r.val := by
  rw [← Fin.sum_univ_mul_divmod 32 256 fun a b => f (256 * a + b)]
  exact Finset.sum_congr rfl fun r _ => congrArg f (Nat.div_add_mod _ _)

theorem term_sum (j : S8x2048.Idx) : ∑ n : Fin cfg0.N, term m c n.val j = dw (X m c) (DY m c) (j 0).val (j 1).val := by
  unfold term dw
  by_cases h : (j 0).val < 3
  · simp only [if_pos h]
    exact sum_rows fun r => dq (X m c) (DY m c) r (j 1).val * shifted (X m c) (r + (j 0).val) (j 1).val
  · simp only [if_neg h, Finset.sum_const_zero]

/-- The last grid point. -/
abbrev last' : Fin cfg0.N := ⟨31, by rw [show cfg0.N = 32 from N_0]; decide⟩

/-- The second result after the run. -/
theorem final_acc : (dats m 0 c).arrAt 7 cfg0.N = fun y : S8x2048.Idx => dw (X m c) (DY m c) (y 0).val (y 1).val := by
  refine Dat.arrAt_eq_of_after_last (dats m 0 c) 7 last' (by decide +kernel) _ fun j => ?_
  blk_simp
  rw [after0_7]
  rw [Pipeline.eq_sum_fin_of_reset_step_apply_last (fun n h => (outsAt0 m c n h).2) 32 (fun _ => 0) (fun n => term m c n.val)
    (fun t h j => point_acc_first m c t h j) (fun t h j => point_acc_next m c t h j) (le_of_eq N_0) last' rfl, zero_add]
  exact term_sum m c j

/-- The run, read. -/
theorem run (ρ : Dev nD → PrngReg) : θ_run defs (onTc (τ := τ) (main (F := Ideal))) ⟨m, fun _ => 0, ρ⟩ fun r => ∀ c : Dev nD,
    r.2.mem ((c : Thread nD τ).loc main_v0_0) = (fun y : S8192x6144.Idx => dbcx (X m c) (DY m c) (W m c) (y 0).val (y 1).val)
    ∧ r.2.mem ((c : Thread nD τ).loc main_v0_1) = (fun y : S8x2048.Idx => dw (X m c) (DY m c) (y 0).val (y 1).val) := by
  refine (θ_run defs _ _).mono (fun _ h c => ⟨((h c).1 6).trans (final_out m c), ((h c).1 7).trans (final_acc m c)⟩) (run_main m ρ)

end Cert.Conv.Kernel

end
-- ==== Proof.ConvRef.lean ====
/-
  What the reference of the short convolution's backward pass computes, read at an index: the functions of
  `ConvSpec.lean`.
-/
module

public import proofs.«01_k».proof.Proof.ConvSpec
public import proofs.«01_k».proof.Proof.Gen.ReferenceIdeal.Read

@[expose] public section

set_option maxRecDepth 16384

noncomputable section

namespace Cert.Conv.Ref

open Idealize.ShloMosaic Cert.ReferenceIdeal Cert.ReferenceIdeal.Read Cert.Conv

variable (x : M6144.Idx → EReal) (dy : M2048.Idx → EReal) (w : M3.Idx → EReal)

/-- The padded, gated input. -/
theorem v6 (k : Fin 8194) (l : Fin 2048) : val_main_v6 (F := Ideal) x (ix2 k l) = shifted x k.val l.val := by
  pointwise [val_main_v6, val_main_v5, val_main_v4, val_main_v3, val_main_v2, val_main_v0, val_main_cst]
  unfold shifted
  split
  · rfl
  · rw [at2_of x _ _ rfl rfl, at2_of x _ _ rfl rfl]

theorem v29 (r : Fin 8192) (l : Fin 2048) : val_main_v29 (F := Ideal) x dy (ix2 r l) = dq x dy r.val l.val := by
  pointwise [val_main_v29, val_main_v1, val_main_v0]
  unfold dq
  rw [mul_comm, at2_of x _ _ rfl rfl, at2_ix2 dy]
theorem v27 (r : Fin 8192) (l : Fin 2048) : val_main_v27 (F := Ideal) x w (ix2 r l) = q x w r.val l.val := by
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8]
  unfold q
  simp only [v6, at2_ix2 w]
  simp only [Nat.add_comm 1 r.val, Nat.add_comm 2 r.val, mul_comm (shifted _ _ _)]
  rfl
theorem v63 (r : Fin 8192) (l : Fin 2048) : val_main_v63 (F := Ideal) x dy w (ix2 r l) = dp x dy w r.val l.val := by
  pointwise [val_main_v63, val_main_v61, val_main_v60, val_main_v55, val_main_v54,val_main_v50, val_main_v49, val_main_v44, val_main_v43, val_main_v39, val_main_v35, val_main_v34,
    val_main_v24, val_main_v23, val_main_v22, val_main_v17, val_main_v16, val_main_v15, val_main_v11, val_main_v10, val_main_v9, val_main_cst_4, val_main_cst_8, val_main_cst_12]
  unfold dp
  have e1 : (2 + r.val - 1) = r.val + 1 := by omega
  have e2 : (2 + r.val) = r.val + 2 := by omega
  simp only [v29, at2_ix2 w, e1, e2, mul_comm (dq _ _ _ _)]
  congr 1
  · congr 1
    split
    · rfl
    · rw [dq_row x dy (by omega), mul_zero]
  · split
    · rfl
    · rw [dq_row x dy (by omega), mul_zero]

theorem v59 (k : Fin 3) (l : Fin 2048) : val_main_v59 (F := Ideal) x dy (ix2 k l) = dw x dy k.val l.val := by
  pointwise [val_main_v59, val_main_v58, val_main_v57, val_main_v56, val_main_v53, val_main_v52, val_main_v51, val_main_v48, val_main_v47, val_main_v46, val_main_v45, val_main_v42, val_main_v41, val_main_v40, val_main_v38, val_main_v37, val_main_v36, val_main_v33, val_main_v32, val_main_v31, val_main_v21, val_main_v14, val_main_v8, val_main_cst_1, val_main_cst_2, val_main_cst_3, val_main_cst_5, val_main_cst_6, val_main_cst_7, val_main_cst_9, val_main_cst_10, val_main_cst_11]
  unfold dw
  simp only [v6, v29, Finset.univ_unique, Finset.sum_const, Finset.card_singleton, one_smul]
  rw [if_pos k.isLt]
  fin_cases k <;> simp [mul_comm (dq _ _ _ _), Nat.add_comm]

/-- The reference's first result. -/
theorem v67 (r : Fin 8192) (c : Fin 6144) : val_main_v67 (F := Ideal) x dy w (ix2 r c) = dbcx x dy w r.val c.val := by
  pointwise [val_main_v67, val_main_v66, val_main_v65, val_main_v64, val_main_v30, val_main_v3, val_main_v2, val_main_v0]
  unfold dbcx
  simp only [v27, v63]
  split
  · exact congrArg (· * _) (at2_of dy _ _ rfl rfl)
  · split
    · rename_i h
      have h' : c.val < 4096 := by omega
      exact (congrArg (dp x dy w r.val (c.val - 2048) * ·) (at2_of x _ _ rfl (show 4096 + (c.val - 2048) = c.val + 2048 by omega))).trans
        (if_pos h').symm
    · rename_i h
      have h' : ¬c.val < 4096 := by omega
      rw [if_neg h']
      have e : c.val - 2048 - 2048 = c.val - 4096 := by omega
      have e' : 2048 + (c.val - 2048 - 2048) = c.val - 2048 := by omega
      refine (mul_comm _ _).trans (congrArg₂ (· * ·) ?_ ?_)
      · exact congrArg (dp x dy w r.val) e
      · exact at2_of x _ _ rfl e'

/-- The reference's second result. -/
theorem v68 (k : Fin 8) (c : Fin 2048) : val_main_v68 (F := Ideal) x dy (ix2 k c) = dw x dy k.val c.val := by
  pointwise [val_main_v68, val_main_call0_v0, val_main_c]
  by_cases h : k.val < 3
  · rw [dif_pos h, v59]
  · rw [dif_neg h]
    unfold dw
    rw [if_neg h]
    show (((0#32 : BitVec 32).toInt : ℝ) : EReal) = 0
    simp

end Cert.Conv.Ref

end
-- ==== Proof.ConvClaim.lean ====
/-
  The short convolution's backward pass: the kernel's two results are the reference's.
-/
module

public import proofs.«01_k».proof.Defs
public import proofs.«01_k».proof.Proof.ConvKernel
public import proofs.«01_k».proof.Proof.ConvRef
public import proofs.«01_k».proof.Proof.Gen.KernelIdeal.Value

@[expose] public section

set_option maxRecDepth 16384

noncomputable section

namespace Cert.Conv

open Idealize.ShloMosaic Idealize.ShloMosaic.TcCoe Idealize.SL.Sem

/-- The first result of the arguments. -/
def res0 (x : M6144.Idx → EReal) (dy : M2048.Idx → EReal) (w : M3.Idx → EReal) : M6144.Idx → EReal :=
  fun y => dbcx x dy w (y 0).val (y 1).val

/-- The second. -/
def res1 (x : M6144.Idx → EReal) (dy : M2048.Idx → EReal) : (⟨2, ![8, 2048]⟩ : Shape).Idx → EReal :=
  fun y => dw x dy (y 0).val (y 1).val

/-- The reference's first result. -/
theorem ref0 (x : M6144.Idx → EReal) (dy : M2048.Idx → EReal) (w : M3.Idx → EReal) :
    Cert.ReferenceIdeal.Read.val_main_v67 (F := Ideal) x dy w = res0 x dy w := by
  funext y
  idx_vars y
  exact Ref.v67 x dy w y0 y1

/-- The reference's second. -/
theorem ref1 (x : M6144.Idx → EReal) (dy : M2048.Idx → EReal) :
    Cert.ReferenceIdeal.Read.val_main_v68 (F := Ideal) x dy = res1 x dy := by
  funext y
  idx_vars y
  exact Ref.v68 x dy y0 y1

/-- The kernel's run: both results, and the arguments as launched. -/
theorem runP (m : (ℓ : Loc Cert.KernelIdeal.nD Cert.KernelIdeal.τ Cert.KernelIdeal.sig) → Buf (Elt Ideal) ℓ) (ρ : Dev Cert.KernelIdeal.nD → PrngReg) :
    θ_run Cert.KernelIdeal.defs (onTc (τ := Cert.KernelIdeal.τ) (Cert.KernelIdeal.main (F := Ideal))) ⟨m, fun _ => 0, ρ⟩ fun r => ∀ c : Dev Cert.KernelIdeal.nD,
      r.2.mem ((c : Thread Cert.KernelIdeal.nD Cert.KernelIdeal.τ).loc Cert.KernelIdeal.main_v0_0) = res0 (Kernel.X m c) (Kernel.DY m c) (Kernel.W m c)
      ∧ r.2.mem ((c : Thread Cert.KernelIdeal.nD Cert.KernelIdeal.τ).loc Cert.KernelIdeal.main_v0_1) = res1 (Kernel.X m c) (Kernel.DY m c)
      ∧ r.2.mem ((c : Thread Cert.KernelIdeal.nD Cert.KernelIdeal.τ).loc Cert.KernelIdeal.main_arg0) = m ((c : Thread Cert.KernelIdeal.nD Cert.KernelIdeal.τ).loc Cert.KernelIdeal.main_arg0)
      ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
      ∧ r.2.mem ((c : Thread Cert.KernelIdeal.nD Cert.KernelIdeal.τ).loc Cert.KernelIdeal.main_arg2) = m ((c : Thread Cert.KernelIdeal.nD Cert.KernelIdeal.τ).loc Cert.KernelIdeal.main_arg2) :=
  (θ_run Cert.KernelIdeal.defs _ _).mono
    (fun r h c => ⟨((h c).1 6).trans (Kernel.final_out m c), ((h c).1 7).trans (Kernel.final_acc m c), Cert.KernelIdeal.Value.kept_main_arg0 m r h c,
      Cert.KernelIdeal.Value.kept_main_arg1 m r h c, Cert.KernelIdeal.Value.kept_main_arg2 m r h c⟩)
    (Cert.KernelIdeal.Gen.run_main m ρ)

/-- The reference leaves its arguments, and it has no semaphores. -/
theorem frameR : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- Kernel and reference leave the same arrays. -/
theorem algebraic : Cert.algebraic_KernelIdeal_ReferenceIdeal := by
  intro m ρ m' ρ' _ hag
  refine ⟨fun c => res0 (Kernel.X m c) (Kernel.DY m c) (Kernel.W m c), fun c => res1 (Kernel.X m c) (Kernel.DY m c), runP m ρ, ?_⟩
  refine (θ_run Cert.ReferenceIdeal.defs _ _).mono (fun _ h c => ⟨?_, ?_, (h c).2.2⟩) (Cert.ReferenceIdeal.Value.run (F := Ideal) m' ρ')
  · refine ((h c).1.trans (Cert.ReferenceIdeal.Read.val_main_v67_eq m' c)).trans ?_
    rw [(hag c).1, (hag c).2.1, (hag c).2.2]
    exact ref0 _ _ _
  · refine ((h c).2.1.trans (Cert.ReferenceIdeal.Read.val_main_v68_eq _ _)).trans ?_
    rw [(hag c).1, (hag c).2.1]
    exact ref1 _ _

end Cert.Conv

end
-- ==== Proof.Prod.lean ====
/-
  Products of matrices in tiles: a sum over all inner positions as sums over tiles of them.
-/
module

public import proofs.«01_k».proof.Proof.ConvSpec
public import Idealize.ShloMosaic.Lib.Pipeline.ValueKit

@[expose] public section

noncomputable section

namespace Cert.Prod

open Idealize.ShloMosaic Cert.Conv

/-- Sums over the positions of all tiles are sums over all positions. -/
theorem sum_tiles (A B : ℕ) (f : ℕ → EReal) : ∑ n : Fin A, ∑ r : Fin B, f (B * n.val + r.val) = ∑ r : Fin (A * B), f r.val := by
  rw [← Fin.sum_univ_mul_divmod A B fun a b => f (B * a + b)]
  exact Finset.sum_congr rfl fun r _ => congrArg f (Nat.div_add_mod _ _)

/-- The inner product of two sequences over the `B` positions of tile `n`. -/
def tile (B : ℕ) (f g : ℕ → EReal) (n : ℕ) : EReal := ∑ r : Fin B, f (B * n + r.val) * g (B * n + r.val)

/-- The inner product over the first `K` positions. -/
def dot (K : ℕ) (f g : ℕ → EReal) : EReal := ∑ r : Fin K, f r.val * g r.val

theorem dot_comm (K : ℕ) (f g : ℕ → EReal) : dot K f g = dot K g f := Finset.sum_congr rfl fun _ _ => mul_comm _ _

theorem tile_one (K : ℕ) (f g : ℕ → EReal) : tile K f g 0 = dot K f g := by simp only [tile, dot, Nat.mul_zero, Nat.zero_add]

/-- Two tiles, added in order. -/
theorem tile_two {K B : ℕ} (h : K = 2 * B) (f g : ℕ → EReal) : tile B f g 0 + tile B f g 1 = dot K f g := by
  rw [h, dot, ← sum_tiles 2 B fun r => f r * g r, Fin.sum_univ_two]; rfl

/-- Four tiles, added in order. -/
theorem tile_four {K B : ℕ} (h : K = 4 * B) (f g : ℕ → EReal) : tile B f g 0 + tile B f g 1 + tile B f g 2 + tile B f g 3 = dot K f g := by
  rw [h, dot, ← sum_tiles 4 B fun r => f r * g r, Fin.sum_univ_four]; rfl

end Cert.Prod

end
-- ==== Proof.UpW.lean ====
/-
  The gradient of the feed-forward layer's up projection with respect to its weights: the input, transposed, times the
  gradient of the projection's result. Two grid points share a tile of the result, one for each half of the rows.
-/
module

public import proofs.«01_k».proof.Defs
public import proofs.«01_k».proof.Proof.Prod
public import proofs.«01_k».proof.Proof.Gen.Kernel2Ideal.Value
public import proofs.«01_k».proof.Proof.Gen.Reference2Ideal.Read
public import Idealize.ShloMosaic.Lib.Pipeline.ReadBack

@[expose] public section

set_option maxRecDepth 16384

noncomputable section

namespace Cert.UpW

open Idealize.ShloMosaic Idealize.ShloMosaic.TcCoe Idealize.SL.Sem
open Cert.Kernel2Ideal Cert.Kernel2Ideal.Gen Cert.Prod Cert.Conv
open Idealize.ShloMosaic.Pipeline (Dat)

/-- The result: at row `i` and column `j` the inner product of two columns. -/
def res (x : S8192x2048.Idx → EReal) (d : S8192x11264.Idx → EReal) : S2048x11264.Idx → EReal :=
  fun y => dot 8192 (fun k => at2 x k (y 0).val) fun k => at2 d k (y 1).val

/-- The reference's result. -/
theorem ref (x : S8192x2048.Idx → EReal) (d : S8192x11264.Idx → EReal) : Cert.Reference2Ideal.Read.val_main_v6 (F := Ideal) x d = res x d := by
  funext y
  idx_vars y
  pointwise [Cert.Reference2Ideal.Read.val_main_v6, Cert.Reference2Ideal.Read.val_main_v5, Cert.Reference2Ideal.Read.val_main_v4,
    Cert.Reference2Ideal.Read.val_main_v3, Cert.Reference2Ideal.Read.val_main_v1]
  exact Finset.sum_congr rfl fun k _ => (mul_comm _ _).trans (congrArg₂ (· * ·) (at2_ix2 x _ _) (at2_ix2 d _ _))

variable (m : (ℓ : Loc nD τ sig) → Buf (Elt Ideal) ℓ) (c : Dev nD) (t : Fin grid0.N)

abbrev X : S8192x2048.Idx → EReal := m ((c.tc : Thread nD τ).loc main_arg0)
abbrev D : S8192x11264.Idx → EReal := m ((c.tc : Thread nD τ).loc main_arg1)

theorem ix0 : ∀ t : Fin grid0.N, win0_0.index t = ![t.val % 2, t.val / 22] := by decide +kernel
theorem ix1 : ∀ t : Fin grid0.N, win0_1.index t = ![t.val % 2, t.val / 2 % 11] := by decide +kernel
theorem ix2' : ∀ t : Fin grid0.N, win0_2.index t = ![t.val / 22, t.val / 2 % 11] := by decide +kernel

theorem blk0 (r : Fin 4096) (l : Fin 1024) :
    (iblk m c 0 t : S4096x1024.Idx → EReal) (ix2 r l) = at2 (X m c) (4096 * (t.val % 2) + r.val) (1024 * (t.val / 22) + l.val) := by
  have := lt_of_lt_of_eq t.isLt N_0
  rw [← at2_of (X m c) ⟨4096 * (t.val % 2) + r.val, by omega⟩ ⟨1024 * (t.val / 22) + l.val, by omega⟩ rfl rfl]
  blk_ext [iblk, V, ix0 t]

theorem blk1 (r : Fin 4096) (l : Fin 1024) :
    (iblk m c 1 t : S4096x1024.Idx → EReal) (ix2 r l) = at2 (D m c) (4096 * (t.val % 2) + r.val) (1024 * (t.val / 2 % 11) + l.val) := by
  have := lt_of_lt_of_eq t.isLt N_0
  rw [← at2_of (D m c) ⟨4096 * (t.val % 2) + r.val, by omega⟩ ⟨1024 * (t.val / 2 % 11) + l.val, by omega⟩ rfl rfl]
  blk_ext [iblk, V, ix1 t]

/-- One grid point's product. -/
theorem part (i j : Fin 1024) : (k0_pay1 (F := Ideal) (iblk m c 0 t) (iblk m c 1 t) : S1024x1024.Idx → EReal) (ix2 i j)
    = tile 4096 (fun k => at2 (X m c) k (1024 * (t.val / 22) + i.val)) (fun k => at2 (D m c) k (1024 * (t.val / 2 % 11) + j.val)) (t.val % 2) := by
  pointwise [k0_pay1]
  simp only [blk0, blk1]
  rfl

/-- The first of two points stores its product. -/
theorem first (h : t.val % 2 = 0) : (outsAt0 m c t.val t.isLt).2 = k0_pay1 (F := Ideal) (iblk m c 0 t) (iblk m c 1 t) := by
  rw [outsAt0_A m c t h (by omega)]
  frame_out
  funext y
  idx_vars y
  pointwise [k0_pay2]

/-- The second adds its own and leaves the tile. -/
theorem out (h : t.val % 2 = 1) : (outsAt0 m c t.val t.isLt).1 = fun y : S1024x1024.Idx =>
    dot 8192 (fun k => at2 (X m c) k (1024 * (t.val / 22) + (y 0).val)) fun k => at2 (D m c) k (1024 * (t.val / 2 % 11) + (y 1).val) := by
  have ht := lt_of_lt_of_eq t.isLt N_0
  have e : (outsAt0 m c (t.val - 1) (Nat.lt_of_le_of_lt (Nat.sub_le _ _) t.isLt)).2 = _ := first m c ⟨t.val - 1, by omega⟩ (show (t.val - 1) % 2 = 0 by omega)
  rw [outsAt0_B m c t (by omega) h]
  frame_out
  rw [(Memref.isWhole_whole _).read_unread, e]
  funext y
  idx_vars y
  pointwise [k0_pay4]
  rw [part, part]
  dsimp only
  rw [h, show (t.val - 1) % 2 = 0 by omega, show (t.val - 1) / 22 = t.val / 22 by omega, show (t.val - 1) / 2 % 11 = t.val / 2 % 11 by omega]
  exact tile_two rfl _ _

/-- The result after the run. -/
theorem final : (dats m 0 c).arrAt 2 cfg0.N = res (X m c) (D m c) := by
  unfold res
  refine (dats m 0 c).arrAt_eq_of_covers 2 _ (by decide +kernel) fun t hf y => ?_
  blk_simp
  rw [after0_2, out m c t ((flush0_2 t).mp hf), ix2']
  show dot _ _ _ = dot 8192 (fun k => at2 _ k (t.val / 22 * 1024 + (y 0).val)) fun k => at2 _ k (t.val / 2 % 11 * 1024 + (y 1).val)
  simp only [Nat.mul_comm]

/-- Kernel and reference leave the same array. -/
theorem algebraic : Cert.algebraic_Kernel2Ideal_Reference2Ideal := by
  intro m ρ m' ρ' _ hag
  refine ⟨fun c => res (X m c) (D m c), (θ_run defs _ _).mono (fun _ h c => ⟨(h c).1.trans (final m c), (h c).2⟩) (Cert.Kernel2Ideal.Value.run_blocks (F := Ideal) m ρ), ?_⟩
  refine (θ_run Cert.Reference2Ideal.defs _ _).mono (fun _ h c => ⟨((h c).1.trans (Cert.Reference2Ideal.Read.val_main_v6_eq _ _)).trans ?_, (h c).2⟩)
    (Cert.Reference2Ideal.Value.run (F := Ideal) m' ρ')
  rw [(hag c).1, (hag c).2]
  exact ref _ _

/-- The reference leaves its arguments. -/
theorem frameR : Cert.quiescent_Reference2Ideal := fun m ρ _ =>
  (θ_run Cert.Reference2Ideal.defs _ _).mono (fun r h => ⟨fun c => (h c).2, sem_eq_zero_of_no_sems (by decide) r.2⟩) (Cert.Reference2Ideal.Value.run (F := Ideal) m ρ)

end Cert.UpW

end
-- ==== Proof.UpX.lean ====
/-
  The gradient of the feed-forward layer's up projection with respect to its input: the gradient of the projection's
  result times the weights, transposed. Four grid points share a tile of the result, one for each quarter of the inner
  positions; the sum is carried between them.
-/
module

public import proofs.«01_k».proof.Defs
public import proofs.«01_k».proof.Proof.Prod
public import proofs.«01_k».proof.Proof.Gen.Kernel3Ideal.Value
public import proofs.«01_k».proof.Proof.Gen.Reference3Ideal.Read
public import Idealize.ShloMosaic.Lib.Pipeline.ReadBack

@[expose] public section

set_option maxRecDepth 16384

noncomputable section

namespace Cert.UpX

open Idealize.ShloMosaic Idealize.ShloMosaic.TcCoe Idealize.SL.Sem
open Cert.Kernel3Ideal Cert.Kernel3Ideal.Gen Cert.Prod Cert.Conv
open Idealize.ShloMosaic.Pipeline (Dat)

/-- The result: at row `i` and column `j` the inner product of two rows. -/
def res (d : S8192x11264.Idx → EReal) (w : S2048x11264.Idx → EReal) : S8192x2048.Idx → EReal :=
  fun y => dot 11264 (fun k => at2 d (y 0).val k) fun k => at2 w (y 1).val k

/-- The reference's result. -/
theorem ref (d : S8192x11264.Idx → EReal) (w : S2048x11264.Idx → EReal) : Cert.Reference3Ideal.Read.val_main_v5 (F := Ideal) d w = res d w := by
  funext y
  idx_vars y
  pointwise [Cert.Reference3Ideal.Read.val_main_v5, Cert.Reference3Ideal.Read.val_main_v4, Cert.Reference3Ideal.Read.val_main_v3,
    Cert.Reference3Ideal.Read.val_main_v1]
  exact Finset.sum_congr rfl fun k _ => congrArg₂ (· * ·) (at2_ix2 d _ _) (at2_ix2 w _ _)

variable (m : (ℓ : Loc nD τ sig) → Buf (Elt Ideal) ℓ) (c : Dev nD) (t : Fin grid0.N)

abbrev D : S8192x11264.Idx → EReal := m ((c.tc : Thread nD τ).loc main_arg0)
abbrev W : S2048x11264.Idx → EReal := m ((c.tc : Thread nD τ).loc main_arg1)

theorem ix0 : ∀ t : Fin grid0.N, win0_0.index t = ![t.val / 8, t.val % 4] := by decide +kernel
theorem ix1 : ∀ t : Fin grid0.N, win0_1.index t = ![t.val / 4 % 2, t.val % 4] := by decide +kernel
theorem ix2' : ∀ t : Fin grid0.N, win0_2.index t = ![t.val / 8, t.val / 4 % 2] := by decide +kernel

theorem blk0 (r : Fin 1024) (l : Fin 2816) :
    (iblk m c 0 t : S1024x2816.Idx → EReal) (ix2 r l) = at2 (D m c) (1024 * (t.val / 8) + r.val) (2816 * (t.val % 4) + l.val) := by
  have := lt_of_lt_of_eq t.isLt N_0
  rw [← at2_of (D m c) ⟨1024 * (t.val / 8) + r.val, by omega⟩ ⟨2816 * (t.val % 4) + l.val, by omega⟩ rfl rfl]
  blk_ext [iblk, V, ix0 t]

theorem blk1 (r : Fin 1024) (l : Fin 2816) :
    (iblk m c 1 t : S1024x2816.Idx → EReal) (ix2 r l) = at2 (W m c) (1024 * (t.val / 4 % 2) + r.val) (2816 * (t.val % 4) + l.val) := by
  have := lt_of_lt_of_eq t.isLt N_0
  rw [← at2_of (W m c) ⟨1024 * (t.val / 4 % 2) + r.val, by omega⟩ ⟨2816 * (t.val % 4) + l.val, by omega⟩ rfl rfl]
  blk_ext [iblk, V, ix1 t]

/-- One grid point's product. -/
theorem part (i j : Fin 1024) : (k0_pay1 (F := Ideal) (iblk m c 0 t) (iblk m c 1 t) : S1024x1024.Idx → EReal) (ix2 i j)
    = tile 2816 (fun k => at2 (D m c) (1024 * (t.val / 8) + i.val) k) (fun k => at2 (W m c) (1024 * (t.val / 4 % 2) + j.val) k) (t.val % 4) := by
  pointwise [k0_pay1]
  simp only [blk0, blk1]
  rfl

/-- The sum carried after grid point `n`. -/
abbrev acc (n : ℕ) (h : n < cfg0.N) : S1024x1024.Idx → EReal := (outsAt0 m c n h).2

/-- The first of four points stores its product. -/
theorem first (h : t.val % 4 = 0) : acc m c t.val t.isLt = k0_pay1 (F := Ideal) (iblk m c 0 t) (iblk m c 1 t) := by
  rw [acc, outsAt0_A m c t h (by omega) (by omega)]
  frame_out
  funext y
  idx_vars y
  pointwise [k0_pay2]

/-- The second and the third add theirs. -/
theorem next (h : 1 ≤ t.val % 4 ∧ t.val % 4 ≤ 2) (y : S1024x1024.Idx) : acc m c t.val t.isLt y
    = acc m c (t.val - 1) (Nat.lt_of_le_of_lt (Nat.sub_le _ _) t.isLt) y + k0_pay1 (F := Ideal) (iblk m c 0 t) (iblk m c 1 t) y := by
  rw [acc, outsAt0_B m c t (by omega) h (by omega)]
  frame_out
  rw [(Memref.isWhole_whole _).read_unread]
  idx_vars y
  pointwise [k0_pay3]

/-- The fourth adds its own and leaves the tile. -/
theorem last (h : t.val % 4 = 3) (y : S1024x1024.Idx) : (outsAt0 m c t.val t.isLt).1 y
    = acc m c (t.val - 1) (Nat.lt_of_le_of_lt (Nat.sub_le _ _) t.isLt) y + k0_pay1 (F := Ideal) (iblk m c 0 t) (iblk m c 1 t) y := by
  rw [outsAt0_C m c t (by omega) (by omega) h]
  frame_out
  rw [(Memref.isWhole_whole _).read_unread]
  idx_vars y
  pointwise [k0_pay4]

/-- What four points have computed. -/
theorem out (h : t.val % 4 = 3) : (outsAt0 m c t.val t.isLt).1 = fun y : S1024x1024.Idx =>
    dot 11264 (fun k => at2 (D m c) (1024 * (t.val / 8) + (y 0).val) k) fun k => at2 (W m c) (1024 * (t.val / 4 % 2) + (y 1).val) k := by
  have ht := lt_of_lt_of_eq t.isLt N_0
  obtain ⟨n, hn⟩ : ∃ n, t.val = 4 * n + 3 := ⟨t.val / 4, by omega⟩
  obtain ⟨_, hlt⟩ := t
  subst hn
  funext y
  have e2 := next m c ⟨4 * n + 2, by omega⟩ (by dsimp only; omega) y
  have e1 := next m c ⟨4 * n + 1, by omega⟩ (by dsimp only; omega) y
  have e0 := congrFun (first m c ⟨4 * n, by omega⟩ (by dsimp only; omega)) y
  refine (last m c ⟨4 * n + 3, hlt⟩ h y).trans ?_
  refine (congrArg (· + _) (e2.trans (congrArg (· + _) (e1.trans (congrArg (· + _) e0))))).trans ?_
  idx_vars y
  rw [part, part, part, part]
  dsimp only
  rw [show (4 * n) % 4 = 0 by omega, show (4 * n + 1) % 4 = 1 by omega, show (4 * n + 2) % 4 = 2 by omega, show (4 * n + 3) % 4 = 3 by omega,
    show (4 * n) / 8 = n / 2 by omega, show (4 * n + 1) / 8 = n / 2 by omega, show (4 * n + 2) / 8 = n / 2 by omega, show (4 * n + 3) / 8 = n / 2 by omega,
    show (4 * n) / 4 = n by omega, show (4 * n + 1) / 4 = n by omega, show (4 * n + 2) / 4 = n by omega, show (4 * n + 3) / 4 = n by omega]
  exact tile_four rfl _ _

/-- The result after the run. -/
theorem final : (dats m 0 c).arrAt 2 cfg0.N = res (D m c) (W m c) := by
  unfold res
  refine (dats m 0 c).arrAt_eq_of_covers 2 _ (by decide +kernel) fun t hf y => ?_
  blk_simp
  rw [after0_2, out m c t ((flush0_2 t).mp hf), ix2']
  show dot _ _ _ = dot 11264 (fun k => at2 _ (t.val / 8 * 1024 + (y 0).val) k) fun k => at2 _ (t.val / 4 % 2 * 1024 + (y 1).val) k
  simp only [Nat.mul_comm]

/-- Kernel and reference leave the same array. -/
theorem algebraic : Cert.algebraic_Kernel3Ideal_Reference3Ideal := by
  intro m ρ m' ρ' _ hag
  refine ⟨fun c => res (D m c) (W m c), (θ_run defs _ _).mono (fun _ h c => ⟨(h c).1.trans (final m c), (h c).2⟩) (Cert.Kernel3Ideal.Value.run_blocks (F := Ideal) m ρ), ?_⟩
  refine (θ_run Cert.Reference3Ideal.defs _ _).mono (fun _ h c => ⟨((h c).1.trans (Cert.Reference3Ideal.Read.val_main_v5_eq _ _)).trans ?_, (h c).2⟩)
    (Cert.Reference3Ideal.Value.run (F := Ideal) m' ρ')
  rw [(hag c).1, (hag c).2]
  exact ref _ _

/-- The reference leaves its arguments. -/
theorem frameR : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)

end Cert.UpX

end
-- ==== Proof.DownW.lean ====
/-
  The gradient of the feed-forward layer's down projection with respect to its weights: the layer's activations, transposed,
  times the gradient of the projection's result. Four grid points share a tile of the result, one for each quarter of the
  rows; the sum is carried between them.
-/
module

public import proofs.«01_k».proof.Defs
public import proofs.«01_k».proof.Proof.Prod
public import proofs.«01_k».proof.Proof.Gen.Kernel4Ideal.Value
public import proofs.«01_k».proof.Proof.Gen.Reference4Ideal.Read
public import Idealize.ShloMosaic.Lib.Pipeline.ReadBack

@[expose] public section

set_option maxRecDepth 16384

noncomputable section

namespace Cert.DownW

open Idealize.ShloMosaic Idealize.ShloMosaic.TcCoe Idealize.SL.Sem
open Cert.Kernel4Ideal Cert.Kernel4Ideal.Gen Cert.Prod Cert.Conv
open Idealize.ShloMosaic.Pipeline (Dat)

/-- The result: at row `i` and column `j` the inner product of two columns. -/
def res (h : S8192x5632.Idx → EReal) (d : S8192x2048.Idx → EReal) : S5632x2048.Idx → EReal :=
  fun y => dot 8192 (fun k => at2 h k (y 0).val) fun k => at2 d k (y 1).val

/-- The reference's result. -/
theorem ref (h : S8192x5632.Idx → EReal) (d : S8192x2048.Idx → EReal) : Cert.Reference4Ideal.Read.val_main_v6 (F := Ideal) h d = res h d := by
  funext y
  idx_vars y
  pointwise [Cert.Reference4Ideal.Read.val_main_v6, Cert.Reference4Ideal.Read.val_main_v5, Cert.Reference4Ideal.Read.val_main_v4, Cert.Reference4Ideal.Read.val_main_v3,
    Cert.Reference4Ideal.Read.val_main_v1]
  exact Finset.sum_congr rfl fun k _ => (mul_comm _ _).trans (congrArg₂ (· * ·) (at2_ix2 h _ _) (at2_ix2 d _ _))

variable (m : (ℓ : Loc nD τ sig) → Buf (Elt Ideal) ℓ) (c : Dev nD) (t : Fin grid0.N)

abbrev H : S8192x5632.Idx → EReal := m ((c.tc : Thread nD τ).loc main_arg0)
abbrev D : S8192x2048.Idx → EReal := m ((c.tc : Thread nD τ).loc main_arg1)

theorem ix0 : ∀ t : Fin grid0.N, win0_0.index t = ![t.val % 4, t.val / 8] := by decide +kernel
theorem ix1 : ∀ t : Fin grid0.N, win0_1.index t = ![t.val % 4, t.val / 4 % 2] := by decide +kernel
theorem ix2' : ∀ t : Fin grid0.N, win0_2.index t = ![t.val / 8, t.val / 4 % 2] := by decide +kernel

theorem blk0 (r : Fin 2048) (l : Fin 1408) :
    (iblk m c 0 t : S2048x1408.Idx → EReal) (ix2 r l) = at2 (H m c) (2048 * (t.val % 4) + r.val) (1408 * (t.val / 8) + l.val) := by
  have := lt_of_lt_of_eq t.isLt N_0
  rw [← at2_of (H m c) ⟨2048 * (t.val % 4) + r.val, by omega⟩ ⟨1408 * (t.val / 8) + l.val, by omega⟩ rfl rfl]
  blk_ext [iblk, V, ix0 t]

theorem blk1 (r : Fin 2048) (l : Fin 1024) :
    (iblk m c 1 t : S2048x1024.Idx → EReal) (ix2 r l) = at2 (D m c) (2048 * (t.val % 4) + r.val) (1024 * (t.val / 4 % 2) + l.val) := by
  have := lt_of_lt_of_eq t.isLt N_0
  rw [← at2_of (D m c) ⟨2048 * (t.val % 4) + r.val, by omega⟩ ⟨1024 * (t.val / 4 % 2) + l.val, by omega⟩ rfl rfl]
  blk_ext [iblk, V, ix1 t]

/-- One grid point's product. -/
theorem part (i : Fin 1408) (j : Fin 1024) : (k0_pay1 (F := Ideal) (iblk m c 0 t) (iblk m c 1 t) : S1408x1024.Idx → EReal) (ix2 i j)
    = tile 2048 (fun k => at2 (H m c) k (1408 * (t.val / 8) + i.val)) (fun k => at2 (D m c) k (1024 * (t.val / 4 % 2) + j.val)) (t.val % 4) := by
  pointwise [k0_pay1]
  simp only [blk0, blk1]
  rfl

/-- The sum carried after grid point `n`. -/
abbrev acc (n : ℕ) (h : n < cfg0.N) : S1408x1024.Idx → EReal := (outsAt0 m c n h).2

/-- The first of four points stores its product. -/
theorem first (h : t.val % 4 = 0) : acc m c t.val t.isLt = k0_pay1 (F := Ideal) (iblk m c 0 t) (iblk m c 1 t) := by
  rw [acc, outsAt0_A m c t h (by omega) (by omega)]
  frame_out
  funext y
  idx_vars y
  pointwise [k0_pay2]

/-- The second and the third add theirs. -/
theorem next (h : 1 ≤ t.val % 4 ∧ t.val % 4 ≤ 2) (y : S1408x1024.Idx) : acc m c t.val t.isLt y
    = acc m c (t.val - 1) (Nat.lt_of_le_of_lt (Nat.sub_le _ _) t.isLt) y + k0_pay1 (F := Ideal) (iblk m c 0 t) (iblk m c 1 t) y := by
  rw [acc, outsAt0_B m c t (by omega) h (by omega)]
  frame_out
  rw [(Memref.isWhole_whole _).read_unread]
  idx_vars y
  pointwise [k0_pay3]

/-- The fourth adds its own and leaves the tile. -/
theorem last (h : t.val % 4 = 3) (y : S1408x1024.Idx) : (outsAt0 m c t.val t.isLt).1 y
    = acc m c (t.val - 1) (Nat.lt_of_le_of_lt (Nat.sub_le _ _) t.isLt) y + k0_pay1 (F := Ideal) (iblk m c 0 t) (iblk m c 1 t) y := by
  rw [outsAt0_C m c t (by omega) (by omega) h]
  frame_out
  rw [(Memref.isWhole_whole _).read_unread]
  idx_vars y
  pointwise [k0_pay4]

/-- What four points have computed. -/
theorem out (h : t.val % 4 = 3) : (outsAt0 m c t.val t.isLt).1 = fun y : S1408x1024.Idx =>
    dot 8192 (fun k => at2 (H m c) k (1408 * (t.val / 8) + (y 0).val)) fun k => at2 (D m c) k (1024 * (t.val / 4 % 2) + (y 1).val) := by
  have ht := lt_of_lt_of_eq t.isLt N_0
  obtain ⟨n, hn⟩ : ∃ n, t.val = 4 * n + 3 := ⟨t.val / 4, by omega⟩
  obtain ⟨_, hlt⟩ := t
  subst hn
  funext y
  have e2 := next m c ⟨4 * n + 2, by omega⟩ (by dsimp only; omega) y
  have e1 := next m c ⟨4 * n + 1, by omega⟩ (by dsimp only; omega) y
  have e0 := congrFun (first m c ⟨4 * n, by omega⟩ (by dsimp only; omega)) y
  refine (last m c ⟨4 * n + 3, hlt⟩ h y).trans ?_
  refine (congrArg (· + _) (e2.trans (congrArg (· + _) (e1.trans (congrArg (· + _) e0))))).trans ?_
  idx_vars y
  rw [part, part, part, part]
  dsimp only
  rw [show (4 * n) % 4 = 0 by omega, show (4 * n + 1) % 4 = 1 by omega, show (4 * n + 2) % 4 = 2 by omega, show (4 * n + 3) % 4 = 3 by omega,
    show (4 * n) / 8 = n / 2 by omega, show (4 * n + 1) / 8 = n / 2 by omega, show (4 * n + 2) / 8 = n / 2 by omega, show (4 * n + 3) / 8 = n / 2 by omega,
    show (4 * n) / 4 = n by omega, show (4 * n + 1) / 4 = n by omega, show (4 * n + 2) / 4 = n by omega, show (4 * n + 3) / 4 = n by omega]
  exact tile_four rfl _ _

/-- The result after the run. -/
theorem final : (dats m 0 c).arrAt 2 cfg0.N = res (H m c) (D m c) := by
  unfold res
  refine (dats m 0 c).arrAt_eq_of_covers 2 _ (by decide +kernel) fun t hf y => ?_
  blk_simp
  rw [after0_2, out m c t ((flush0_2 t).mp hf), ix2']
  show dot _ _ _ = dot 8192 (fun k => at2 _ k (t.val / 8 * 1408 + (y 0).val)) fun k => at2 _ k (t.val / 4 % 2 * 1024 + (y 1).val)
  simp only [Nat.mul_comm]

/-- Kernel and reference leave the same array. -/
theorem algebraic : Cert.algebraic_Kernel4Ideal_Reference4Ideal := by
  intro m ρ m' ρ' _ hag
  refine ⟨fun c => res (H m c) (D m c), (θ_run defs _ _).mono (fun _ h c => ⟨(h c).1.trans (final m c), (h c).2⟩) (Cert.Kernel4Ideal.Value.run_blocks (F := Ideal) m ρ), ?_⟩
  refine (θ_run Cert.Reference4Ideal.defs _ _).mono (fun _ h c => ⟨((h c).1.trans (Cert.Reference4Ideal.Read.val_main_v6_eq _ _)).trans ?_, (h c).2⟩)
    (Cert.Reference4Ideal.Value.run (F := Ideal) m' ρ')
  rw [(hag c).1, (hag c).2]
  exact ref _ _

/-- The reference leaves its arguments. -/
theorem frameR : Cert.quiescent_Reference4Ideal := fun m ρ _ =>
  (θ_run Cert.Reference4Ideal.defs _ _).mono (fun r h => ⟨fun c => (h c).2, sem_eq_zero_of_no_sems (by decide) r.2⟩) (Cert.Reference4Ideal.Value.run (F := Ideal) m ρ)

end Cert.DownW

end
-- ==== Proof.DownX.lean ====
/-
  The gradient of the feed-forward layer's down projection with respect to its input: the gradient of the projection's
  result times the weights, transposed. Each grid point computes a tile of the result at once.
-/
module

public import proofs.«01_k».proof.Defs
public import proofs.«01_k».proof.Proof.Prod
public import proofs.«01_k».proof.Proof.Gen.Kernel5Ideal.Value
public import proofs.«01_k».proof.Proof.Gen.Reference5Ideal.Read
public import Idealize.ShloMosaic.Lib.Pipeline.ReadBack

@[expose] public section

set_option maxRecDepth 16384

noncomputable section

namespace Cert.DownX

open Idealize.ShloMosaic Idealize.ShloMosaic.TcCoe Idealize.SL.Sem
open Cert.Kernel5Ideal Cert.Kernel5Ideal.Gen Cert.Prod Cert.Conv
open Idealize.ShloMosaic.Pipeline (Dat)

/-- The result: at row `i` and column `j` the inner product of two rows. -/
def res (d : S8192x2048.Idx → EReal) (w : S5632x2048.Idx → EReal) : S8192x5632.Idx → EReal :=
  fun y => dot 2048 (fun k => at2 d (y 0).val k) fun k => at2 w (y 1).val k

/-- The reference's result. -/
theorem ref (d : S8192x2048.Idx → EReal) (w : S5632x2048.Idx → EReal) : Cert.Reference5Ideal.Read.val_main_v4 (F := Ideal) d w = res d w := by
  funext y
  idx_vars y
  pointwise [Cert.Reference5Ideal.Read.val_main_v4, Cert.Reference5Ideal.Read.val_main_v3, Cert.Reference5Ideal.Read.val_main_v1]
  exact Finset.sum_congr rfl fun k _ => congrArg₂ (· * ·) (at2_ix2 d _ _) (at2_ix2 w _ _)

variable (m : (ℓ : Loc nD τ sig) → Buf (Elt Ideal) ℓ) (c : Dev nD) (t : Fin grid0.N)

abbrev D : S8192x2048.Idx → EReal := m ((c.tc : Thread nD τ).loc main_arg0)
abbrev W : S5632x2048.Idx → EReal := m ((c.tc : Thread nD τ).loc main_arg1)

theorem ix0 : ∀ t : Fin grid0.N, win0_0.index t = ![t.val / 11, 0] := by decide +kernel
theorem ix1 : ∀ t : Fin grid0.N, win0_1.index t = ![t.val % 11, 0] := by decide +kernel
theorem ix2' : ∀ t : Fin grid0.N, win0_2.index t = ![t.val / 11, t.val % 11] := by decide +kernel

theorem blk0 (r l : Fin 2048) :
    (iblk m c 0 t : S2048x2048.Idx → EReal) (ix2 r l) = at2 (D m c) (2048 * (t.val / 11) + r.val) l.val := by
  have := lt_of_lt_of_eq t.isLt N_0
  rw [← at2_of (D m c) ⟨2048 * (t.val / 11) + r.val, by omega⟩ ⟨l.val, by omega⟩ rfl rfl]
  blk_ext [iblk, V, ix0 t]

theorem blk1 (r : Fin 512) (l : Fin 2048) :
    (iblk m c 1 t : S512x2048.Idx → EReal) (ix2 r l) = at2 (W m c) (512 * (t.val % 11) + r.val) l.val := by
  have := lt_of_lt_of_eq t.isLt N_0
  rw [← at2_of (W m c) ⟨512 * (t.val % 11) + r.val, by omega⟩ ⟨l.val, by omega⟩ rfl rfl]
  blk_ext [iblk, V, ix1 t]

/-- What one grid point computes. -/
theorem out : (out0_2 (F := Ideal) (iblk m c 0 t) (iblk m c 1 t) : S2048x512.Idx → EReal) = fun y : S2048x512.Idx =>
    dot 2048 (fun k => at2 (D m c) (2048 * (t.val / 11) + (y 0).val) k) fun k => at2 (W m c) (512 * (t.val % 11) + (y 1).val) k := by
  frame_out
  funext y
  idx_vars y
  pointwise [k0_pay1]
  simp only [blk0, blk1]
  rfl

/-- The result after the run. -/
theorem final : (dats m 0 c).arrAt 2 cfg0.N = res (D m c) (W m c) := by
  unfold res
  refine (dats m 0 c).arrAt_eq_of_covers 2 _ (by decide +kernel) fun t hf y => ?_
  blk_simp
  rw [after0_2, out, ix2']
  show dot _ _ _ = dot 2048 (fun k => at2 _ (t.val / 11 * 2048 + (y 0).val) k) fun k => at2 _ (t.val % 11 * 512 + (y 1).val) k
  simp only [Nat.mul_comm]

/-- Kernel and reference leave the same array. -/
theorem algebraic : Cert.algebraic_Kernel5Ideal_Reference5Ideal := by
  intro m ρ m' ρ' _ hag
  refine ⟨fun c => res (D m c) (W m c), (θ_run defs _ _).mono (fun _ h c => ⟨(h c).1.trans (final m c), (h c).2⟩) (Cert.Kernel5Ideal.Value.run_blocks (F := Ideal) m ρ), ?_⟩
  refine (θ_run Cert.Reference5Ideal.defs _ _).mono (fun _ h c => ⟨((h c).1.trans (Cert.Reference5Ideal.Read.val_main_v4_eq _ _)).trans ?_, (h c).2⟩)
    (Cert.Reference5Ideal.Value.run (F := Ideal) m' ρ')
  rw [(hag c).1, (hag c).2]
  exact ref _ _

/-- The reference leaves its arguments. -/
theorem frameR : Cert.quiescent_Reference5Ideal := fun m ρ _ =>
  (θ_run Cert.Reference5Ideal.defs _ _).mono (fun r h => ⟨fun c => (h c).2, sem_eq_zero_of_no_sems (by decide) r.2⟩) (Cert.Reference5Ideal.Value.run (F := Ideal) m ρ)

end Cert.DownX

end
-- ==== Proof.AInW.lean ====
/-
  The gradient of the convolution mixer's input projection with respect to its weights: the input, transposed, times the
  gradient of the projection's result. Two grid points share a tile of the result, one for each half of the rows.
-/
module

public import proofs.«01_k».proof.Defs
public import proofs.«01_k».proof.Proof.Prod
public import proofs.«01_k».proof.Proof.Gen.Kernel6Ideal.Value
public import proofs.«01_k».proof.Proof.Gen.Reference6Ideal.Read
public import Idealize.ShloMosaic.Lib.Pipeline.ReadBack

@[expose] public section

set_option maxRecDepth 16384

noncomputable section

namespace Cert.AInW

open Idealize.ShloMosaic Idealize.ShloMosaic.TcCoe Idealize.SL.Sem
open Cert.Kernel6Ideal Cert.Kernel6Ideal.Gen Cert.Prod Cert.Conv
open Idealize.ShloMosaic.Pipeline (Dat)

/-- The result: at row `i` and column `j` the inner product of two columns. -/
def res (x : S8192x2048.Idx → EReal) (d : S8192x6144.Idx → EReal) : S2048x6144.Idx → EReal :=
  fun y => dot 8192 (fun k => at2 x k (y 0).val) fun k => at2 d k (y 1).val

/-- The reference's result. -/
theorem ref (x : S8192x2048.Idx → EReal) (d : S8192x6144.Idx → EReal) : Cert.Reference6Ideal.Read.val_main_v6 (F := Ideal) x d = res x d := by
  funext y
  idx_vars y
  pointwise [Cert.Reference6Ideal.Read.val_main_v6, Cert.Reference6Ideal.Read.val_main_v5, Cert.Reference6Ideal.Read.val_main_v4,
    Cert.Reference6Ideal.Read.val_main_v3, Cert.Reference6Ideal.Read.val_main_v1]
  exact Finset.sum_congr rfl fun k _ => (mul_comm _ _).trans (congrArg₂ (· * ·) (at2_ix2 x _ _) (at2_ix2 d _ _))

variable (m : (ℓ : Loc nD τ sig) → Buf (Elt Ideal) ℓ) (c : Dev nD) (t : Fin grid0.N)

abbrev X : S8192x2048.Idx → EReal := m ((c.tc : Thread nD τ).loc main_arg0)
abbrev D : S8192x6144.Idx → EReal := m ((c.tc : Thread nD τ).loc main_arg1)

theorem ix0 : ∀ t : Fin grid0.N, win0_0.index t = ![t.val % 2, t.val / 12] := by decide +kernel
theorem ix1 : ∀ t : Fin grid0.N, win0_1.index t = ![t.val % 2, t.val / 2 % 6] := by decide +kernel
theorem ix2' : ∀ t : Fin grid0.N, win0_2.index t = ![t.val / 12, t.val / 2 % 6] := by decide +kernel

theorem blk0 (r : Fin 4096) (l : Fin 1024) :
    (iblk m c 0 t : S4096x1024.Idx → EReal) (ix2 r l) = at2 (X m c) (4096 * (t.val % 2) + r.val) (1024 * (t.val / 12) + l.val) := by
  have := lt_of_lt_of_eq t.isLt N_0
  rw [← at2_of (X m c) ⟨4096 * (t.val % 2) + r.val, by omega⟩ ⟨1024 * (t.val / 12) + l.val, by omega⟩ rfl rfl]
  blk_ext [iblk, V, ix0 t]

theorem blk1 (r : Fin 4096) (l : Fin 1024) :
    (iblk m c 1 t : S4096x1024.Idx → EReal) (ix2 r l) = at2 (D m c) (4096 * (t.val % 2) + r.val) (1024 * (t.val / 2 % 6) + l.val) := by
  have := lt_of_lt_of_eq t.isLt N_0
  rw [← at2_of (D m c) ⟨4096 * (t.val % 2) + r.val, by omega⟩ ⟨1024 * (t.val / 2 % 6) + l.val, by omega⟩ rfl rfl]
  blk_ext [iblk, V, ix1 t]

/-- One grid point's product. -/
theorem part (i j : Fin 1024) : (k0_pay1 (F := Ideal) (iblk m c 0 t) (iblk m c 1 t) : S1024x1024.Idx → EReal) (ix2 i j)
    = tile 4096 (fun k => at2 (X m c) k (1024 * (t.val / 12) + i.val)) (fun k => at2 (D m c) k (1024 * (t.val / 2 % 6) + j.val)) (t.val % 2) := by
  pointwise [k0_pay1]
  simp only [blk0, blk1]
  rfl

/-- The first of two points stores its product. -/
theorem first (h : t.val % 2 = 0) : (outsAt0 m c t.val t.isLt).2 = k0_pay1 (F := Ideal) (iblk m c 0 t) (iblk m c 1 t) := by
  rw [outsAt0_A m c t h (by omega)]
  frame_out
  funext y
  idx_vars y
  pointwise [k0_pay2]

/-- The second adds its own and leaves the tile. -/
theorem out (h : t.val % 2 = 1) : (outsAt0 m c t.val t.isLt).1 = fun y : S1024x1024.Idx =>
    dot 8192 (fun k => at2 (X m c) k (1024 * (t.val / 12) + (y 0).val)) fun k => at2 (D m c) k (1024 * (t.val / 2 % 6) + (y 1).val) := by
  have ht := lt_of_lt_of_eq t.isLt N_0
  have e : (outsAt0 m c (t.val - 1) (Nat.lt_of_le_of_lt (Nat.sub_le _ _) t.isLt)).2 = _ := first m c ⟨t.val - 1, by omega⟩ (show (t.val - 1) % 2 = 0 by omega)
  rw [outsAt0_B m c t (by omega) h]
  frame_out
  rw [(Memref.isWhole_whole _).read_unread, e]
  funext y
  idx_vars y
  pointwise [k0_pay4]
  rw [part, part]
  dsimp only
  rw [h, show (t.val - 1) % 2 = 0 by omega, show (t.val - 1) / 12 = t.val / 12 by omega, show (t.val - 1) / 2 % 6 = t.val / 2 % 6 by omega]
  exact tile_two rfl _ _

/-- The result after the run. -/
theorem final : (dats m 0 c).arrAt 2 cfg0.N = res (X m c) (D m c) := by
  unfold res
  refine (dats m 0 c).arrAt_eq_of_covers 2 _ (by decide +kernel) fun t hf y => ?_
  blk_simp
  rw [after0_2, out m c t ((flush0_2 t).mp hf), ix2']
  show dot _ _ _ = dot 8192 (fun k => at2 _ k (t.val / 12 * 1024 + (y 0).val)) fun k => at2 _ k (t.val / 2 % 6 * 1024 + (y 1).val)
  simp only [Nat.mul_comm]

/-- Kernel and reference leave the same array. -/
theorem algebraic : Cert.algebraic_Kernel6Ideal_Reference6Ideal := by
  intro m ρ m' ρ' _ hag
  refine ⟨fun c => res (X m c) (D m c), (θ_run defs _ _).mono (fun _ h c => ⟨(h c).1.trans (final m c), (h c).2⟩) (Cert.Kernel6Ideal.Value.run_blocks (F := Ideal) m ρ), ?_⟩
  refine (θ_run Cert.Reference6Ideal.defs _ _).mono (fun _ h c => ⟨((h c).1.trans (Cert.Reference6Ideal.Read.val_main_v6_eq _ _)).trans ?_, (h c).2⟩)
    (Cert.Reference6Ideal.Value.run (F := Ideal) m' ρ')
  rw [(hag c).1, (hag c).2]
  exact ref _ _

/-- The reference leaves its arguments. -/
theorem frameR : Cert.quiescent_Reference6Ideal := fun m ρ _ =>
  (θ_run Cert.Reference6Ideal.defs _ _).mono (fun r h => ⟨fun c => (h c).2, sem_eq_zero_of_no_sems (by decide) r.2⟩) (Cert.Reference6Ideal.Value.run (F := Ideal) m ρ)

end Cert.AInW

end
-- ==== Proof.AInX.lean ====
/-
  The gradient of the convolution mixer's input projection with respect to its input: the gradient of the
  projection's result times the weights, transposed. Two grid points share a tile of the result, one for each half of
  the inner positions.
-/
module

public import proofs.«01_k».proof.Defs
public import proofs.«01_k».proof.Proof.Prod
public import proofs.«01_k».proof.Proof.Gen.Kernel7Ideal.Value
public import proofs.«01_k».proof.Proof.Gen.Reference7Ideal.Read
public import Idealize.ShloMosaic.Lib.Pipeline.ReadBack

@[expose] public section

set_option maxRecDepth 16384

noncomputable section

namespace Cert.AInX

open Idealize.ShloMosaic Idealize.ShloMosaic.TcCoe Idealize.SL.Sem
open Cert.Kernel7Ideal Cert.Kernel7Ideal.Gen Cert.Prod Cert.Conv
open Idealize.ShloMosaic.Pipeline (Dat)

/-- The result: at row `i` and column `j` the inner product of two rows. -/
def res (d : S8192x6144.Idx → EReal) (w : S2048x6144.Idx → EReal) : S8192x2048.Idx → EReal :=
  fun y => dot 6144 (fun k => at2 d (y 0).val k) fun k => at2 w (y 1).val k

/-- The reference's result. -/
theorem ref (d : S8192x6144.Idx → EReal) (w : S2048x6144.Idx → EReal) : Cert.Reference7Ideal.Read.val_main_v5 (F := Ideal) d w = res d w := by
  funext y
  idx_vars y
  pointwise [Cert.Reference7Ideal.Read.val_main_v5, Cert.Reference7Ideal.Read.val_main_v4,
    Cert.Reference7Ideal.Read.val_main_v3, Cert.Reference7Ideal.Read.val_main_v1]
  exact Finset.sum_congr rfl fun k _ => congrArg₂ (· * ·) (at2_ix2 d _ _) (at2_ix2 w _ _)

variable (m : (ℓ : Loc nD τ sig) → Buf (Elt Ideal) ℓ) (c : Dev nD) (t : Fin grid0.N)

abbrev D : S8192x6144.Idx → EReal := m ((c.tc : Thread nD τ).loc main_arg0)
abbrev W : S2048x6144.Idx → EReal := m ((c.tc : Thread nD τ).loc main_arg1)

theorem ix0 : ∀ t : Fin grid0.N, win0_0.index t = ![t.val / 4, t.val % 2] := by decide +kernel
theorem ix1 : ∀ t : Fin grid0.N, win0_1.index t = ![t.val / 2 % 2, t.val % 2] := by decide +kernel
theorem ix2' : ∀ t : Fin grid0.N, win0_2.index t = ![t.val / 4, t.val / 2 % 2] := by decide +kernel

theorem blk0 (r : Fin 1024) (l : Fin 3072) :
    (iblk m c 0 t : S1024x3072.Idx → EReal) (ix2 r l) = at2 (D m c) (1024 * (t.val / 4) + r.val) (3072 * (t.val % 2) + l.val) := by
  have := lt_of_lt_of_eq t.isLt N_0
  rw [← at2_of (D m c) ⟨1024 * (t.val / 4) + r.val, by omega⟩ ⟨3072 * (t.val % 2) + l.val, by omega⟩ rfl rfl]
  blk_ext [iblk, V, ix0 t]

theorem blk1 (r : Fin 1024) (l : Fin 3072) :
    (iblk m c 1 t : S1024x3072.Idx → EReal) (ix2 r l) = at2 (W m c) (1024 * (t.val / 2 % 2) + r.val) (3072 * (t.val % 2) + l.val) := by
  have := lt_of_lt_of_eq t.isLt N_0
  rw [← at2_of (W m c) ⟨1024 * (t.val / 2 % 2) + r.val, by omega⟩ ⟨3072 * (t.val % 2) + l.val, by omega⟩ rfl rfl]
  blk_ext [iblk, V, ix1 t]

/-- One grid point's product. -/
theorem part (i j : Fin 1024) : (k0_pay1 (F := Ideal) (iblk m c 0 t) (iblk m c 1 t) : S1024x1024.Idx → EReal) (ix2 i j)
    = tile 3072 (fun k => at2 (D m c) (1024 * (t.val / 4) + i.val) k) (fun k => at2 (W m c) (1024 * (t.val / 2 % 2) + j.val) k) (t.val % 2) := by
  pointwise [k0_pay1]
  simp only [blk0, blk1]
  rfl

/-- The first of two points stores its product. -/
theorem first (h : t.val % 2 = 0) : (outsAt0 m c t.val t.isLt).2 = k0_pay1 (F := Ideal) (iblk m c 0 t) (iblk m c 1 t) := by
  rw [outsAt0_A m c t h (by omega)]
  frame_out
  funext y
  idx_vars y
  pointwise [k0_pay2]

/-- The second adds its own and leaves the tile. -/
theorem out (h : t.val % 2 = 1) : (outsAt0 m c t.val t.isLt).1 = fun y : S1024x1024.Idx =>
    dot 6144 (fun k => at2 (D m c) (1024 * (t.val / 4) + (y 0).val) k) fun k => at2 (W m c) (1024 * (t.val / 2 % 2) + (y 1).val) k := by
  have ht := lt_of_lt_of_eq t.isLt N_0
  have e : (outsAt0 m c (t.val - 1) (Nat.lt_of_le_of_lt (Nat.sub_le _ _) t.isLt)).2 = _ := first m c ⟨t.val - 1, by omega⟩ (show (t.val - 1) % 2 = 0 by omega)
  rw [outsAt0_B m c t (by omega) h]
  frame_out
  rw [(Memref.isWhole_whole _).read_unread, e]
  funext y
  idx_vars y
  pointwise [k0_pay4]
  rw [part, part]
  dsimp only
  rw [h, show (t.val - 1) % 2 = 0 by omega, show (t.val - 1) / 4 = t.val / 4 by omega, show (t.val - 1) / 2 % 2 = t.val / 2 % 2 by omega]
  exact tile_two rfl _ _

/-- The result after the run. -/
theorem final : (dats m 0 c).arrAt 2 cfg0.N = res (D m c) (W m c) := by
  unfold res
  refine (dats m 0 c).arrAt_eq_of_covers 2 _ (by decide +kernel) fun t hf y => ?_
  blk_simp
  rw [after0_2, out m c t ((flush0_2 t).mp hf), ix2']
  show dot _ _ _ = dot 6144 (fun k => at2 _ (t.val / 4 * 1024 + (y 0).val) k) fun k => at2 _ (t.val / 2 % 2 * 1024 + (y 1).val) k
  simp only [Nat.mul_comm]

/-- Kernel and reference leave the same array. -/
theorem algebraic : Cert.algebraic_Kernel7Ideal_Reference7Ideal := by
  intro m ρ m' ρ' _ hag
  refine ⟨fun c => res (D m c) (W m c), (θ_run defs _ _).mono (fun _ h c => ⟨(h c).1.trans (final m c), (h c).2⟩) (Cert.Kernel7Ideal.Value.run_blocks (F := Ideal) m ρ), ?_⟩
  refine (θ_run Cert.Reference7Ideal.defs _ _).mono (fun _ h c => ⟨((h c).1.trans (Cert.Reference7Ideal.Read.val_main_v5_eq _ _)).trans ?_, (h c).2⟩)
    (Cert.Reference7Ideal.Value.run (F := Ideal) m' ρ')
  rw [(hag c).1, (hag c).2]
  exact ref _ _

/-- The reference leaves its arguments. -/
theorem frameR : Cert.quiescent_Reference7Ideal := fun m ρ _ =>
  (θ_run Cert.Reference7Ideal.defs _ _).mono (fun r h => ⟨fun c => (h c).2, sem_eq_zero_of_no_sems (by decide) r.2⟩) (Cert.Reference7Ideal.Value.run (F := Ideal) m ρ)

end Cert.AInX

end
-- ==== Proof.BInW.lean ====
/-
  The gradient of the gating mixer's input projection with respect to its weights: the input, transposed, times the
  gradient of the projection's result. Two grid points share a tile of the result, one for each half of the rows.
-/
module

public import proofs.«01_k».proof.Defs
public import proofs.«01_k».proof.Proof.Prod
public import proofs.«01_k».proof.Proof.Gen.Kernel8Ideal.Value
public import proofs.«01_k».proof.Proof.Gen.Reference8Ideal.Read
public import Idealize.ShloMosaic.Lib.Pipeline.ReadBack

@[expose] public section

set_option maxRecDepth 16384

noncomputable section

namespace Cert.BInW

open Idealize.ShloMosaic Idealize.ShloMosaic.TcCoe Idealize.SL.Sem
open Cert.Kernel8Ideal Cert.Kernel8Ideal.Gen Cert.Prod Cert.Conv
open Idealize.ShloMosaic.Pipeline (Dat)

/-- The result: at row `i` and column `j` the inner product of two columns. -/
def res (x : S8192x2048.Idx → EReal) (d : S8192x4096.Idx → EReal) : S2048x4096.Idx → EReal :=
  fun y => dot 8192 (fun k => at2 x k (y 0).val) fun k => at2 d k (y 1).val

/-- The reference's result. -/
theorem ref (x : S8192x2048.Idx → EReal) (d : S8192x4096.Idx → EReal) : Cert.Reference8Ideal.Read.val_main_v6 (F := Ideal) x d = res x d := by
  funext y
  idx_vars y
  pointwise [Cert.Reference8Ideal.Read.val_main_v6, Cert.Reference8Ideal.Read.val_main_v5, Cert.Reference8Ideal.Read.val_main_v4,
    Cert.Reference8Ideal.Read.val_main_v3, Cert.Reference8Ideal.Read.val_main_v1]
  exact Finset.sum_congr rfl fun k _ => (mul_comm _ _).trans (congrArg₂ (· * ·) (at2_ix2 x _ _) (at2_ix2 d _ _))

variable (m : (ℓ : Loc nD τ sig) → Buf (Elt Ideal) ℓ) (c : Dev nD) (t : Fin grid0.N)

abbrev X : S8192x2048.Idx → EReal := m ((c.tc : Thread nD τ).loc main_arg0)
abbrev D : S8192x4096.Idx → EReal := m ((c.tc : Thread nD τ).loc main_arg1)

theorem ix0 : ∀ t : Fin grid0.N, win0_0.index t = ![t.val % 2, t.val / 8] := by decide +kernel
theorem ix1 : ∀ t : Fin grid0.N, win0_1.index t = ![t.val % 2, t.val / 2 % 4] := by decide +kernel
theorem ix2' : ∀ t : Fin grid0.N, win0_2.index t = ![t.val / 8, t.val / 2 % 4] := by decide +kernel

theorem blk0 (r : Fin 4096) (l : Fin 1024) :
    (iblk m c 0 t : S4096x1024.Idx → EReal) (ix2 r l) = at2 (X m c) (4096 * (t.val % 2) + r.val) (1024 * (t.val / 8) + l.val) := by
  have := lt_of_lt_of_eq t.isLt N_0
  rw [← at2_of (X m c) ⟨4096 * (t.val % 2) + r.val, by omega⟩ ⟨1024 * (t.val / 8) + l.val, by omega⟩ rfl rfl]
  blk_ext [iblk, V, ix0 t]

theorem blk1 (r : Fin 4096) (l : Fin 1024) :
    (iblk m c 1 t : S4096x1024.Idx → EReal) (ix2 r l) = at2 (D m c) (4096 * (t.val % 2) + r.val) (1024 * (t.val / 2 % 4) + l.val) := by
  have := lt_of_lt_of_eq t.isLt N_0
  rw [← at2_of (D m c) ⟨4096 * (t.val % 2) + r.val, by omega⟩ ⟨1024 * (t.val / 2 % 4) + l.val, by omega⟩ rfl rfl]
  blk_ext [iblk, V, ix1 t]

/-- One grid point's product. -/
theorem part (i j : Fin 1024) : (k0_pay1 (F := Ideal) (iblk m c 0 t) (iblk m c 1 t) : S1024x1024.Idx → EReal) (ix2 i j)
    = tile 4096 (fun k => at2 (X m c) k (1024 * (t.val / 8) + i.val)) (fun k => at2 (D m c) k (1024 * (t.val / 2 % 4) + j.val)) (t.val % 2) := by
  pointwise [k0_pay1]
  simp only [blk0, blk1]
  rfl

/-- The first of two points stores its product. -/
theorem first (h : t.val % 2 = 0) : (outsAt0 m c t.val t.isLt).2 = k0_pay1 (F := Ideal) (iblk m c 0 t) (iblk m c 1 t) := by
  rw [outsAt0_A m c t h (by omega)]
  frame_out
  funext y
  idx_vars y
  pointwise [k0_pay2]

/-- The second adds its own and leaves the tile. -/
theorem out (h : t.val % 2 = 1) : (outsAt0 m c t.val t.isLt).1 = fun y : S1024x1024.Idx =>
    dot 8192 (fun k => at2 (X m c) k (1024 * (t.val / 8) + (y 0).val)) fun k => at2 (D m c) k (1024 * (t.val / 2 % 4) + (y 1).val) := by
  have ht := lt_of_lt_of_eq t.isLt N_0
  have e : (outsAt0 m c (t.val - 1) (Nat.lt_of_le_of_lt (Nat.sub_le _ _) t.isLt)).2 = _ := first m c ⟨t.val - 1, by omega⟩ (show (t.val - 1) % 2 = 0 by omega)
  rw [outsAt0_B m c t (by omega) h]
  frame_out
  rw [(Memref.isWhole_whole _).read_unread, e]
  funext y
  idx_vars y
  pointwise [k0_pay4]
  rw [part, part]
  dsimp only
  rw [h, show (t.val - 1) % 2 = 0 by omega, show (t.val - 1) / 8 = t.val / 8 by omega, show (t.val - 1) / 2 % 4 = t.val / 2 % 4 by omega]
  exact tile_two rfl _ _

/-- The result after the run. -/
theorem final : (dats m 0 c).arrAt 2 cfg0.N = res (X m c) (D m c) := by
  unfold res
  refine (dats m 0 c).arrAt_eq_of_covers 2 _ (by decide +kernel) fun t hf y => ?_
  blk_simp
  rw [after0_2, out m c t ((flush0_2 t).mp hf), ix2']
  show dot _ _ _ = dot 8192 (fun k => at2 _ k (t.val / 8 * 1024 + (y 0).val)) fun k => at2 _ k (t.val / 2 % 4 * 1024 + (y 1).val)
  simp only [Nat.mul_comm]

/-- Kernel and reference leave the same array. -/
theorem algebraic : Cert.algebraic_Kernel8Ideal_Reference8Ideal := by
  intro m ρ m' ρ' _ hag
  refine ⟨fun c => res (X m c) (D m c), (θ_run defs _ _).mono (fun _ h c => ⟨(h c).1.trans (final m c), (h c).2⟩) (Cert.Kernel8Ideal.Value.run_blocks (F := Ideal) m ρ), ?_⟩
  refine (θ_run Cert.Reference8Ideal.defs _ _).mono (fun _ h c => ⟨((h c).1.trans (Cert.Reference8Ideal.Read.val_main_v6_eq _ _)).trans ?_, (h c).2⟩)
    (Cert.Reference8Ideal.Value.run (F := Ideal) m' ρ')
  rw [(hag c).1, (hag c).2]
  exact ref _ _

/-- The reference leaves its arguments. -/
theorem frameR : Cert.quiescent_Reference8Ideal := fun m ρ _ =>
  (θ_run Cert.Reference8Ideal.defs _ _).mono (fun r h => ⟨fun c => (h c).2, sem_eq_zero_of_no_sems (by decide) r.2⟩) (Cert.Reference8Ideal.Value.run (F := Ideal) m ρ)

end Cert.BInW

end
-- ==== Proof.BInX.lean ====
/-
  The gradient of the gating mixer's input projection with respect to its input: the gradient of the projection's
  result times the weights, transposed. Each grid point computes a tile of the result at once.
-/
module

public import proofs.«01_k».proof.Defs
public import proofs.«01_k».proof.Proof.Prod
public import proofs.«01_k».proof.Proof.Gen.Kernel9Ideal.Value
public import proofs.«01_k».proof.Proof.Gen.Reference9Ideal.Read
public import Idealize.ShloMosaic.Lib.Pipeline.ReadBack

@[expose] public section

set_option maxRecDepth 16384

noncomputable section

namespace Cert.BInX

open Idealize.ShloMosaic Idealize.ShloMosaic.TcCoe Idealize.SL.Sem
open Cert.Kernel9Ideal Cert.Kernel9Ideal.Gen Cert.Prod Cert.Conv
open Idealize.ShloMosaic.Pipeline (Dat)

/-- The result: at row `i` and column `j` the inner product of two rows. -/
def res (d : S8192x4096.Idx → EReal) (w : S2048x4096.Idx → EReal) : S8192x2048.Idx → EReal :=
  fun y => dot 4096 (fun k => at2 d (y 0).val k) fun k => at2 w (y 1).val k

/-- The reference's result. -/
theorem ref (d : S8192x4096.Idx → EReal) (w : S2048x4096.Idx → EReal) : Cert.Reference9Ideal.Read.val_main_v5 (F := Ideal) d w = res d w := by
  funext y
  idx_vars y
  pointwise [Cert.Reference9Ideal.Read.val_main_v5, Cert.Reference9Ideal.Read.val_main_v4, Cert.Reference9Ideal.Read.val_main_v3, Cert.Reference9Ideal.Read.val_main_v1]
  exact Finset.sum_congr rfl fun k _ => congrArg₂ (· * ·) (at2_ix2 d _ _) (at2_ix2 w _ _)

variable (m : (ℓ : Loc nD τ sig) → Buf (Elt Ideal) ℓ) (c : Dev nD) (t : Fin grid0.N)

abbrev D : S8192x4096.Idx → EReal := m ((c.tc : Thread nD τ).loc main_arg0)
abbrev W : S2048x4096.Idx → EReal := m ((c.tc : Thread nD τ).loc main_arg1)

theorem ix0 : ∀ t : Fin grid0.N, win0_0.index t = ![t.val / 2, 0] := by decide +kernel
theorem ix1 : ∀ t : Fin grid0.N, win0_1.index t = ![t.val % 2, 0] := by decide +kernel
theorem ix2' : ∀ t : Fin grid0.N, win0_2.index t = ![t.val / 2, t.val % 2] := by decide +kernel

theorem blk0 (r : Fin 1024) (l : Fin 4096) :
    (iblk m c 0 t : S1024x4096.Idx → EReal) (ix2 r l) = at2 (D m c) (1024 * (t.val / 2) + r.val) l.val := by
  have := lt_of_lt_of_eq t.isLt N_0
  rw [← at2_of (D m c) ⟨1024 * (t.val / 2) + r.val, by omega⟩ ⟨l.val, by omega⟩ rfl rfl]
  blk_ext [iblk, V, ix0 t]

theorem blk1 (r : Fin 1024) (l : Fin 4096) :
    (iblk m c 1 t : S1024x4096.Idx → EReal) (ix2 r l) = at2 (W m c) (1024 * (t.val % 2) + r.val) l.val := by
  have := lt_of_lt_of_eq t.isLt N_0
  rw [← at2_of (W m c) ⟨1024 * (t.val % 2) + r.val, by omega⟩ ⟨l.val, by omega⟩ rfl rfl]
  blk_ext [iblk, V, ix1 t]

/-- What one grid point computes. -/
theorem out : (out0_2 (F := Ideal) (iblk m c 0 t) (iblk m c 1 t) : S1024x1024.Idx → EReal) = fun y : S1024x1024.Idx =>
    dot 4096 (fun k => at2 (D m c) (1024 * (t.val / 2) + (y 0).val) k) fun k => at2 (W m c) (1024 * (t.val % 2) + (y 1).val) k := by
  frame_out
  funext y
  idx_vars y
  pointwise [k0_pay1]
  simp only [blk0, blk1]
  rfl

/-- The result after the run. -/
theorem final : (dats m 0 c).arrAt 2 cfg0.N = res (D m c) (W m c) := by
  unfold res
  refine (dats m 0 c).arrAt_eq_of_covers 2 _ (by decide +kernel) fun t hf y => ?_
  blk_simp
  rw [after0_2, out, ix2']
  show dot _ _ _ = dot 4096 (fun k => at2 _ (t.val / 2 * 1024 + (y 0).val) k) fun k => at2 _ (t.val % 2 * 1024 + (y 1).val) k
  simp only [Nat.mul_comm]

/-- Kernel and reference leave the same array. -/
theorem algebraic : Cert.algebraic_Kernel9Ideal_Reference9Ideal := by
  intro m ρ m' ρ' _ hag
  refine ⟨fun c => res (D m c) (W m c), (θ_run defs _ _).mono (fun _ h c => ⟨(h c).1.trans (final m c), (h c).2⟩) (Cert.Kernel9Ideal.Value.run_blocks (F := Ideal) m ρ), ?_⟩
  refine (θ_run Cert.Reference9Ideal.defs _ _).mono (fun _ h c => ⟨((h c).1.trans (Cert.Reference9Ideal.Read.val_main_v5_eq _ _)).trans ?_, (h c).2⟩)
    (Cert.Reference9Ideal.Value.run (F := Ideal) m' ρ')
  rw [(hag c).1, (hag c).2]
  exact ref _ _

/-- The reference leaves its arguments. -/
theorem frameR : Cert.quiescent_Reference9Ideal := fun m ρ _ =>
  (θ_run Cert.Reference9Ideal.defs _ _).mono (fun r h => ⟨fun c => (h c).2, sem_eq_zero_of_no_sems (by decide) r.2⟩) (Cert.Reference9Ideal.Value.run (F := Ideal) m ρ)

end Cert.BInX

end
-- ==== Proof.OutW.lean ====
/-
  The gradient of either mixer's output projection with respect to its weights: the input, transposed, times the
  gradient of the projection's result. Two grid points share a tile of the result, one for each half of the rows.
-/
module

public import proofs.«01_k».proof.Defs
public import proofs.«01_k».proof.Proof.Prod
public import proofs.«01_k».proof.Proof.Gen.Kernel10Ideal.Value
public import proofs.«01_k».proof.Proof.Gen.Reference10Ideal.Read
public import Idealize.ShloMosaic.Lib.Pipeline.ReadBack

@[expose] public section

set_option maxRecDepth 16384

noncomputable section

namespace Cert.OutW

open Idealize.ShloMosaic Idealize.ShloMosaic.TcCoe Idealize.SL.Sem
open Cert.Kernel10Ideal Cert.Kernel10Ideal.Gen Cert.Prod Cert.Conv
open Idealize.ShloMosaic.Pipeline (Dat)

/-- The result: at row `i` and column `j` the inner product of two columns. -/
def res (x : S8192x2048.Idx → EReal) (d : S8192x2048.Idx → EReal) : S2048x2048.Idx → EReal :=
  fun y => dot 8192 (fun k => at2 x k (y 0).val) fun k => at2 d k (y 1).val

/-- The reference's result. -/
theorem ref (x : S8192x2048.Idx → EReal) (d : S8192x2048.Idx → EReal) : Cert.Reference10Ideal.Read.val_main_v6 (F := Ideal) x d = res x d := by
  funext y
  idx_vars y
  pointwise [Cert.Reference10Ideal.Read.val_main_v6, Cert.Reference10Ideal.Read.val_main_v5, Cert.Reference10Ideal.Read.val_main_v4,
    Cert.Reference10Ideal.Read.val_main_v3, Cert.Reference10Ideal.Read.val_main_v1]
  exact Finset.sum_congr rfl fun k _ => (mul_comm _ _).trans (congrArg₂ (· * ·) (at2_ix2 x _ _) (at2_ix2 d _ _))

variable (m : (ℓ : Loc nD τ sig) → Buf (Elt Ideal) ℓ) (c : Dev nD) (t : Fin grid0.N)

abbrev X : S8192x2048.Idx → EReal := m ((c.tc : Thread nD τ).loc main_arg0)
abbrev D : S8192x2048.Idx → EReal := m ((c.tc : Thread nD τ).loc main_arg1)

theorem ix0 : ∀ t : Fin grid0.N, win0_0.index t = ![t.val % 2, t.val / 4] := by decide +kernel
theorem ix1 : ∀ t : Fin grid0.N, win0_1.index t = ![t.val % 2, t.val / 2 % 2] := by decide +kernel
theorem ix2' : ∀ t : Fin grid0.N, win0_2.index t = ![t.val / 4, t.val / 2 % 2] := by decide +kernel

theorem blk0 (r : Fin 4096) (l : Fin 1024) :
    (iblk m c 0 t : S4096x1024.Idx → EReal) (ix2 r l) = at2 (X m c) (4096 * (t.val % 2) + r.val) (1024 * (t.val / 4) + l.val) := by
  have := lt_of_lt_of_eq t.isLt N_0
  rw [← at2_of (X m c) ⟨4096 * (t.val % 2) + r.val, by omega⟩ ⟨1024 * (t.val / 4) + l.val, by omega⟩ rfl rfl]
  blk_ext [iblk, V, ix0 t]

theorem blk1 (r : Fin 4096) (l : Fin 1024) :
    (iblk m c 1 t : S4096x1024.Idx → EReal) (ix2 r l) = at2 (D m c) (4096 * (t.val % 2) + r.val) (1024 * (t.val / 2 % 2) + l.val) := by
  have := lt_of_lt_of_eq t.isLt N_0
  rw [← at2_of (D m c) ⟨4096 * (t.val % 2) + r.val, by omega⟩ ⟨1024 * (t.val / 2 % 2) + l.val, by omega⟩ rfl rfl]
  blk_ext [iblk, V, ix1 t]

/-- One grid point's product. -/
theorem part (i j : Fin 1024) : (k0_pay1 (F := Ideal) (iblk m c 0 t) (iblk m c 1 t) : S1024x1024.Idx → EReal) (ix2 i j)
    = tile 4096 (fun k => at2 (X m c) k (1024 * (t.val / 4) + i.val)) (fun k => at2 (D m c) k (1024 * (t.val / 2 % 2) + j.val)) (t.val % 2) := by
  pointwise [k0_pay1]
  simp only [blk0, blk1]
  rfl

/-- The first of two points stores its product. -/
theorem first (h : t.val % 2 = 0) : (outsAt0 m c t.val t.isLt).2 = k0_pay1 (F := Ideal) (iblk m c 0 t) (iblk m c 1 t) := by
  rw [outsAt0_A m c t h (by omega)]
  frame_out
  funext y
  idx_vars y
  pointwise [k0_pay2]

/-- The second adds its own and leaves the tile. -/
theorem out (h : t.val % 2 = 1) : (outsAt0 m c t.val t.isLt).1 = fun y : S1024x1024.Idx =>
    dot 8192 (fun k => at2 (X m c) k (1024 * (t.val / 4) + (y 0).val)) fun k => at2 (D m c) k (1024 * (t.val / 2 % 2) + (y 1).val) := by
  have ht := lt_of_lt_of_eq t.isLt N_0
  have e : (outsAt0 m c (t.val - 1) (Nat.lt_of_le_of_lt (Nat.sub_le _ _) t.isLt)).2 = _ := first m c ⟨t.val - 1, by omega⟩ (show (t.val - 1) % 2 = 0 by omega)
  rw [outsAt0_B m c t (by omega) h]
  frame_out
  rw [(Memref.isWhole_whole _).read_unread, e]
  funext y
  idx_vars y
  pointwise [k0_pay4]
  rw [part, part]
  dsimp only
  rw [h, show (t.val - 1) % 2 = 0 by omega, show (t.val - 1) / 4 = t.val / 4 by omega, show (t.val - 1) / 2 % 2 = t.val / 2 % 2 by omega]
  exact tile_two rfl _ _

/-- The result after the run. -/
theorem final : (dats m 0 c).arrAt 2 cfg0.N = res (X m c) (D m c) := by
  unfold res
  refine (dats m 0 c).arrAt_eq_of_covers 2 _ (by decide +kernel) fun t hf y => ?_
  blk_simp
  rw [after0_2, out m c t ((flush0_2 t).mp hf), ix2']
  show dot _ _ _ = dot 8192 (fun k => at2 _ k (t.val / 4 * 1024 + (y 0).val)) fun k => at2 _ k (t.val / 2 % 2 * 1024 + (y 1).val)
  simp only [Nat.mul_comm]

/-- Kernel and reference leave the same array. -/
theorem algebraic : Cert.algebraic_Kernel10Ideal_Reference10Ideal := by
  intro m ρ m' ρ' _ hag
  refine ⟨fun c => res (X m c) (D m c), (θ_run defs _ _).mono (fun _ h c => ⟨(h c).1.trans (final m c), (h c).2⟩) (Cert.Kernel10Ideal.Value.run_blocks (F := Ideal) m ρ), ?_⟩
  refine (θ_run Cert.Reference10Ideal.defs _ _).mono (fun _ h c => ⟨((h c).1.trans (Cert.Reference10Ideal.Read.val_main_v6_eq _ _)).trans ?_, (h c).2⟩)
    (Cert.Reference10Ideal.Value.run (F := Ideal) m' ρ')
  rw [(hag c).1, (hag c).2]
  exact ref _ _

/-- The reference leaves its arguments. -/
theorem frameR : Cert.quiescent_Reference10Ideal := fun m ρ _ =>
  (θ_run Cert.Reference10Ideal.defs _ _).mono (fun r h => ⟨fun c => (h c).2, sem_eq_zero_of_no_sems (by decide) r.2⟩) (Cert.Reference10Ideal.Value.run (F := Ideal) m ρ)

end Cert.OutW

end
-- ==== Proof.BOutX.lean ====
/-
  The gradient of the gating mixer's output projection with respect to its input: the gradient of the projection's
  result times the weights, transposed. Each grid point computes a tile of the result at once.
-/
module

public import proofs.«01_k».proof.Defs
public import proofs.«01_k».proof.Proof.Prod
public import proofs.«01_k».proof.Proof.Gen.Kernel11Ideal.Value
public import proofs.«01_k».proof.Proof.Gen.Reference11Ideal.Read
public import Idealize.ShloMosaic.Lib.Pipeline.ReadBack

@[expose] public section

set_option maxRecDepth 16384

noncomputable section

namespace Cert.BOutX

open Idealize.ShloMosaic Idealize.ShloMosaic.TcCoe Idealize.SL.Sem
open Cert.Kernel11Ideal Cert.Kernel11Ideal.Gen Cert.Prod Cert.Conv
open Idealize.ShloMosaic.Pipeline (Dat)

/-- The result: at row `i` and column `j` the inner product of two rows. -/
def res (d : S8192x2048.Idx → EReal) (w : S2048x2048.Idx → EReal) : S8192x2048.Idx → EReal :=
  fun y => dot 2048 (fun k => at2 d (y 0).val k) fun k => at2 w (y 1).val k

/-- The reference's result. -/
theorem ref (d : S8192x2048.Idx → EReal) (w : S2048x2048.Idx → EReal) : Cert.Reference11Ideal.Read.val_main_v5 (F := Ideal) d w = res d w := by
  funext y
  idx_vars y
  pointwise [Cert.Reference11Ideal.Read.val_main_v5, Cert.Reference11Ideal.Read.val_main_v4, Cert.Reference11Ideal.Read.val_main_v3, Cert.Reference11Ideal.Read.val_main_v1]
  exact Finset.sum_congr rfl fun k _ => congrArg₂ (· * ·) (at2_ix2 d _ _) (at2_ix2 w _ _)

variable (m : (ℓ : Loc nD τ sig) → Buf (Elt Ideal) ℓ) (c : Dev nD) (t : Fin grid0.N)

abbrev D : S8192x2048.Idx → EReal := m ((c.tc : Thread nD τ).loc main_arg0)
abbrev W : S2048x2048.Idx → EReal := m ((c.tc : Thread nD τ).loc main_arg1)

theorem ix0 : ∀ t : Fin grid0.N, win0_0.index t = ![t.val, 0] := by decide +kernel
theorem ix1 : ∀ t : Fin grid0.N, win0_1.index t = ![0, 0] := by decide +kernel
theorem ix2' : ∀ t : Fin grid0.N, win0_2.index t = ![t.val, 0] := by decide +kernel

theorem blk0 (r : Fin 512) (l : Fin 2048) :
    (iblk m c 0 t : S512x2048.Idx → EReal) (ix2 r l) = at2 (D m c) (512 * t.val + r.val) l.val := by
  have := lt_of_lt_of_eq t.isLt N_0
  rw [← at2_of (D m c) ⟨512 * t.val + r.val, by omega⟩ ⟨l.val, by omega⟩ rfl rfl]
  blk_ext [iblk, V, ix0 t]

theorem blk1 (r l : Fin 2048) :
    (iblk m c 1 t : S2048x2048.Idx → EReal) (ix2 r l) = at2 (W m c) (r.val) l.val := by
  have := lt_of_lt_of_eq t.isLt N_0
  rw [← at2_of (W m c) ⟨r.val, by omega⟩ ⟨l.val, by omega⟩ rfl rfl]
  blk_ext [iblk, V, ix1 t]

/-- What one grid point computes. -/
theorem out : (out0_2 (F := Ideal) (iblk m c 0 t) (iblk m c 1 t) : S512x2048.Idx → EReal) = fun y : S512x2048.Idx =>
    dot 2048 (fun k => at2 (D m c) (512 * t.val + (y 0).val) k) fun k => at2 (W m c) ((y 1).val) k := by
  frame_out
  funext y
  idx_vars y
  pointwise [k0_pay1]
  simp only [blk0, blk1]
  rfl

/-- The result after the run. -/
theorem final : (dats m 0 c).arrAt 2 cfg0.N = res (D m c) (W m c) := by
  unfold res
  refine (dats m 0 c).arrAt_eq_of_covers 2 _ (by decide +kernel) fun t hf y => ?_
  blk_simp
  rw [after0_2, out, ix2']
  show dot _ _ _ = dot 2048 (fun k => at2 _ (t.val * 512 + (y 0).val) k) fun k => at2 _ (0 * 2048 + (y 1).val) k
  simp only [Nat.zero_mul, Nat.zero_add, Nat.mul_comm]

/-- Kernel and reference leave the same array. -/
theorem algebraic : Cert.algebraic_Kernel11Ideal_Reference11Ideal := by
  intro m ρ m' ρ' _ hag
  refine ⟨fun c => res (D m c) (W m c), (θ_run defs _ _).mono (fun _ h c => ⟨(h c).1.trans (final m c), (h c).2⟩) (Cert.Kernel11Ideal.Value.run_blocks (F := Ideal) m ρ), ?_⟩
  refine (θ_run Cert.Reference11Ideal.defs _ _).mono (fun _ h c => ⟨((h c).1.trans (Cert.Reference11Ideal.Read.val_main_v5_eq _ _)).trans ?_, (h c).2⟩)
    (Cert.Reference11Ideal.Value.run (F := Ideal) m' ρ')
  rw [(hag c).1, (hag c).2]
  exact ref _ _

/-- The reference leaves its arguments. -/
theorem frameR : Cert.quiescent_Reference11Ideal := fun m ρ _ =>
  (θ_run Cert.Reference11Ideal.defs _ _).mono (fun r h => ⟨fun c => (h c).2, sem_eq_zero_of_no_sems (by decide) r.2⟩) (Cert.Reference11Ideal.Value.run (F := Ideal) m ρ)

end Cert.BOutX

end
-- ==== Proof.AOutX.lean ====
/-
  The gradient of the convolution mixer's output projection with respect to its input: the gradient of the projection's
  result times the weights, transposed. Each grid point computes a tile of the result at once.
-/
module

public import proofs.«01_k».proof.Defs
public import proofs.«01_k».proof.Proof.Prod
public import proofs.«01_k».proof.Proof.Gen.Kernel12Ideal.Value
public import proofs.«01_k».proof.Proof.Gen.Reference12Ideal.Read
public import Idealize.ShloMosaic.Lib.Pipeline.ReadBack

@[expose] public section

set_option maxRecDepth 16384

noncomputable section

namespace Cert.AOutX

open Idealize.ShloMosaic Idealize.ShloMosaic.TcCoe Idealize.SL.Sem
open Cert.Kernel12Ideal Cert.Kernel12Ideal.Gen Cert.Prod Cert.Conv
open Idealize.ShloMosaic.Pipeline (Dat)

/-- The result: at row `i` and column `j` the inner product of two rows. -/
def res (d : S8192x2048.Idx → EReal) (w : S2048x2048.Idx → EReal) : S8192x2048.Idx → EReal :=
  fun y => dot 2048 (fun k => at2 d (y 0).val k) fun k => at2 w (y 1).val k

/-- The reference's result. -/
theorem ref (d : S8192x2048.Idx → EReal) (w : S2048x2048.Idx → EReal) : Cert.Reference12Ideal.Read.val_main_v4 (F := Ideal) d w = res d w := by
  funext y
  idx_vars y
  pointwise [Cert.Reference12Ideal.Read.val_main_v4, Cert.Reference12Ideal.Read.val_main_v3, Cert.Reference12Ideal.Read.val_main_v1]
  exact Finset.sum_congr rfl fun k _ => congrArg₂ (· * ·) (at2_ix2 d _ _) (at2_ix2 w _ _)

variable (m : (ℓ : Loc nD τ sig) → Buf (Elt Ideal) ℓ) (c : Dev nD) (t : Fin grid0.N)

abbrev D : S8192x2048.Idx → EReal := m ((c.tc : Thread nD τ).loc main_arg0)
abbrev W : S2048x2048.Idx → EReal := m ((c.tc : Thread nD τ).loc main_arg1)

theorem ix0 : ∀ t : Fin grid0.N, win0_0.index t = ![t.val, 0] := by decide +kernel
theorem ix1 : ∀ t : Fin grid0.N, win0_1.index t = ![0, 0] := by decide +kernel
theorem ix2' : ∀ t : Fin grid0.N, win0_2.index t = ![t.val, 0] := by decide +kernel

theorem blk0 (r : Fin 512) (l : Fin 2048) :
    (iblk m c 0 t : S512x2048.Idx → EReal) (ix2 r l) = at2 (D m c) (512 * t.val + r.val) l.val := by
  have := lt_of_lt_of_eq t.isLt N_0
  rw [← at2_of (D m c) ⟨512 * t.val + r.val, by omega⟩ ⟨l.val, by omega⟩ rfl rfl]
  blk_ext [iblk, V, ix0 t]

theorem blk1 (r l : Fin 2048) :
    (iblk m c 1 t : S2048x2048.Idx → EReal) (ix2 r l) = at2 (W m c) (r.val) l.val := by
  have := lt_of_lt_of_eq t.isLt N_0
  rw [← at2_of (W m c) ⟨r.val, by omega⟩ ⟨l.val, by omega⟩ rfl rfl]
  blk_ext [iblk, V, ix1 t]

/-- What one grid point computes. -/
theorem out : (out0_2 (F := Ideal) (iblk m c 0 t) (iblk m c 1 t) : S512x2048.Idx → EReal) = fun y : S512x2048.Idx =>
    dot 2048 (fun k => at2 (D m c) (512 * t.val + (y 0).val) k) fun k => at2 (W m c) ((y 1).val) k := by
  frame_out
  funext y
  idx_vars y
  pointwise [k0_pay1]
  simp only [blk0, blk1]
  rfl

/-- The result after the run. -/
theorem final : (dats m 0 c).arrAt 2 cfg0.N = res (D m c) (W m c) := by
  unfold res
  refine (dats m 0 c).arrAt_eq_of_covers 2 _ (by decide +kernel) fun t hf y => ?_
  blk_simp
  rw [after0_2, out, ix2']
  show dot _ _ _ = dot 2048 (fun k => at2 _ (t.val * 512 + (y 0).val) k) fun k => at2 _ (0 * 2048 + (y 1).val) k
  simp only [Nat.zero_mul, Nat.zero_add, Nat.mul_comm]

/-- Kernel and reference leave the same array. -/
theorem algebraic : Cert.algebraic_Kernel12Ideal_Reference12Ideal := by
  intro m ρ m' ρ' _ hag
  refine ⟨fun c => res (D m c) (W m c), (θ_run defs _ _).mono (fun _ h c => ⟨(h c).1.trans (final m c), (h c).2⟩) (Cert.Kernel12Ideal.Value.run_blocks (F := Ideal) m ρ), ?_⟩
  refine (θ_run Cert.Reference12Ideal.defs _ _).mono (fun _ h c => ⟨((h c).1.trans (Cert.Reference12Ideal.Read.val_main_v4_eq _ _)).trans ?_, (h c).2⟩)
    (Cert.Reference12Ideal.Value.run (F := Ideal) m' ρ')
  rw [(hag c).1, (hag c).2]
  exact ref _ _

/-- The reference leaves its arguments. -/
theorem frameR : Cert.quiescent_Reference12Ideal := fun m ρ _ =>
  (θ_run Cert.Reference12Ideal.defs _ _).mono (fun r h => ⟨fun c => (h c).2, sem_eq_zero_of_no_sems (by decide) r.2⟩) (Cert.Reference12Ideal.Value.run (F := Ideal) m ρ)

end Cert.AOutX

end
-- ==== Proof.FfnUp.lean ====
/-
  The feed-forward layer's up projection: the normalised input times the weights. Each grid point computes a tile of the
  result at once.
-/
module

public import proofs.«01_k».proof.Defs
public import proofs.«01_k».proof.Proof.Prod
public import proofs.«01_k».proof.Proof.Gen.Kernel13Ideal.Value
public import proofs.«01_k».proof.Proof.Gen.Reference13Ideal.Read
public import Idealize.ShloMosaic.Lib.Pipeline.ReadBack

@[expose] public section

set_option maxRecDepth 16384

noncomputable section

namespace Cert.FfnUp

open Idealize.ShloMosaic Idealize.ShloMosaic.TcCoe Idealize.SL.Sem
open Cert.Kernel13Ideal Cert.Kernel13Ideal.Gen Cert.Prod Cert.Conv
open Idealize.ShloMosaic.Pipeline (Dat)

/-- The result: at row `i` and column `j` the inner product of a row and a column. -/
def res (h : S8192x2048.Idx → EReal) (w : S2048x11264.Idx → EReal) : S8192x11264.Idx → EReal :=
  fun y => dot 2048 (fun k => at2 h (y 0).val k) fun k => at2 w k (y 1).val

/-- The reference's result. -/
theorem ref (h : S8192x2048.Idx → EReal) (w : S2048x11264.Idx → EReal) : Cert.Reference13Ideal.Read.val_main_v3 (F := Ideal) h w = res h w := by
  funext y
  idx_vars y
  pointwise [Cert.Reference13Ideal.Read.val_main_v3, Cert.Reference13Ideal.Read.val_main_v2, Cert.Reference13Ideal.Read.val_main_v1,
    Cert.Reference13Ideal.Read.val_main_v0]
  exact Finset.sum_congr rfl fun k _ => congrArg₂ (· * ·) (at2_ix2 h _ _) (at2_ix2 w _ _)

variable (m : (ℓ : Loc nD τ sig) → Buf (Elt Ideal) ℓ) (c : Dev nD) (t : Fin grid0.N)

abbrev H : S8192x2048.Idx → EReal := m ((c.tc : Thread nD τ).loc main_arg0)
abbrev W : S2048x11264.Idx → EReal := m ((c.tc : Thread nD τ).loc main_arg1)

theorem ix0 : ∀ t : Fin grid0.N, win0_0.index t = ![t.val / 11, 0] := by decide +kernel
theorem ix1 : ∀ t : Fin grid0.N, win0_1.index t = ![0, t.val % 11] := by decide +kernel
theorem ix2' : ∀ t : Fin grid0.N, win0_2.index t = ![t.val / 11, t.val % 11] := by decide +kernel

theorem blk0 (r l : Fin 2048) :
    (iblk m c 0 t : S2048x2048.Idx → EReal) (ix2 r l) = at2 (H m c) (2048 * (t.val / 11) + r.val) l.val := by
  have := lt_of_lt_of_eq t.isLt N_0
  rw [← at2_of (H m c) ⟨2048 * (t.val / 11) + r.val, by omega⟩ ⟨l.val, by omega⟩ rfl rfl]
  blk_ext [iblk, V, ix0 t]

theorem blk1 (r : Fin 2048) (l : Fin 1024) :
    (iblk m c 1 t : S2048x1024.Idx → EReal) (ix2 r l) = at2 (W m c) r.val (1024 * (t.val % 11) + l.val) := by
  have := lt_of_lt_of_eq t.isLt N_0
  rw [← at2_of (W m c) ⟨r.val, by omega⟩ ⟨1024 * (t.val % 11) + l.val, by omega⟩ rfl rfl]
  blk_ext [iblk, V, ix1 t]

/-- What one grid point computes. -/
theorem out : (out0_2 (F := Ideal) (iblk m c 0 t) (iblk m c 1 t) : S2048x1024.Idx → EReal) = fun y : S2048x1024.Idx =>
    dot 2048 (fun k => at2 (H m c) (2048 * (t.val / 11) + (y 0).val) k) fun k => at2 (W m c) k (1024 * (t.val % 11) + (y 1).val) := by
  frame_out
  funext y
  idx_vars y
  pointwise [k0_pay1]
  simp only [blk0, blk1]
  rfl

/-- The result after the run. -/
theorem final : (dats m 0 c).arrAt 2 cfg0.N = res (H m c) (W m c) := by
  unfold res
  refine (dats m 0 c).arrAt_eq_of_covers 2 _ (by decide +kernel) fun t hf y => ?_
  blk_simp
  rw [after0_2, out, ix2']
  show dot _ _ _ = dot 2048 (fun k => at2 _ (t.val / 11 * 2048 + (y 0).val) k) fun k => at2 _ k (t.val % 11 * 1024 + (y 1).val)
  simp only [Nat.mul_comm]

/-- Kernel and reference leave the same array. -/
theorem algebraic : Cert.algebraic_Kernel13Ideal_Reference13Ideal := by
  intro m ρ m' ρ' _ hag
  refine ⟨fun c => res (H m c) (W m c), (θ_run defs _ _).mono (fun _ h c => ⟨(h c).1.trans (final m c), (h c).2⟩) (Cert.Kernel13Ideal.Value.run_blocks (F := Ideal) m ρ), ?_⟩
  refine (θ_run Cert.Reference13Ideal.defs _ _).mono (fun _ h c => ⟨((h c).1.trans (Cert.Reference13Ideal.Read.val_main_v3_eq _ _)).trans ?_, (h c).2⟩)
    (Cert.Reference13Ideal.Value.run (F := Ideal) m' ρ')
  rw [(hag c).1, (hag c).2]
  exact ref _ _

/-- The reference leaves its arguments. -/
theorem frameR : Cert.quiescent_Reference13Ideal := fun m ρ _ =>
  (θ_run Cert.Reference13Ideal.defs _ _).mono (fun r h => ⟨fun c => (h c).2, sem_eq_zero_of_no_sems (by decide) r.2⟩) (Cert.Reference13Ideal.Value.run (F := Ideal) m ρ)

end Cert.FfnUp

end
-- ==== Proof.FfnDown.lean ====
/-
  The feed-forward layer's down projection: the activated values times the weights, added to the layer's input. Two grid
  points share a tile of the result, one for each half of the inner positions.
-/
module

public import proofs.«01_k».proof.Defs
public import proofs.«01_k».proof.Proof.Prod
public import proofs.«01_k».proof.Proof.Gen.Kernel14Ideal.Value
public import proofs.«01_k».proof.Proof.Gen.Reference14Ideal.Read
public import Idealize.ShloMosaic.Lib.Pipeline.ReadBack

@[expose] public section

set_option maxRecDepth 16384

noncomputable section

namespace Cert.FfnDown

open Idealize.ShloMosaic Idealize.ShloMosaic.TcCoe Idealize.SL.Sem
open Cert.Kernel14Ideal Cert.Kernel14Ideal.Gen Cert.Prod Cert.Conv
open Idealize.ShloMosaic.Pipeline (Dat)

/-- The result: at row `i` and column `j` the inner product of a row and a column, and the input there. -/
def res (h : S8192x5632.Idx → EReal) (w : S5632x2048.Idx → EReal) (x : S8192x2048.Idx → EReal) : S8192x2048.Idx → EReal :=
  fun y => dot 5632 (fun k => at2 h (y 0).val k) (fun k => at2 w k (y 1).val) + at2 x (y 0).val (y 1).val

/-- The reference's result. -/
theorem ref (h : S8192x5632.Idx → EReal) (w : S5632x2048.Idx → EReal) (x : S8192x2048.Idx → EReal) :
    Cert.Reference14Ideal.Read.val_main_v3 (F := Ideal) h w x = res h w x := by
  funext y
  idx_vars y
  pointwise [Cert.Reference14Ideal.Read.val_main_v3, Cert.Reference14Ideal.Read.val_main_v2, Cert.Reference14Ideal.Read.val_main_v1,
    Cert.Reference14Ideal.Read.val_main_v0]
  exact (add_comm _ _).trans (congrArg₂ (· + ·) (Finset.sum_congr rfl fun k _ => congrArg₂ (· * ·) (at2_ix2 h _ _) (at2_ix2 w _ _)) (at2_ix2 x _ _))

variable (m : (ℓ : Loc nD τ sig) → Buf (Elt Ideal) ℓ) (c : Dev nD) (t : Fin grid0.N)

abbrev H : S8192x5632.Idx → EReal := m ((c.tc : Thread nD τ).loc main_arg0)
abbrev W : S5632x2048.Idx → EReal := m ((c.tc : Thread nD τ).loc main_arg1)
abbrev X : S8192x2048.Idx → EReal := m ((c.tc : Thread nD τ).loc main_arg2)

theorem ix0 : ∀ t : Fin grid0.N, win0_0.index t = ![t.val / 4, t.val % 2] := by decide +kernel
theorem ix1 : ∀ t : Fin grid0.N, win0_1.index t = ![t.val % 2, t.val / 2 % 2] := by decide +kernel
theorem ix2' : ∀ t : Fin grid0.N, win0_2.index t = ![t.val / 4, t.val / 2 % 2] := by decide +kernel
theorem ix3 : ∀ t : Fin grid0.N, win0_3.index t = ![t.val / 4, t.val / 2 % 2] := by decide +kernel

theorem blk0 (r : Fin 1024) (l : Fin 2816) :
    (iblk m c 0 t : S1024x2816.Idx → EReal) (ix2 r l) = at2 (H m c) (1024 * (t.val / 4) + r.val) (2816 * (t.val % 2) + l.val) := by
  have := lt_of_lt_of_eq t.isLt N_0
  rw [← at2_of (H m c) ⟨1024 * (t.val / 4) + r.val, by omega⟩ ⟨2816 * (t.val % 2) + l.val, by omega⟩ rfl rfl]
  blk_ext [iblk, V, ix0 t]

theorem blk1 (r : Fin 2816) (l : Fin 1024) :
    (iblk m c 1 t : S2816x1024.Idx → EReal) (ix2 r l) = at2 (W m c) (2816 * (t.val % 2) + r.val) (1024 * (t.val / 2 % 2) + l.val) := by
  have := lt_of_lt_of_eq t.isLt N_0
  rw [← at2_of (W m c) ⟨2816 * (t.val % 2) + r.val, by omega⟩ ⟨1024 * (t.val / 2 % 2) + l.val, by omega⟩ rfl rfl]
  blk_ext [iblk, V, ix1 t]

theorem blk2 (r l : Fin 1024) :
    (iblk m c 2 t : S1024x1024.Idx → EReal) (ix2 r l) = at2 (X m c) (1024 * (t.val / 4) + r.val) (1024 * (t.val / 2 % 2) + l.val) := by
  have := lt_of_lt_of_eq t.isLt N_0
  rw [← at2_of (X m c) ⟨1024 * (t.val / 4) + r.val, by omega⟩ ⟨1024 * (t.val / 2 % 2) + l.val, by omega⟩ rfl rfl]
  blk_ext [iblk, V, ix2' t]

/-- One grid point's product. -/
theorem part (i j : Fin 1024) : (k0_pay1 (F := Ideal) (iblk m c 0 t) (iblk m c 1 t) : S1024x1024.Idx → EReal) (ix2 i j)
    = tile 2816 (fun k => at2 (H m c) (1024 * (t.val / 4) + i.val) k) (fun k => at2 (W m c) k (1024 * (t.val / 2 % 2) + j.val)) (t.val % 2) := by
  pointwise [k0_pay1]
  simp only [blk0, blk1]
  rfl

/-- The first of two points stores its product. -/
theorem first (h : t.val % 2 = 0) : outsAt0 m c t.val t.isLt = k0_pay1 (F := Ideal) (iblk m c 0 t) (iblk m c 1 t) := by
  rw [outsAt0_A m c t h (by omega)]
  frame_out

/-- The second adds its own and the input. -/
theorem out (h : t.val % 2 = 1) : outsAt0 m c t.val t.isLt = fun y : S1024x1024.Idx =>
    dot 5632 (fun k => at2 (H m c) (1024 * (t.val / 4) + (y 0).val) k) (fun k => at2 (W m c) k (1024 * (t.val / 2 % 2) + (y 1).val))
      + at2 (X m c) (1024 * (t.val / 4) + (y 0).val) (1024 * (t.val / 2 % 2) + (y 1).val) := by
  have ht := lt_of_lt_of_eq t.isLt N_0
  have e : outsAt0 m c (t.val - 1) (Nat.lt_of_le_of_lt (Nat.sub_le _ _) t.isLt) = _ := first m c ⟨t.val - 1, by omega⟩ (show (t.val - 1) % 2 = 0 by omega)
  rw [outsAt0_B m c t (by omega) h, e]
  frame_out
  funext y
  idx_vars y
  pointwise [k0_pay3]
  rw [part, part, blk2]
  dsimp only
  rw [h, show (t.val - 1) % 2 = 0 by omega, show (t.val - 1) / 4 = t.val / 4 by omega, show (t.val - 1) / 2 % 2 = t.val / 2 % 2 by omega]
  exact congrArg (· + _) (tile_two rfl _ _)

/-- The result after the run. -/
theorem final : (dats m 0 c).arrAt 3 cfg0.N = res (H m c) (W m c) (X m c) := by
  unfold res
  refine (dats m 0 c).arrAt_eq_of_covers 3 _ (by decide +kernel) fun t hf y => ?_
  blk_simp
  rw [after0_3, out m c t ((flush0_3 t).mp hf), ix3]
  show dot _ _ _ + _ = dot 5632 (fun k => at2 _ (t.val / 4 * 1024 + (y 0).val) k) (fun k => at2 _ k (t.val / 2 % 2 * 1024 + (y 1).val))
    + at2 _ (t.val / 4 * 1024 + (y 0).val) (t.val / 2 % 2 * 1024 + (y 1).val)
  simp only [Nat.mul_comm]

/-- Kernel and reference leave the same array. -/
theorem algebraic : Cert.algebraic_Kernel14Ideal_Reference14Ideal := by
  intro m ρ m' ρ' _ hag
  refine ⟨fun c => res (H m c) (W m c) (X m c), (θ_run defs _ _).mono (fun _ h c => ⟨(h c).1.trans (final m c), (h c).2⟩) (Cert.Kernel14Ideal.Value.run_blocks (F := Ideal) m ρ), ?_⟩
  refine (θ_run Cert.Reference14Ideal.defs _ _).mono (fun _ h c => ⟨((h c).1.trans (Cert.Reference14Ideal.Read.val_main_v3_eq _ _ _)).trans ?_, (h c).2⟩)
    (Cert.Reference14Ideal.Value.run (F := Ideal) m' ρ')
  rw [(hag c).1, (hag c).2.1, (hag c).2.2]
  exact ref _ _ _

/-- The reference leaves its arguments. -/
theorem frameR : Cert.quiescent_Reference14Ideal := fun m ρ _ =>
  (θ_run Cert.Reference14Ideal.defs _ _).mono (fun r h => ⟨fun c => (h c).2, sem_eq_zero_of_no_sems (by decide) r.2⟩) (Cert.Reference14Ideal.Value.run (F := Ideal) m ρ)

end Cert.FfnDown

end
-- ==== Proof.AIn.lean ====
/-
  The convolution mixer's input projection: the normalised input times the weights. Each grid point computes a tile of the
  result at once.
-/
module

public import proofs.«01_k».proof.Defs
public import proofs.«01_k».proof.Proof.Prod
public import proofs.«01_k».proof.Proof.Gen.Kernel15Ideal.Value
public import proofs.«01_k».proof.Proof.Gen.Reference15Ideal.Read
public import Idealize.ShloMosaic.Lib.Pipeline.ReadBack

@[expose] public section

set_option maxRecDepth 16384

noncomputable section

namespace Cert.AIn

open Idealize.ShloMosaic Idealize.ShloMosaic.TcCoe Idealize.SL.Sem
open Cert.Kernel15Ideal Cert.Kernel15Ideal.Gen Cert.Prod Cert.Conv
open Idealize.ShloMosaic.Pipeline (Dat)

/-- The result: at row `i` and column `j` the inner product of a row and a column. -/
def res (h : S8192x2048.Idx → EReal) (w : S2048x6144.Idx → EReal) : S8192x6144.Idx → EReal :=
  fun y => dot 2048 (fun k => at2 h (y 0).val k) fun k => at2 w k (y 1).val

/-- The reference's result. -/
theorem ref (h : S8192x2048.Idx → EReal) (w : S2048x6144.Idx → EReal) : Cert.Reference15Ideal.Read.val_main_v3 (F := Ideal) h w = res h w := by
  funext y
  idx_vars y
  pointwise [Cert.Reference15Ideal.Read.val_main_v3, Cert.Reference15Ideal.Read.val_main_v2, Cert.Reference15Ideal.Read.val_main_v1,
    Cert.Reference15Ideal.Read.val_main_v0]
  exact Finset.sum_congr rfl fun k _ => congrArg₂ (· * ·) (at2_ix2 h _ _) (at2_ix2 w _ _)

variable (m : (ℓ : Loc nD τ sig) → Buf (Elt Ideal) ℓ) (c : Dev nD) (t : Fin grid0.N)

abbrev H : S8192x2048.Idx → EReal := m ((c.tc : Thread nD τ).loc main_arg0)
abbrev W : S2048x6144.Idx → EReal := m ((c.tc : Thread nD τ).loc main_arg1)

theorem ix0 : ∀ t : Fin grid0.N, win0_0.index t = ![t.val / 6, 0] := by decide +kernel
theorem ix1 : ∀ t : Fin grid0.N, win0_1.index t = ![0, t.val % 6] := by decide +kernel
theorem ix2' : ∀ t : Fin grid0.N, win0_2.index t = ![t.val / 6, t.val % 6] := by decide +kernel

theorem blk0 (r l : Fin 2048) :
    (iblk m c 0 t : S2048x2048.Idx → EReal) (ix2 r l) = at2 (H m c) (2048 * (t.val / 6) + r.val) l.val := by
  have := lt_of_lt_of_eq t.isLt N_0
  rw [← at2_of (H m c) ⟨2048 * (t.val / 6) + r.val, by omega⟩ ⟨l.val, by omega⟩ rfl rfl]
  blk_ext [iblk, V, ix0 t]

theorem blk1 (r : Fin 2048) (l : Fin 1024) :
    (iblk m c 1 t : S2048x1024.Idx → EReal) (ix2 r l) = at2 (W m c) r.val (1024 * (t.val % 6) + l.val) := by
  have := lt_of_lt_of_eq t.isLt N_0
  rw [← at2_of (W m c) ⟨r.val, by omega⟩ ⟨1024 * (t.val % 6) + l.val, by omega⟩ rfl rfl]
  blk_ext [iblk, V, ix1 t]

/-- What one grid point computes. -/
theorem out : (out0_2 (F := Ideal) (iblk m c 0 t) (iblk m c 1 t) : S2048x1024.Idx → EReal) = fun y : S2048x1024.Idx =>
    dot 2048 (fun k => at2 (H m c) (2048 * (t.val / 6) + (y 0).val) k) fun k => at2 (W m c) k (1024 * (t.val % 6) + (y 1).val) := by
  frame_out
  funext y
  idx_vars y
  pointwise [k0_pay1]
  simp only [blk0, blk1]
  rfl

/-- The result after the run. -/
theorem final : (dats m 0 c).arrAt 2 cfg0.N = res (H m c) (W m c) := by
  unfold res
  refine (dats m 0 c).arrAt_eq_of_covers 2 _ (by decide +kernel) fun t hf y => ?_
  blk_simp
  rw [after0_2, out, ix2']
  show dot _ _ _ = dot 2048 (fun k => at2 _ (t.val / 6 * 2048 + (y 0).val) k) fun k => at2 _ k (t.val % 6 * 1024 + (y 1).val)
  simp only [Nat.mul_comm]

/-- Kernel and reference leave the same array. -/
theorem algebraic : Cert.algebraic_Kernel15Ideal_Reference15Ideal := by
  intro m ρ m' ρ' _ hag
  refine ⟨fun c => res (H m c) (W m c), (θ_run defs _ _).mono (fun _ h c => ⟨(h c).1.trans (final m c), (h c).2⟩) (Cert.Kernel15Ideal.Value.run_blocks (F := Ideal) m ρ), ?_⟩
  refine (θ_run Cert.Reference15Ideal.defs _ _).mono (fun _ h c => ⟨((h c).1.trans (Cert.Reference15Ideal.Read.val_main_v3_eq _ _)).trans ?_, (h c).2⟩)
    (Cert.Reference15Ideal.Value.run (F := Ideal) m' ρ')
  rw [(hag c).1, (hag c).2]
  exact ref _ _

/-- The reference leaves its arguments. -/
theorem frameR : Cert.quiescent_Reference15Ideal := fun m ρ _ =>
  (θ_run Cert.Reference15Ideal.defs _ _).mono (fun r h => ⟨fun c => (h c).2, sem_eq_zero_of_no_sems (by decide) r.2⟩) (Cert.Reference15Ideal.Value.run (F := Ideal) m ρ)

end Cert.AIn

end
-- ==== Proof.AOut.lean ====
/-
  The convolution mixer's output projection: the mixed values times the weights, added to the layer's input. Each grid
  point computes 512 rows of the result at once.
-/
module

public import proofs.«01_k».proof.Defs
public import proofs.«01_k».proof.Proof.Prod
public import proofs.«01_k».proof.Proof.Gen.Kernel16Ideal.Value
public import proofs.«01_k».proof.Proof.Gen.Reference16Ideal.Read
public import Idealize.ShloMosaic.Lib.Pipeline.ReadBack

@[expose] public section

set_option maxRecDepth 16384

noncomputable section

namespace Cert.AOut

open Idealize.ShloMosaic Idealize.ShloMosaic.TcCoe Idealize.SL.Sem
open Cert.Kernel16Ideal Cert.Kernel16Ideal.Gen Cert.Prod Cert.Conv
open Idealize.ShloMosaic.Pipeline (Dat)

/-- The result: at row `i` and column `j` the inner product of a row and a column, and the input there. -/
def res (h : S8192x2048.Idx → EReal) (w : S2048x2048.Idx → EReal) (x : S8192x2048.Idx → EReal) : S8192x2048.Idx → EReal :=
  fun y => dot 2048 (fun k => at2 h (y 0).val k) (fun k => at2 w k (y 1).val) + at2 x (y 0).val (y 1).val

/-- The reference's result. -/
theorem ref (h : S8192x2048.Idx → EReal) (w : S2048x2048.Idx → EReal) (x : S8192x2048.Idx → EReal) :
    Cert.Reference16Ideal.Read.val_main_v3 (F := Ideal) h w x = res h w x := by
  funext y
  idx_vars y
  pointwise [Cert.Reference16Ideal.Read.val_main_v3, Cert.Reference16Ideal.Read.val_main_v2, Cert.Reference16Ideal.Read.val_main_v1,
    Cert.Reference16Ideal.Read.val_main_v0]
  exact (add_comm _ _).trans (congrArg₂ (· + ·) (Finset.sum_congr rfl fun k _ => congrArg₂ (· * ·) (at2_ix2 h _ _) (at2_ix2 w _ _)) (at2_ix2 x _ _))

variable (m : (ℓ : Loc nD τ sig) → Buf (Elt Ideal) ℓ) (c : Dev nD) (t : Fin grid0.N)

abbrev H : S8192x2048.Idx → EReal := m ((c.tc : Thread nD τ).loc main_arg0)
abbrev W : S2048x2048.Idx → EReal := m ((c.tc : Thread nD τ).loc main_arg1)
abbrev X : S8192x2048.Idx → EReal := m ((c.tc : Thread nD τ).loc main_arg2)

theorem ix0 : ∀ t : Fin grid0.N, win0_0.index t = ![t.val, 0] := by decide +kernel
theorem ix1 : ∀ t : Fin grid0.N, win0_1.index t = ![0, 0] := by decide +kernel
theorem ix2' : ∀ t : Fin grid0.N, win0_2.index t = ![t.val, 0] := by decide +kernel
theorem ix3 : ∀ t : Fin grid0.N, win0_3.index t = ![t.val, 0] := by decide +kernel

theorem blk0 (r : Fin 512) (l : Fin 2048) :
    (iblk m c 0 t : S512x2048.Idx → EReal) (ix2 r l) = at2 (H m c) (512 * t.val + r.val) l.val := by
  have := lt_of_lt_of_eq t.isLt N_0
  rw [← at2_of (H m c) ⟨512 * t.val + r.val, by omega⟩ ⟨l.val, by omega⟩ rfl rfl]
  blk_ext [iblk, V, ix0 t]

theorem blk1 (r l : Fin 2048) : (iblk m c 1 t : S2048x2048.Idx → EReal) (ix2 r l) = at2 (W m c) r.val l.val := by
  rw [← at2_of (W m c) r l rfl rfl]
  blk_ext [iblk, V, ix1 t]

theorem blk2 (r : Fin 512) (l : Fin 2048) :
    (iblk m c 2 t : S512x2048.Idx → EReal) (ix2 r l) = at2 (X m c) (512 * t.val + r.val) l.val := by
  have := lt_of_lt_of_eq t.isLt N_0
  rw [← at2_of (X m c) ⟨512 * t.val + r.val, by omega⟩ ⟨l.val, by omega⟩ rfl rfl]
  blk_ext [iblk, V, ix2' t]

/-- One grid point's rows. -/
theorem rows (i : Fin 512) (j : Fin 2048) : (k0_pay1 (F := Ideal) (iblk m c 0 t) (iblk m c 1 t) (iblk m c 2 t) : S512x2048.Idx → EReal) (ix2 i j)
    = dot 2048 (fun k => at2 (H m c) (512 * t.val + i.val) k) (fun k => at2 (W m c) k j.val) + at2 (X m c) (512 * t.val + i.val) j.val := by
  pointwise [k0_pay1]
  simp only [blk0, blk1, blk2]
  rfl

/-- What one grid point computes. -/
theorem out : (out0_3 (F := Ideal) (iblk m c 0 t) (iblk m c 1 t) (iblk m c 2 t) : S512x2048.Idx → EReal) = fun y : S512x2048.Idx =>
    dot 2048 (fun k => at2 (H m c) (512 * t.val + (y 0).val) k) (fun k => at2 (W m c) k (y 1).val) + at2 (X m c) (512 * t.val + (y 0).val) (y 1).val := by
  frame_out
  funext y
  idx_vars y
  exact rows m c t _ _

/-- The result after the run. -/
theorem final : (dats m 0 c).arrAt 3 cfg0.N = res (H m c) (W m c) (X m c) := by
  unfold res
  refine (dats m 0 c).arrAt_eq_of_covers 3 _ (by decide +kernel) fun t hf y => ?_
  blk_simp
  rw [after0_3, out, ix3]
  show dot _ _ _ + _ = dot 2048 (fun k => at2 _ (t.val * 512 + (y 0).val) k) (fun k => at2 _ k (0 * 2048 + (y 1).val)) + at2 _ (t.val * 512 + (y 0).val) (0 * 2048 + (y 1).val)
  simp only [Nat.zero_mul, Nat.zero_add, Nat.mul_comm]

/-- Kernel and reference leave the same array. -/
theorem algebraic : Cert.algebraic_Kernel16Ideal_Reference16Ideal := by
  intro m ρ m' ρ' _ hag
  refine ⟨fun c => res (H m c) (W m c) (X m c), (θ_run defs _ _).mono (fun _ h c => ⟨(h c).1.trans (final m c), (h c).2⟩) (Cert.Kernel16Ideal.Value.run_blocks (F := Ideal) m ρ), ?_⟩
  refine (θ_run Cert.Reference16Ideal.defs _ _).mono (fun _ h c => ⟨((h c).1.trans (Cert.Reference16Ideal.Read.val_main_v3_eq _ _ _)).trans ?_, (h c).2⟩)
    (Cert.Reference16Ideal.Value.run (F := Ideal) m' ρ')
  rw [(hag c).1, (hag c).2.1, (hag c).2.2]
  exact ref _ _ _

/-- The reference leaves its arguments. -/
theorem frameR : Cert.quiescent_Reference16Ideal := fun m ρ _ =>
  (θ_run Cert.Reference16Ideal.defs _ _).mono (fun r h => ⟨fun c => (h c).2, sem_eq_zero_of_no_sems (by decide) r.2⟩) (Cert.Reference16Ideal.Value.run (F := Ideal) m ρ)

end Cert.AOut

end
-- ==== Proof.BIn.lean ====
/-
  The gating mixer's input projection: the normalised input times the weights. Each grid point computes a tile of the
  result at once.
-/
module

public import proofs.«01_k».proof.Defs
public import proofs.«01_k».proof.Proof.Prod
public import proofs.«01_k».proof.Proof.Gen.Kernel17Ideal.Value
public import proofs.«01_k».proof.Proof.Gen.Reference17Ideal.Read
public import Idealize.ShloMosaic.Lib.Pipeline.ReadBack

@[expose] public section

set_option maxRecDepth 16384

noncomputable section

namespace Cert.BIn

open Idealize.ShloMosaic Idealize.ShloMosaic.TcCoe Idealize.SL.Sem
open Cert.Kernel17Ideal Cert.Kernel17Ideal.Gen Cert.Prod Cert.Conv
open Idealize.ShloMosaic.Pipeline (Dat)

/-- The result: at row `i` and column `j` the inner product of a row and a column. -/
def res (h : S8192x2048.Idx → EReal) (w : S2048x4096.Idx → EReal) : S8192x4096.Idx → EReal :=
  fun y => dot 2048 (fun k => at2 h (y 0).val k) fun k => at2 w k (y 1).val

/-- The reference's result. -/
theorem ref (h : S8192x2048.Idx → EReal) (w : S2048x4096.Idx → EReal) : Cert.Reference17Ideal.Read.val_main_v3 (F := Ideal) h w = res h w := by
  funext y
  idx_vars y
  pointwise [Cert.Reference17Ideal.Read.val_main_v3, Cert.Reference17Ideal.Read.val_main_v2, Cert.Reference17Ideal.Read.val_main_v1,
    Cert.Reference17Ideal.Read.val_main_v0]
  exact Finset.sum_congr rfl fun k _ => congrArg₂ (· * ·) (at2_ix2 h _ _) (at2_ix2 w _ _)

variable (m : (ℓ : Loc nD τ sig) → Buf (Elt Ideal) ℓ) (c : Dev nD) (t : Fin grid0.N)

abbrev H : S8192x2048.Idx → EReal := m ((c.tc : Thread nD τ).loc main_arg0)
abbrev W : S2048x4096.Idx → EReal := m ((c.tc : Thread nD τ).loc main_arg1)

theorem ix0 : ∀ t : Fin grid0.N, win0_0.index t = ![t.val / 4, 0] := by decide +kernel
theorem ix1 : ∀ t : Fin grid0.N, win0_1.index t = ![0, t.val % 4] := by decide +kernel
theorem ix2' : ∀ t : Fin grid0.N, win0_2.index t = ![t.val / 4, t.val % 4] := by decide +kernel

theorem blk0 (r l : Fin 2048) :
    (iblk m c 0 t : S2048x2048.Idx → EReal) (ix2 r l) = at2 (H m c) (2048 * (t.val / 4) + r.val) l.val := by
  have := lt_of_lt_of_eq t.isLt N_0
  rw [← at2_of (H m c) ⟨2048 * (t.val / 4) + r.val, by omega⟩ ⟨l.val, by omega⟩ rfl rfl]
  blk_ext [iblk, V, ix0 t]

theorem blk1 (r : Fin 2048) (l : Fin 1024) :
    (iblk m c 1 t : S2048x1024.Idx → EReal) (ix2 r l) = at2 (W m c) r.val (1024 * (t.val % 4) + l.val) := by
  have := lt_of_lt_of_eq t.isLt N_0
  rw [← at2_of (W m c) ⟨r.val, by omega⟩ ⟨1024 * (t.val % 4) + l.val, by omega⟩ rfl rfl]
  blk_ext [iblk, V, ix1 t]

/-- What one grid point computes. -/
theorem out : (out0_2 (F := Ideal) (iblk m c 0 t) (iblk m c 1 t) : S2048x1024.Idx → EReal) = fun y : S2048x1024.Idx =>
    dot 2048 (fun k => at2 (H m c) (2048 * (t.val / 4) + (y 0).val) k) fun k => at2 (W m c) k (1024 * (t.val % 4) + (y 1).val) := by
  frame_out
  funext y
  idx_vars y
  pointwise [k0_pay1]
  simp only [blk0, blk1]
  rfl

/-- The result after the run. -/
theorem final : (dats m 0 c).arrAt 2 cfg0.N = res (H m c) (W m c) := by
  unfold res
  refine (dats m 0 c).arrAt_eq_of_covers 2 _ (by decide +kernel) fun t hf y => ?_
  blk_simp
  rw [after0_2, out, ix2']
  show dot _ _ _ = dot 2048 (fun k => at2 _ (t.val / 4 * 2048 + (y 0).val) k) fun k => at2 _ k (t.val % 4 * 1024 + (y 1).val)
  simp only [Nat.mul_comm]

/-- Kernel and reference leave the same array. -/
theorem algebraic : Cert.algebraic_Kernel17Ideal_Reference17Ideal := by
  intro m ρ m' ρ' _ hag
  refine ⟨fun c => res (H m c) (W m c), (θ_run defs _ _).mono (fun _ h c => ⟨(h c).1.trans (final m c), (h c).2⟩) (Cert.Kernel17Ideal.Value.run_blocks (F := Ideal) m ρ), ?_⟩
  refine (θ_run Cert.Reference17Ideal.defs _ _).mono (fun _ h c => ⟨((h c).1.trans (Cert.Reference17Ideal.Read.val_main_v3_eq _ _)).trans ?_, (h c).2⟩)
    (Cert.Reference17Ideal.Value.run (F := Ideal) m' ρ')
  rw [(hag c).1, (hag c).2]
  exact ref _ _

/-- The reference leaves its arguments. -/
theorem frameR : Cert.quiescent_Reference17Ideal := fun m ρ _ =>
  (θ_run Cert.Reference17Ideal.defs _ _).mono (fun r h => ⟨fun c => (h c).2, sem_eq_zero_of_no_sems (by decide) r.2⟩) (Cert.Reference17Ideal.Value.run (F := Ideal) m ρ)

end Cert.BIn

end
-- ==== Proof.BOut.lean ====
/-
  The gating mixer's output projection: the mixed values times the weights, added to the layer's input, and the result
  normalised by rows for the next layer. Each grid point computes 512 rows of both at once.
-/
module

public import proofs.«01_k».proof.Defs
public import proofs.«01_k».proof.Proof.Prod
public import proofs.«01_k».proof.Proof.Gen.Kernel18Ideal.Value
public import proofs.«01_k».proof.Proof.Gen.Reference18Ideal.Read
public import Idealize.ShloMosaic.Lib.Pipeline.ReadBack

@[expose] public section

set_option maxRecDepth 16384

noncomputable section

namespace Cert.BOut

open Idealize.ShloMosaic Idealize.ShloMosaic.TcCoe Idealize.SL.Sem
open Cert.Kernel18Ideal Cert.Kernel18Ideal.Gen Cert.Prod Cert.Conv
open Idealize.ShloMosaic.Pipeline (Dat)

/-- The first result: at row `i` and column `j` the inner product of a row and a column, and the input there. -/
def res (h : S8192x2048.Idx → EReal) (w : S2048x2048.Idx → EReal) (x : S8192x2048.Idx → EReal) : S8192x2048.Idx → EReal :=
  fun y => dot 2048 (fun k => at2 h (y 0).val k) (fun k => at2 w k (y 1).val) + at2 x (y 0).val (y 1).val

/-- A row of it normalised: times the reciprocal root of the mean of its squares, times a gain for each column. -/
def normed (f g : ℕ → EReal) (j : ℕ) : EReal :=
  f j * Ideal.rsqrt (Ideal.div (∑ k : Fin 2048, f k.val * f k.val) (Ideal.ofBits .f32 0x45000000#32) + Ideal.ofBits .f32 0x3727C5AC#32) * g j

/-- The second result. -/
def res1 (h : S8192x2048.Idx → EReal) (w : S2048x2048.Idx → EReal) (x : S8192x2048.Idx → EReal) (g : S1x2048.Idx → EReal) : S8192x2048.Idx → EReal :=
  fun y => normed (fun j => dot 2048 (fun k => at2 h (y 0).val k) (fun k => at2 w k j) + at2 x (y 0).val j) (fun j => at2 g 0 j) (y 1).val

/-- The reference's first result. -/
theorem ref (h : S8192x2048.Idx → EReal) (w : S2048x2048.Idx → EReal) (x : S8192x2048.Idx → EReal) :
    Cert.Reference18Ideal.Read.val_main_v3 (F := Ideal) h w x = res h w x := by
  funext y
  idx_vars y
  pointwise [Cert.Reference18Ideal.Read.val_main_v3, Cert.Reference18Ideal.Read.val_main_v2, Cert.Reference18Ideal.Read.val_main_v1,
    Cert.Reference18Ideal.Read.val_main_v0]
  exact (add_comm _ _).trans (congrArg₂ (· + ·) (Finset.sum_congr rfl fun k _ => congrArg₂ (· * ·) (at2_ix2 h _ _) (at2_ix2 w _ _)) (at2_ix2 x _ _))

/-- The reference's second result. -/
theorem ref1 (h : S8192x2048.Idx → EReal) (w : S2048x2048.Idx → EReal) (x : S8192x2048.Idx → EReal) (g : S1x2048.Idx → EReal) :
    Cert.Reference18Ideal.Read.val_main_v16 (F := Ideal) h w x g = res1 h w x g := by
  funext y
  idx_vars y
  pointwise [Cert.Reference18Ideal.Read.val_main_v16, Cert.Reference18Ideal.Read.val_main_v15, Cert.Reference18Ideal.Read.val_main_v14,
    Cert.Reference18Ideal.Read.val_main_v13, Cert.Reference18Ideal.Read.val_main_v12, Cert.Reference18Ideal.Read.val_main_v11,
    Cert.Reference18Ideal.Read.val_main_v10, Cert.Reference18Ideal.Read.val_main_v9, Cert.Reference18Ideal.Read.val_main_v8,
    Cert.Reference18Ideal.Read.val_main_v7, Cert.Reference18Ideal.Read.val_main_v6, Cert.Reference18Ideal.Read.val_main_v5,
    Cert.Reference18Ideal.Read.val_main_v4, Cert.Reference18Ideal.Read.val_main_cst, Cert.Reference18Ideal.Read.val_main_cst_0,
    Cert.Reference18Ideal.Read.val_main_cst_1]
  simp only [ref]
  rw [at2_of g 0 _ rfl rfl]
  rfl

variable (m : (ℓ : Loc nD τ sig) → Buf (Elt Ideal) ℓ) (c : Dev nD) (t : Fin grid0.N)

abbrev H : S8192x2048.Idx → EReal := m ((c.tc : Thread nD τ).loc main_arg0)
abbrev W : S2048x2048.Idx → EReal := m ((c.tc : Thread nD τ).loc main_arg1)
abbrev X : S8192x2048.Idx → EReal := m ((c.tc : Thread nD τ).loc main_arg2)
abbrev G : S1x2048.Idx → EReal := m ((c.tc : Thread nD τ).loc main_arg3)

theorem ix0 : ∀ t : Fin grid0.N, win0_0.index t = ![t.val, 0] := by decide +kernel
theorem ix1 : ∀ t : Fin grid0.N, win0_1.index t = ![0, 0] := by decide +kernel
theorem ix2' : ∀ t : Fin grid0.N, win0_2.index t = ![t.val, 0] := by decide +kernel
theorem ix3' : ∀ t : Fin grid0.N, win0_3.index t = ![0, 0] := by decide +kernel
theorem ix4 : ∀ t : Fin grid0.N, win0_4.index t = ![t.val, 0] := by decide +kernel
theorem ix5 : ∀ t : Fin grid0.N, win0_5.index t = ![t.val, 0] := by decide +kernel

theorem blk0 (r : Fin 512) (l : Fin 2048) :
    (iblk m c 0 t : S512x2048.Idx → EReal) (ix2 r l) = at2 (H m c) (512 * t.val + r.val) l.val := by
  have := lt_of_lt_of_eq t.isLt N_0
  rw [← at2_of (H m c) ⟨512 * t.val + r.val, by omega⟩ ⟨l.val, by omega⟩ rfl rfl]
  blk_ext [iblk, V, ix0 t]

theorem blk1 (r l : Fin 2048) : (iblk m c 1 t : S2048x2048.Idx → EReal) (ix2 r l) = at2 (W m c) r.val l.val := by
  rw [← at2_of (W m c) r l rfl rfl]
  blk_ext [iblk, V, ix1 t]

theorem blk2 (r : Fin 512) (l : Fin 2048) :
    (iblk m c 2 t : S512x2048.Idx → EReal) (ix2 r l) = at2 (X m c) (512 * t.val + r.val) l.val := by
  have := lt_of_lt_of_eq t.isLt N_0
  rw [← at2_of (X m c) ⟨512 * t.val + r.val, by omega⟩ ⟨l.val, by omega⟩ rfl rfl]
  blk_ext [iblk, V, ix2' t]

theorem blk3 (l : Fin 2048) : (iblk m c 3 t : S1x2048.Idx → EReal) (ix2 0 l) = at2 (G m c) 0 l.val := by
  rw [← at2_of (G m c) 0 l (r' := 0) rfl rfl]
  blk_ext [iblk, V, ix3' t]

/-- One grid point's rows. -/
theorem rows (i : Fin 512) (j : Fin 2048) : (k0_pay1 (F := Ideal) (iblk m c 0 t) (iblk m c 1 t) (iblk m c 2 t) : S512x2048.Idx → EReal) (ix2 i j)
    = dot 2048 (fun k => at2 (H m c) (512 * t.val + i.val) k) (fun k => at2 (W m c) k j.val) + at2 (X m c) (512 * t.val + i.val) j.val := by
  pointwise [k0_pay1]
  simp only [blk0, blk1, blk2]
  rfl

/-- What one grid point computes. -/
theorem out : (out0_4 (F := Ideal) (iblk m c 0 t) (iblk m c 1 t) (iblk m c 2 t) (iblk m c 3 t) : S512x2048.Idx → EReal) = fun y : S512x2048.Idx =>
    dot 2048 (fun k => at2 (H m c) (512 * t.val + (y 0).val) k) (fun k => at2 (W m c) k (y 1).val) + at2 (X m c) (512 * t.val + (y 0).val) (y 1).val := by
  frame_out
  funext y
  idx_vars y
  exact rows m c t _ _

/-- The result after the run. -/
theorem final : (dats m 0 c).arrAt 4 cfg0.N = res (H m c) (W m c) (X m c) := by
  unfold res
  refine (dats m 0 c).arrAt_eq_of_covers 4 _ (by decide +kernel) fun t hf y => ?_
  blk_simp
  rw [after0_4, out, ix4]
  show dot _ _ _ + _ = dot 2048 (fun k => at2 _ (t.val * 512 + (y 0).val) k) (fun k => at2 _ k (0 * 2048 + (y 1).val)) + at2 _ (t.val * 512 + (y 0).val) (0 * 2048 + (y 1).val)
  simp only [Nat.zero_mul, Nat.zero_add, Nat.mul_comm]

/-- What one grid point computes of the normalised rows. -/
theorem out1 : (out0_5 (F := Ideal) (iblk m c 0 t) (iblk m c 1 t) (iblk m c 2 t) (iblk m c 3 t) : S512x2048.Idx → EReal) = fun y : S512x2048.Idx =>
    normed (fun j => dot 2048 (fun k => at2 (H m c) (512 * t.val + (y 0).val) k) (fun k => at2 (W m c) k j) + at2 (X m c) (512 * t.val + (y 0).val) j)
      (fun j => at2 (G m c) 0 j) (y 1).val := by
  frame_out
  funext y
  idx_vars y
  pointwise [k0_pay2]
  simp only [rows]
  rw [blk3]
  rfl

/-- The second result after the run. -/
theorem final1 : (dats m 0 c).arrAt 5 cfg0.N = res1 (H m c) (W m c) (X m c) (G m c) := by
  unfold res1
  refine (dats m 0 c).arrAt_eq_of_covers 5 _ (by decide +kernel) fun t hf y => ?_
  blk_simp
  rw [after0_5, out1, ix5]
  show normed _ _ _ = normed (fun j => dot 2048 (fun k => at2 _ (t.val * 512 + (y 0).val) k) (fun k => at2 _ k j) + at2 _ (t.val * 512 + (y 0).val) j) _ (0 * 2048 + (y 1).val)
  simp only [Nat.zero_mul, Nat.zero_add, Nat.mul_comm]

/-- Kernel and reference leave the same two arrays. -/
theorem algebraic : Cert.algebraic_Kernel18Ideal_Reference18Ideal := by
  intro m ρ m' ρ' _ hag
  refine ⟨fun c => res (H m c) (W m c) (X m c), fun c => res1 (H m c) (W m c) (X m c) (G m c),
    (θ_run defs _ _).mono (fun _ h c => ⟨(h c).1.trans (final m c), (h c).2.1.trans (final1 m c), (h c).2.2⟩) (Cert.Kernel18Ideal.Value.run_blocks (F := Ideal) m ρ), ?_⟩
  refine (θ_run Cert.Reference18Ideal.defs _ _).mono (fun _ h c => ⟨((h c).1.trans (Cert.Reference18Ideal.Read.val_main_v3_eq _ _ _)).trans ?_,
      ((h c).2.1.trans (Cert.Reference18Ideal.Read.val_main_v16_eq _ _ _ _)).trans ?_, (h c).2.2⟩)
    (Cert.Reference18Ideal.Value.run (F := Ideal) m' ρ')
  · rw [(hag c).1, (hag c).2.1, (hag c).2.2.1]
    exact ref _ _ _
  · rw [(hag c).1, (hag c).2.1, (hag c).2.2.1, (hag c).2.2.2]
    exact ref1 _ _ _ _

/-- The reference leaves its arguments. -/
theorem frameR : Cert.quiescent_Reference18Ideal := fun m ρ _ =>
  (θ_run Cert.Reference18Ideal.defs _ _).mono (fun r h => ⟨fun c => (h c).2.2, sem_eq_zero_of_no_sems (by decide) r.2⟩) (Cert.Reference18Ideal.Value.run (F := Ideal) m ρ)

end Cert.BOut

end
-- ==== Proof.Adam.lean ====
/-
  The optimiser's step at one position: the moving averages of the gradient and of its square, and the change of the
  weight. Arrays with one leading position are read by `at3`.
-/
module

public import proofs.«01_k».proof.Proof.ConvSpec
public import Idealize.ShloMosaic.Lib.Pipeline.ValueKit
public import Idealize.ShloMosaic.Lib.Pipeline.Value

@[expose] public section

noncomputable section

namespace Cert.Adam

open Idealize.ShloMosaic Cert.Conv

/-- An array with one leading position at row `r` and column `c`. -/
def at3 {R C : ℕ} (X : (⟨3, ![1, R, C]⟩ : Shape).Idx → EReal) (r c : ℕ) : EReal :=
  if h : r < R ∧ c < C then X (ix3 0 ⟨r, h.1⟩ ⟨c, h.2⟩) else 0

theorem at3_of {R C : ℕ} (X : (⟨3, ![1, R, C]⟩ : Shape).Idx → EReal) (a : Fin 1) (r : Fin R) (c : Fin C) {r' c' : ℕ} (hr : r.val = r')
    (hc : c.val = c') : X (ix3 a r c) = at3 X r' c' := by
  subst hr hc
  rw [at3, dif_pos ⟨r.isLt, c.isLt⟩, Subsingleton.elim a 0]

/-- The gradient's moving average. -/
def mean (g m : EReal) : EReal := Ideal.ofBits .f32 0x3F666666#32 * m + Ideal.ofBits .f32 0x3DCCCCCD#32 * g

/-- The moving average of the gradient's square. -/
def square (g v : EReal) : EReal := Ideal.ofBits .f32 0x3F7FBE77#32 * v + Ideal.ofBits .f32 0x3A83126F#32 * (g * g)

/-- The change of a weight `w`. -/
def change (w g m v : EReal) : EReal :=
  Ideal.ofBits .f32 0xBA83126F#32 * (Ideal.div (Ideal.div (mean g m) (Ideal.ofBits .f32 0x3F26BD02#32))
    (Ideal.sqrt (Ideal.div (square g v) (Ideal.ofBits .f32 0x3C231ACC#32)) + Ideal.ofBits .f32 0x322BCC77#32) + Ideal.ofBits .f32 0x3C23D70A#32 * w)

variable {R C : ℕ}

/-- The gradient, the changes of the weights and the two moving averages, as arrays. -/
def grads (g : (⟨2, ![R, C]⟩ : Shape).Idx → EReal) : (⟨3, ![1, R, C]⟩ : Shape).Idx → EReal := fun y => at2 g (y 1).val (y 2).val

def changes (w : (⟨3, ![1, R, C]⟩ : Shape).Idx → EReal) (g : (⟨2, ![R, C]⟩ : Shape).Idx → EReal) (m v : (⟨3, ![1, R, C]⟩ : Shape).Idx → EReal) :
    (⟨3, ![1, R, C]⟩ : Shape).Idx → EReal :=
  fun y => change (at3 w (y 1).val (y 2).val) (at2 g (y 1).val (y 2).val) (at3 m (y 1).val (y 2).val) (at3 v (y 1).val (y 2).val)

def means (g : (⟨2, ![R, C]⟩ : Shape).Idx → EReal) (m : (⟨3, ![1, R, C]⟩ : Shape).Idx → EReal) : (⟨3, ![1, R, C]⟩ : Shape).Idx → EReal :=
  fun y => mean (at2 g (y 1).val (y 2).val) (at3 m (y 1).val (y 2).val)

def squares (g : (⟨2, ![R, C]⟩ : Shape).Idx → EReal) (v : (⟨3, ![1, R, C]⟩ : Shape).Idx → EReal) : (⟨3, ![1, R, C]⟩ : Shape).Idx → EReal :=
  fun y => square (at2 g (y 1).val (y 2).val) (at3 v (y 1).val (y 2).val)

theorem exists_ix3 (y : (⟨3, ![1, R, C]⟩ : Shape).Idx) : ∃ (a : Fin 1) (r : Fin R) (c : Fin C), y = ix3 a r c :=
  ⟨y 0, y 1, y 2, by funext a; fin_cases a <;> rfl⟩

variable (g : FVec Ideal ⟨2, ![R, C]⟩ .f32) (w m v : FVec Ideal ⟨3, ![1, R, C]⟩ .f32) (a : Fin 1) (r : Fin R) (c : Fin C)

theorem grads_ix : grads g (ix3 a r c) = g (ix2 r c) := (at2_of g r c rfl rfl).symm

theorem means_ix : means g m (ix3 a r c) = mean (g (ix2 r c)) (m (ix3 a r c)) := by
  rw [at2_of g r c rfl rfl, at3_of m a r c rfl rfl]; rfl

theorem squares_ix : squares g v (ix3 a r c) = square (g (ix2 r c)) (v (ix3 a r c)) := by
  rw [at2_of g r c rfl rfl, at3_of v a r c rfl rfl]; rfl

theorem changes_ix : changes w g m v (ix3 a r c) = change (w (ix3 a r c)) (g (ix2 r c)) (m (ix3 a r c)) (v (ix3 a r c)) := by
  rw [at2_of g r c rfl rfl, at3_of w a r c rfl rfl, at3_of m a r c rfl rfl, at3_of v a r c rfl rfl]; rfl

/-! ## The step written with host operations -/

section Host
variable (b : (⟨0, ![]⟩ : Shape).BroadcastsInDim ⟨3, ![1, R, C]⟩ (![] : Fin 0 → Fin 3)) (e : (⟨2, ![R, C]⟩ : Shape).BroadcastsInDim ⟨3, ![1, R, C]⟩ (![1, 2] : Fin 2 → Fin 3))

/-- A constant in every position. -/
abbrev fill (n : BitVec 32) : FVec Ideal ⟨3, ![1, R, C]⟩ .f32 := broadcastInDim ⟨3, ![1, R, C]⟩ ![] b (constant ⟨0, ![]⟩ .f32 n)

theorem host_grads : broadcastInDim ⟨3, ![1, R, C]⟩ ![1, 2] e g = grads g := by
  funext y
  obtain ⟨a, r, c, rfl⟩ := exists_ix3 y
  rw [grads_ix]
  refine broadcastInDim_apply _ e g _ (ix2 r c) fun k => ?_
  fin_cases k
  · show r.val = if R = 1 then 0 else r.val
    split <;> omega
  · show c.val = if C = 1 then 0 else c.val
    split <;> omega

theorem host_means : addf (mulf (fill b 0x3F666666#32) m) (mulf (fill b 0x3DCCCCCD#32) (broadcastInDim ⟨3, ![1, R, C]⟩ ![1, 2] e g)) = means g m := by
  rw [host_grads]
  funext y
  obtain ⟨a, r, c, rfl⟩ := exists_ix3 y
  rw [means_ix, ← grads_ix g a r c]; rfl

theorem host_squares : addf (mulf (fill b 0x3F7FBE77#32) v) (mulf (fill b 0x3A83126F#32)
    (mulf (broadcastInDim ⟨3, ![1, R, C]⟩ ![1, 2] e g) (broadcastInDim ⟨3, ![1, R, C]⟩ ![1, 2] e g))) = squares g v := by
  rw [host_grads]
  funext y
  obtain ⟨a, r, c, rfl⟩ := exists_ix3 y
  rw [squares_ix, ← grads_ix g a r c]; rfl

theorem host_changes : mulf (fill b 0xBA83126F#32) (addf (Host.divf
      (Host.divf (addf (mulf (fill b 0x3F666666#32) m) (mulf (fill b 0x3DCCCCCD#32) (broadcastInDim ⟨3, ![1, R, C]⟩ ![1, 2] e g))) (fill b 0x3F26BD02#32))
      (addf (Host.sqrt (Host.divf (addf (mulf (fill b 0x3F7FBE77#32) v) (mulf (fill b 0x3A83126F#32)
        (mulf (broadcastInDim ⟨3, ![1, R, C]⟩ ![1, 2] e g) (broadcastInDim ⟨3, ![1, R, C]⟩ ![1, 2] e g)))) (fill b 0x3C231ACC#32))) (fill b 0x322BCC77#32)))
    (mulf (fill b 0x3C23D70A#32) w)) = changes w g m v := by
  rw [host_means, host_squares]
  funext y
  obtain ⟨a, r, c, rfl⟩ := exists_ix3 y
  rw [changes_ix, change, ← means_ix, ← squares_ix]; rfl

end Host

/-! ## The step written with vector operations -/

section Tile
variable (p : (⟨3, ![1, R, C]⟩ : Shape).ShapeCasts ⟨2, ![R, C]⟩) (q : (⟨2, ![R, C]⟩ : Shape).ShapeCasts ⟨3, ![1, R, C]⟩)

theorem drop_ix : shapeCast ⟨2, ![R, C]⟩ w p (ix2 r c) = w (ix3 a r c) := by
  refine (shapeCast_dropUnit_apply ![R, C] w p (ix2 r c)).trans (congrArg w ?_)
  funext k
  fin_cases k
  · exact Subsingleton.elim (α := Fin 1) _ _
  · rfl
  · rfl

theorem add_ix (x : FVec Ideal ⟨2, ![R, C]⟩ .f32) : shapeCast ⟨3, ![1, R, C]⟩ x q (ix3 a r c) = x (ix2 r c) := by
  refine (shapeCast_addUnit_apply ![R, C] x q (ix3 a r c)).trans (congrArg x ?_)
  funext k
  fin_cases k <;> rfl

/-- A constant in every position of a tile. -/
abbrev full (n : BitVec 32) : FVec Ideal ⟨2, ![R, C]⟩ .f32 := broadcast ⟨2, ![R, C]⟩ (Scalar.ofBits (F := Ideal) .f32 n)

/-- The averages and the change on a tile. -/
abbrev meanT : FVec Ideal ⟨2, ![R, C]⟩ .f32 := addf (mulf (full 0x3F666666#32) (shapeCast ⟨2, ![R, C]⟩ m p)) (mulf (full 0x3DCCCCCD#32) g)
abbrev squareT : FVec Ideal ⟨2, ![R, C]⟩ .f32 := addf (mulf (full 0x3F7FBE77#32) (shapeCast ⟨2, ![R, C]⟩ v p)) (mulf (full 0x3A83126F#32) (mulf g g))
abbrev changeT : FVec Ideal ⟨2, ![R, C]⟩ .f32 := mulf (full 0xBA83126F#32) (addf (divf (divf (meanT g m p) (full 0x3F26BD02#32))
  (addf (sqrt (divf (squareT g v p) (full 0x3C231ACC#32))) (full 0x322BCC77#32))) (mulf (full 0x3C23D70A#32) (shapeCast ⟨2, ![R, C]⟩ w p)))

theorem tile_grads : shapeCast ⟨3, ![1, R, C]⟩ g q = grads g := by
  funext y
  obtain ⟨a, r, c, rfl⟩ := exists_ix3 y
  rw [add_ix, grads_ix]

theorem tile_means : shapeCast ⟨3, ![1, R, C]⟩ (meanT g m p) q = means g m := by
  funext y
  obtain ⟨a, r, c, rfl⟩ := exists_ix3 y
  rw [add_ix, means_ix, ← drop_ix m a r c p]; rfl

theorem tile_squares : shapeCast ⟨3, ![1, R, C]⟩ (squareT g v p) q = squares g v := by
  funext y
  obtain ⟨a, r, c, rfl⟩ := exists_ix3 y
  rw [add_ix, squares_ix, ← drop_ix v a r c p]; rfl

theorem tile_changes : shapeCast ⟨3, ![1, R, C]⟩ (changeT g w m v p) q = changes w g m v := by
  funext y
  obtain ⟨a, r, c, rfl⟩ := exists_ix3 y
  rw [add_ix, changes_ix, ← drop_ix w a r c p, ← drop_ix m a r c p, ← drop_ix v a r c p]; rfl

end Tile

end Cert.Adam

end
-- ==== Proof.AdamAIn.lean ====
/-
  The optimiser's step on the convolution mixer's input weights, 256 rows at a grid point.
-/
module

public import proofs.«01_k».proof.Defs
public import proofs.«01_k».proof.Proof.Adam
public import proofs.«01_k».proof.Proof.Gen.Kernel19Ideal.Value
public import proofs.«01_k».proof.Proof.Gen.Reference19Ideal.Run
public import Idealize.ShloMosaic.Lib.Pipeline.ReadBack

@[expose] public section

set_option maxRecDepth 16384

noncomputable section

namespace Cert.AdamAIn

open Idealize.ShloMosaic Idealize.ShloMosaic.TcCoe Idealize.SL.Sem
open Cert.Kernel19Ideal Cert.Kernel19Ideal.Gen Cert.Conv Cert.Adam
variable (m : (ℓ : Loc nD τ sig) → Buf (Elt Ideal) ℓ) (c : Dev nD) (t : Fin grid0.N)

abbrev W : S1x2048x1536.Idx → EReal := m ((c.tc : Thread nD τ).loc main_arg0)
abbrev G : S2048x1536.Idx → EReal := m ((c.tc : Thread nD τ).loc main_arg1)
abbrev M : S1x2048x1536.Idx → EReal := m ((c.tc : Thread nD τ).loc main_arg2)
abbrev V' : S1x2048x1536.Idx → EReal := m ((c.tc : Thread nD τ).loc main_arg3)

theorem ix0 : ∀ t : Fin grid0.N, win0_0.index t = ![0, t.val, 0] := by decide +kernel
theorem ix1 : ∀ t : Fin grid0.N, win0_1.index t = ![t.val, 0] := by decide +kernel
theorem ix2' : ∀ t : Fin grid0.N, win0_2.index t = ![0, t.val, 0] := by decide +kernel
theorem ix3' : ∀ t : Fin grid0.N, win0_3.index t = ![0, t.val, 0] := by decide +kernel
theorem ix4 : ∀ t : Fin grid0.N, win0_4.index t = ![0, t.val, 0] := by decide +kernel
theorem ix5 : ∀ t : Fin grid0.N, win0_5.index t = ![0, t.val, 0] := by decide +kernel
theorem ix6 : ∀ t : Fin grid0.N, win0_6.index t = ![0, t.val, 0] := by decide +kernel
theorem ix7 : ∀ t : Fin grid0.N, win0_7.index t = ![0, t.val, 0] := by decide +kernel

variable (a : Fin 1) (r : Fin 256) (l : Fin 1536)

theorem row : t.val * 256 + r.val < 2048 := by
  have := lt_of_lt_of_eq t.isLt N_0
  omega

theorem blk0 : (iblk m c 0 t : S1x256x1536.Idx → EReal) (ix3 a r l) = at3 (W m c) (t.val * 256 + r.val) l.val := by
  rw [← at3_of (W m c) 0 ⟨_, row t r⟩ l rfl rfl]
  blk_ext [iblk, V, ix0 t]

theorem blk1 : (iblk m c 1 t : S256x1536.Idx → EReal) (ix2 r l) = at2 (G m c) (t.val * 256 + r.val) l.val := by
  rw [← at2_of (G m c) ⟨_, row t r⟩ l rfl rfl]
  blk_ext [iblk, V, ix1 t]

theorem blk2 : (iblk m c 2 t : S1x256x1536.Idx → EReal) (ix3 a r l) = at3 (M m c) (t.val * 256 + r.val) l.val := by
  rw [← at3_of (M m c) 0 ⟨_, row t r⟩ l rfl rfl]
  blk_ext [iblk, V, ix2' t]

theorem blk3 : (iblk m c 3 t : S1x256x1536.Idx → EReal) (ix3 a r l) = at3 (V' m c) (t.val * 256 + r.val) l.val := by
  rw [← at3_of (V' m c) 0 ⟨_, row t r⟩ l rfl rfl]
  blk_ext [iblk, V, ix3' t]

theorem final4 : (dats m 0 c).arrAt 4 cfg0.N = grads (G m c) := by
  unfold grads
  refine (dats m 0 c).arrAt_eq_of_covers 4 _ (by decide +kernel) fun t hf y => ?_
  blk_simp
  rw [after0_4, ix4]
  idx_vars y
  frame_out
  refine (congrFun (tile_grads (iblk m c 1 t) _) _).trans ?_
  rw [grads_ix, blk1]
  blk_simp

theorem final5 : (dats m 0 c).arrAt 5 cfg0.N = changes (W m c) (G m c) (M m c) (V' m c) := by
  unfold changes
  refine (dats m 0 c).arrAt_eq_of_covers 5 _ (by decide +kernel) fun t hf y => ?_
  blk_simp
  rw [after0_5, ix5]
  idx_vars y
  frame_out
  refine (congrFun (tile_changes _ _ _ _ _ _) _).trans ?_
  rw [changes_ix, blk0, blk1, blk2, blk3]
  blk_simp

theorem final6 : (dats m 0 c).arrAt 6 cfg0.N = means (G m c) (M m c) := by
  unfold means
  refine (dats m 0 c).arrAt_eq_of_covers 6 _ (by decide +kernel) fun t hf y => ?_
  blk_simp
  rw [after0_6, ix6]
  idx_vars y
  frame_out
  refine (congrFun (tile_means _ _ _ _) _).trans ?_
  rw [means_ix, blk1, blk2]
  blk_simp

theorem final7 : (dats m 0 c).arrAt 7 cfg0.N = squares (G m c) (V' m c) := by
  unfold squares
  refine (dats m 0 c).arrAt_eq_of_covers 7 _ (by decide +kernel) fun t hf y => ?_
  blk_simp
  rw [after0_7, ix7]
  idx_vars y
  frame_out
  refine (congrFun (tile_squares _ _ _ _) _).trans ?_
  rw [squares_ix, blk1, blk3]
  blk_simp

/-- Kernel and reference leave the same four arrays. -/
theorem algebraic : Cert.algebraic_Kernel19Ideal_Reference19Ideal := by
  intro m ρ m' ρ' _ hag
  refine ⟨fun c => grads (G m c), fun c => changes (W m c) (G m c) (M m c) (V' m c), fun c => means (G m c) (M m c), fun c => squares (G m c) (V' m c),
    (θ_run defs _ _).mono (fun _ h c => ⟨(h c).1.trans (final4 m c), (h c).2.1.trans (final5 m c), (h c).2.2.1.trans (final6 m c),
      (h c).2.2.2.1.trans (final7 m c), (h c).2.2.2.2⟩) (Cert.Kernel19Ideal.Value.run_blocks (F := Ideal) m ρ),
    (θ_run Cert.Reference19Ideal.defs _ _).mono (fun _ h c => ⟨(h c).1.trans ?_, (h c).2.1.trans ?_, (h c).2.2.1.trans ?_, (h c).2.2.2.1.trans ?_, (h c).2.2.2.2⟩)
      (Cert.Reference19Ideal.Value.run (F := Ideal) m' ρ')⟩ <;> obtain ⟨hw, hg, hm, hv⟩ := hag c
  · rw [hg]; exact host_grads _ _
  · rw [hw, hg, hm, hv]; exact host_changes _ _ _ _ _ _
  · rw [hg, hm]; exact host_means _ _ _ _
  · rw [hg, hv]; exact host_squares _ _ _ _

/-- The reference leaves its arguments. -/
theorem frameR : Cert.quiescent_Reference19Ideal := fun m ρ _ =>
  (θ_run Cert.Reference19Ideal.defs _ _).mono (fun r h => ⟨fun c => (h c).2.2.2.2, sem_eq_zero_of_no_sems (by decide) r.2⟩) (Cert.Reference19Ideal.Value.run (F := Ideal) m ρ)

end Cert.AdamAIn

end
-- ==== Proof.AdamOut.lean ====
/-
  The optimiser's step on a mixer's output weights, 256 rows at a grid point.
-/
module

public import proofs.«01_k».proof.Defs
public import proofs.«01_k».proof.Proof.Adam
public import proofs.«01_k».proof.Proof.Gen.Kernel20Ideal.Value
public import proofs.«01_k».proof.Proof.Gen.Reference20Ideal.Run
public import Idealize.ShloMosaic.Lib.Pipeline.ReadBack

@[expose] public section

set_option maxRecDepth 16384

noncomputable section

namespace Cert.AdamOut

open Idealize.ShloMosaic Idealize.ShloMosaic.TcCoe Idealize.SL.Sem
open Cert.Kernel20Ideal Cert.Kernel20Ideal.Gen Cert.Conv Cert.Adam
variable (m : (ℓ : Loc nD τ sig) → Buf (Elt Ideal) ℓ) (c : Dev nD) (t : Fin grid0.N)

abbrev W : S1x512x2048.Idx → EReal := m ((c.tc : Thread nD τ).loc main_arg0)
abbrev G : S512x2048.Idx → EReal := m ((c.tc : Thread nD τ).loc main_arg1)
abbrev M : S1x512x2048.Idx → EReal := m ((c.tc : Thread nD τ).loc main_arg2)
abbrev V' : S1x512x2048.Idx → EReal := m ((c.tc : Thread nD τ).loc main_arg3)

theorem ix0 : ∀ t : Fin grid0.N, win0_0.index t = ![0, t.val, 0] := by decide +kernel
theorem ix1 : ∀ t : Fin grid0.N, win0_1.index t = ![t.val, 0] := by decide +kernel
theorem ix2' : ∀ t : Fin grid0.N, win0_2.index t = ![0, t.val, 0] := by decide +kernel
theorem ix3' : ∀ t : Fin grid0.N, win0_3.index t = ![0, t.val, 0] := by decide +kernel
theorem ix4 : ∀ t : Fin grid0.N, win0_4.index t = ![0, t.val, 0] := by decide +kernel
theorem ix5 : ∀ t : Fin grid0.N, win0_5.index t = ![0, t.val, 0] := by decide +kernel
theorem ix6 : ∀ t : Fin grid0.N, win0_6.index t = ![0, t.val, 0] := by decide +kernel
theorem ix7 : ∀ t : Fin grid0.N, win0_7.index t = ![0, t.val, 0] := by decide +kernel

variable (a : Fin 1) (r : Fin 256) (l : Fin 2048)

theorem row : t.val * 256 + r.val < 512 := by
  have := lt_of_lt_of_eq t.isLt N_0
  omega

theorem blk0 : (iblk m c 0 t : S1x256x2048.Idx → EReal) (ix3 a r l) = at3 (W m c) (t.val * 256 + r.val) l.val := by
  rw [← at3_of (W m c) 0 ⟨_, row t r⟩ l rfl rfl]
  blk_ext [iblk, V, ix0 t]

theorem blk1 : (iblk m c 1 t : S256x2048.Idx → EReal) (ix2 r l) = at2 (G m c) (t.val * 256 + r.val) l.val := by
  rw [← at2_of (G m c) ⟨_, row t r⟩ l rfl rfl]
  blk_ext [iblk, V, ix1 t]

theorem blk2 : (iblk m c 2 t : S1x256x2048.Idx → EReal) (ix3 a r l) = at3 (M m c) (t.val * 256 + r.val) l.val := by
  rw [← at3_of (M m c) 0 ⟨_, row t r⟩ l rfl rfl]
  blk_ext [iblk, V, ix2' t]

theorem blk3 : (iblk m c 3 t : S1x256x2048.Idx → EReal) (ix3 a r l) = at3 (V' m c) (t.val * 256 + r.val) l.val := by
  rw [← at3_of (V' m c) 0 ⟨_, row t r⟩ l rfl rfl]
  blk_ext [iblk, V, ix3' t]

theorem final4 : (dats m 0 c).arrAt 4 cfg0.N = grads (G m c) := by
  unfold grads
  refine (dats m 0 c).arrAt_eq_of_covers 4 _ (by decide +kernel) fun t hf y => ?_
  blk_simp
  rw [after0_4, ix4]
  idx_vars y
  frame_out
  refine (congrFun (tile_grads (iblk m c 1 t) _) _).trans ?_
  rw [grads_ix, blk1]
  blk_simp

theorem final5 : (dats m 0 c).arrAt 5 cfg0.N = changes (W m c) (G m c) (M m c) (V' m c) := by
  unfold changes
  refine (dats m 0 c).arrAt_eq_of_covers 5 _ (by decide +kernel) fun t hf y => ?_
  blk_simp
  rw [after0_5, ix5]
  idx_vars y
  frame_out
  refine (congrFun (tile_changes _ _ _ _ _ _) _).trans ?_
  rw [changes_ix, blk0, blk1, blk2, blk3]
  blk_simp

theorem final6 : (dats m 0 c).arrAt 6 cfg0.N = means (G m c) (M m c) := by
  unfold means
  refine (dats m 0 c).arrAt_eq_of_covers 6 _ (by decide +kernel) fun t hf y => ?_
  blk_simp
  rw [after0_6, ix6]
  idx_vars y
  frame_out
  refine (congrFun (tile_means _ _ _ _) _).trans ?_
  rw [means_ix, blk1, blk2]
  blk_simp

theorem final7 : (dats m 0 c).arrAt 7 cfg0.N = squares (G m c) (V' m c) := by
  unfold squares
  refine (dats m 0 c).arrAt_eq_of_covers 7 _ (by decide +kernel) fun t hf y => ?_
  blk_simp
  rw [after0_7, ix7]
  idx_vars y
  frame_out
  refine (congrFun (tile_squares _ _ _ _) _).trans ?_
  rw [squares_ix, blk1, blk3]
  blk_simp

/-- Kernel and reference leave the same four arrays. -/
theorem algebraic : Cert.algebraic_Kernel20Ideal_Reference20Ideal := by
  intro m ρ m' ρ' _ hag
  refine ⟨fun c => grads (G m c), fun c => changes (W m c) (G m c) (M m c) (V' m c), fun c => means (G m c) (M m c), fun c => squares (G m c) (V' m c),
    (θ_run defs _ _).mono (fun _ h c => ⟨(h c).1.trans (final4 m c), (h c).2.1.trans (final5 m c), (h c).2.2.1.trans (final6 m c),
      (h c).2.2.2.1.trans (final7 m c), (h c).2.2.2.2⟩) (Cert.Kernel20Ideal.Value.run_blocks (F := Ideal) m ρ),
    (θ_run Cert.Reference20Ideal.defs _ _).mono (fun _ h c => ⟨(h c).1.trans ?_, (h c).2.1.trans ?_, (h c).2.2.1.trans ?_, (h c).2.2.2.1.trans ?_, (h c).2.2.2.2⟩)
      (Cert.Reference20Ideal.Value.run (F := Ideal) m' ρ')⟩ <;> obtain ⟨hw, hg, hm, hv⟩ := hag c
  · rw [hg]; exact host_grads _ _
  · rw [hw, hg, hm, hv]; exact host_changes _ _ _ _ _ _
  · rw [hg, hm]; exact host_means _ _ _ _
  · rw [hg, hv]; exact host_squares _ _ _ _

/-- The reference leaves its arguments. -/
theorem frameR : Cert.quiescent_Reference20Ideal := fun m ρ _ =>
  (θ_run Cert.Reference20Ideal.defs _ _).mono (fun r h => ⟨fun c => (h c).2.2.2.2, sem_eq_zero_of_no_sems (by decide) r.2⟩) (Cert.Reference20Ideal.Value.run (F := Ideal) m ρ)

end Cert.AdamOut

end
-- ==== Proof.AdamBIn.lean ====
/-
  The optimiser's step on the gating mixer's input weights, 256 rows at a grid point.
-/
module

public import proofs.«01_k».proof.Defs
public import proofs.«01_k».proof.Proof.Adam
public import proofs.«01_k».proof.Proof.Gen.Kernel21Ideal.Value
public import proofs.«01_k».proof.Proof.Gen.Reference21Ideal.Run
public import Idealize.ShloMosaic.Lib.Pipeline.ReadBack

@[expose] public section

set_option maxRecDepth 16384

noncomputable section

namespace Cert.AdamBIn

open Idealize.ShloMosaic Idealize.ShloMosaic.TcCoe Idealize.SL.Sem
open Cert.Kernel21Ideal Cert.Kernel21Ideal.Gen Cert.Conv Cert.Adam
variable (m : (ℓ : Loc nD τ sig) → Buf (Elt Ideal) ℓ) (c : Dev nD) (t : Fin grid0.N)

abbrev W : S1x2048x1024.Idx → EReal := m ((c.tc : Thread nD τ).loc main_arg0)
abbrev G : S2048x1024.Idx → EReal := m ((c.tc : Thread nD τ).loc main_arg1)
abbrev M : S1x2048x1024.Idx → EReal := m ((c.tc : Thread nD τ).loc main_arg2)
abbrev V' : S1x2048x1024.Idx → EReal := m ((c.tc : Thread nD τ).loc main_arg3)

theorem ix0 : ∀ t : Fin grid0.N, win0_0.index t = ![0, t.val, 0] := by decide +kernel
theorem ix1 : ∀ t : Fin grid0.N, win0_1.index t = ![t.val, 0] := by decide +kernel
theorem ix2' : ∀ t : Fin grid0.N, win0_2.index t = ![0, t.val, 0] := by decide +kernel
theorem ix3' : ∀ t : Fin grid0.N, win0_3.index t = ![0, t.val, 0] := by decide +kernel
theorem ix4 : ∀ t : Fin grid0.N, win0_4.index t = ![0, t.val, 0] := by decide +kernel
theorem ix5 : ∀ t : Fin grid0.N, win0_5.index t = ![0, t.val, 0] := by decide +kernel
theorem ix6 : ∀ t : Fin grid0.N, win0_6.index t = ![0, t.val, 0] := by decide +kernel
theorem ix7 : ∀ t : Fin grid0.N, win0_7.index t = ![0, t.val, 0] := by decide +kernel

variable (a : Fin 1) (r : Fin 256) (l : Fin 1024)

theorem row : t.val * 256 + r.val < 2048 := by
  have := lt_of_lt_of_eq t.isLt N_0
  omega

theorem blk0 : (iblk m c 0 t : S1x256x1024.Idx → EReal) (ix3 a r l) = at3 (W m c) (t.val * 256 + r.val) l.val := by
  rw [← at3_of (W m c) 0 ⟨_, row t r⟩ l rfl rfl]
  blk_ext [iblk, V, ix0 t]

theorem blk1 : (iblk m c 1 t : S256x1024.Idx → EReal) (ix2 r l) = at2 (G m c) (t.val * 256 + r.val) l.val := by
  rw [← at2_of (G m c) ⟨_, row t r⟩ l rfl rfl]
  blk_ext [iblk, V, ix1 t]

theorem blk2 : (iblk m c 2 t : S1x256x1024.Idx → EReal) (ix3 a r l) = at3 (M m c) (t.val * 256 + r.val) l.val := by
  rw [← at3_of (M m c) 0 ⟨_, row t r⟩ l rfl rfl]
  blk_ext [iblk, V, ix2' t]

theorem blk3 : (iblk m c 3 t : S1x256x1024.Idx → EReal) (ix3 a r l) = at3 (V' m c) (t.val * 256 + r.val) l.val := by
  rw [← at3_of (V' m c) 0 ⟨_, row t r⟩ l rfl rfl]
  blk_ext [iblk, V, ix3' t]

theorem final4 : (dats m 0 c).arrAt 4 cfg0.N = grads (G m c) := by
  unfold grads
  refine (dats m 0 c).arrAt_eq_of_covers 4 _ (by decide +kernel) fun t hf y => ?_
  blk_simp
  rw [after0_4, ix4]
  idx_vars y
  frame_out
  refine (congrFun (tile_grads (iblk m c 1 t) _) _).trans ?_
  rw [grads_ix, blk1]
  blk_simp

theorem final5 : (dats m 0 c).arrAt 5 cfg0.N = changes (W m c) (G m c) (M m c) (V' m c) := by
  unfold changes
  refine (dats m 0 c).arrAt_eq_of_covers 5 _ (by decide +kernel) fun t hf y => ?_
  blk_simp
  rw [after0_5, ix5]
  idx_vars y
  frame_out
  refine (congrFun (tile_changes _ _ _ _ _ _) _).trans ?_
  rw [changes_ix, blk0, blk1, blk2, blk3]
  blk_simp

theorem final6 : (dats m 0 c).arrAt 6 cfg0.N = means (G m c) (M m c) := by
  unfold means
  refine (dats m 0 c).arrAt_eq_of_covers 6 _ (by decide +kernel) fun t hf y => ?_
  blk_simp
  rw [after0_6, ix6]
  idx_vars y
  frame_out
  refine (congrFun (tile_means _ _ _ _) _).trans ?_
  rw [means_ix, blk1, blk2]
  blk_simp

theorem final7 : (dats m 0 c).arrAt 7 cfg0.N = squares (G m c) (V' m c) := by
  unfold squares
  refine (dats m 0 c).arrAt_eq_of_covers 7 _ (by decide +kernel) fun t hf y => ?_
  blk_simp
  rw [after0_7, ix7]
  idx_vars y
  frame_out
  refine (congrFun (tile_squares _ _ _ _) _).trans ?_
  rw [squares_ix, blk1, blk3]
  blk_simp

/-- Kernel and reference leave the same four arrays. -/
theorem algebraic : Cert.algebraic_Kernel21Ideal_Reference21Ideal := by
  intro m ρ m' ρ' _ hag
  refine ⟨fun c => grads (G m c), fun c => changes (W m c) (G m c) (M m c) (V' m c), fun c => means (G m c) (M m c), fun c => squares (G m c) (V' m c),
    (θ_run defs _ _).mono (fun _ h c => ⟨(h c).1.trans (final4 m c), (h c).2.1.trans (final5 m c), (h c).2.2.1.trans (final6 m c),
      (h c).2.2.2.1.trans (final7 m c), (h c).2.2.2.2⟩) (Cert.Kernel21Ideal.Value.run_blocks (F := Ideal) m ρ),
    (θ_run Cert.Reference21Ideal.defs _ _).mono (fun _ h c => ⟨(h c).1.trans ?_, (h c).2.1.trans ?_, (h c).2.2.1.trans ?_, (h c).2.2.2.1.trans ?_, (h c).2.2.2.2⟩)
      (Cert.Reference21Ideal.Value.run (F := Ideal) m' ρ')⟩ <;> obtain ⟨hw, hg, hm, hv⟩ := hag c
  · rw [hg]; exact host_grads _ _
  · rw [hw, hg, hm, hv]; exact host_changes _ _ _ _ _ _
  · rw [hg, hm]; exact host_means _ _ _ _
  · rw [hg, hv]; exact host_squares _ _ _ _

/-- The reference leaves its arguments. -/
theorem frameR : Cert.quiescent_Reference21Ideal := fun m ρ _ =>
  (θ_run Cert.Reference21Ideal.defs _ _).mono (fun r h => ⟨fun c => (h c).2.2.2.2, sem_eq_zero_of_no_sems (by decide) r.2⟩) (Cert.Reference21Ideal.Value.run (F := Ideal) m ρ)

end Cert.AdamBIn

end
-- ==== Proof.AdamNorm.lean ====
/-
  The optimiser's step on the gains of a norm over the model's width, at once.
-/
module

public import proofs.«01_k».proof.Defs
public import proofs.«01_k».proof.Proof.Adam
public import proofs.«01_k».proof.Proof.Gen.Kernel22Ideal.Value
public import proofs.«01_k».proof.Proof.Gen.Reference22Ideal.Run
public import Idealize.ShloMosaic.Lib.Pipeline.ReadBack

@[expose] public section

set_option maxRecDepth 16384

noncomputable section

namespace Cert.AdamNorm

open Idealize.ShloMosaic Idealize.ShloMosaic.TcCoe Idealize.SL.Sem
open Cert.Kernel22Ideal Cert.Kernel22Ideal.Gen Cert.Conv Cert.Adam
variable (m : (ℓ : Loc nD τ sig) → Buf (Elt Ideal) ℓ) (c : Dev nD) (t : Fin grid0.N)

abbrev W : S1x1x2048.Idx → EReal := m ((c.tc : Thread nD τ).loc main_arg0)
abbrev G : S1x2048.Idx → EReal := m ((c.tc : Thread nD τ).loc main_arg1)
abbrev M : S1x1x2048.Idx → EReal := m ((c.tc : Thread nD τ).loc main_arg2)
abbrev V' : S1x1x2048.Idx → EReal := m ((c.tc : Thread nD τ).loc main_arg3)

theorem ix0 : ∀ t : Fin grid0.N, win0_0.index t = ![0, t.val, 0] := by decide +kernel
theorem ix1 : ∀ t : Fin grid0.N, win0_1.index t = ![t.val, 0] := by decide +kernel
theorem ix2' : ∀ t : Fin grid0.N, win0_2.index t = ![0, t.val, 0] := by decide +kernel
theorem ix3' : ∀ t : Fin grid0.N, win0_3.index t = ![0, t.val, 0] := by decide +kernel
theorem ix4 : ∀ t : Fin grid0.N, win0_4.index t = ![0, t.val, 0] := by decide +kernel
theorem ix5 : ∀ t : Fin grid0.N, win0_5.index t = ![0, t.val, 0] := by decide +kernel
theorem ix6 : ∀ t : Fin grid0.N, win0_6.index t = ![0, t.val, 0] := by decide +kernel
theorem ix7 : ∀ t : Fin grid0.N, win0_7.index t = ![0, t.val, 0] := by decide +kernel

variable (a : Fin 1) (r : Fin 1) (l : Fin 2048)

theorem row : t.val * 1 + r.val < 1 := by
  have := lt_of_lt_of_eq t.isLt N_0
  omega

theorem blk0 : (iblk m c 0 t : S1x1x2048.Idx → EReal) (ix3 a r l) = at3 (W m c) (t.val * 1 + r.val) l.val := by
  rw [← at3_of (W m c) 0 ⟨_, row t r⟩ l rfl rfl]
  blk_ext [iblk, V, ix0 t]

theorem blk1 : (iblk m c 1 t : S1x2048.Idx → EReal) (ix2 r l) = at2 (G m c) (t.val * 1 + r.val) l.val := by
  rw [← at2_of (G m c) ⟨_, row t r⟩ l rfl rfl]
  blk_ext [iblk, V, ix1 t]

theorem blk2 : (iblk m c 2 t : S1x1x2048.Idx → EReal) (ix3 a r l) = at3 (M m c) (t.val * 1 + r.val) l.val := by
  rw [← at3_of (M m c) 0 ⟨_, row t r⟩ l rfl rfl]
  blk_ext [iblk, V, ix2' t]

theorem blk3 : (iblk m c 3 t : S1x1x2048.Idx → EReal) (ix3 a r l) = at3 (V' m c) (t.val * 1 + r.val) l.val := by
  rw [← at3_of (V' m c) 0 ⟨_, row t r⟩ l rfl rfl]
  blk_ext [iblk, V, ix3' t]

theorem final4 : (dats m 0 c).arrAt 4 cfg0.N = grads (G m c) := by
  unfold grads
  refine (dats m 0 c).arrAt_eq_of_covers 4 _ (by decide +kernel) fun t hf y => ?_
  blk_simp
  rw [after0_4, ix4]
  idx_vars y
  frame_out
  refine (congrFun (tile_grads (iblk m c 1 t) _) _).trans ?_
  rw [grads_ix, blk1]
  blk_simp

theorem final5 : (dats m 0 c).arrAt 5 cfg0.N = changes (W m c) (G m c) (M m c) (V' m c) := by
  unfold changes
  refine (dats m 0 c).arrAt_eq_of_covers 5 _ (by decide +kernel) fun t hf y => ?_
  blk_simp
  rw [after0_5, ix5]
  idx_vars y
  frame_out
  refine (congrFun (tile_changes _ _ _ _ _ _) _).trans ?_
  rw [changes_ix, blk0, blk1, blk2, blk3]
  blk_simp

theorem final6 : (dats m 0 c).arrAt 6 cfg0.N = means (G m c) (M m c) := by
  unfold means
  refine (dats m 0 c).arrAt_eq_of_covers 6 _ (by decide +kernel) fun t hf y => ?_
  blk_simp
  rw [after0_6, ix6]
  idx_vars y
  frame_out
  refine (congrFun (tile_means _ _ _ _) _).trans ?_
  rw [means_ix, blk1, blk2]
  blk_simp

theorem final7 : (dats m 0 c).arrAt 7 cfg0.N = squares (G m c) (V' m c) := by
  unfold squares
  refine (dats m 0 c).arrAt_eq_of_covers 7 _ (by decide +kernel) fun t hf y => ?_
  blk_simp
  rw [after0_7, ix7]
  idx_vars y
  frame_out
  refine (congrFun (tile_squares _ _ _ _) _).trans ?_
  rw [squares_ix, blk1, blk3]
  blk_simp

/-- Kernel and reference leave the same four arrays. -/
theorem algebraic : Cert.algebraic_Kernel22Ideal_Reference22Ideal := by
  intro m ρ m' ρ' _ hag
  refine ⟨fun c => grads (G m c), fun c => changes (W m c) (G m c) (M m c) (V' m c), fun c => means (G m c) (M m c), fun c => squares (G m c) (V' m c),
    (θ_run defs _ _).mono (fun _ h c => ⟨(h c).1.trans (final4 m c), (h c).2.1.trans (final5 m c), (h c).2.2.1.trans (final6 m c),
      (h c).2.2.2.1.trans (final7 m c), (h c).2.2.2.2⟩) (Cert.Kernel22Ideal.Value.run_blocks (F := Ideal) m ρ),
    (θ_run Cert.Reference22Ideal.defs _ _).mono (fun _ h c => ⟨(h c).1.trans ?_, (h c).2.1.trans ?_, (h c).2.2.1.trans ?_, (h c).2.2.2.1.trans ?_, (h c).2.2.2.2⟩)
      (Cert.Reference22Ideal.Value.run (F := Ideal) m' ρ')⟩ <;> obtain ⟨hw, hg, hm, hv⟩ := hag c
  · rw [hg]; exact host_grads _ _
  · rw [hw, hg, hm, hv]; exact host_changes _ _ _ _ _ _
  · rw [hg, hm]; exact host_means _ _ _ _
  · rw [hg, hv]; exact host_squares _ _ _ _

/-- The reference leaves its arguments. -/
theorem frameR : Cert.quiescent_Reference22Ideal := fun m ρ _ =>
  (θ_run Cert.Reference22Ideal.defs _ _).mono (fun r h => ⟨fun c => (h c).2.2.2.2, sem_eq_zero_of_no_sems (by decide) r.2⟩) (Cert.Reference22Ideal.Value.run (F := Ideal) m ρ)

end Cert.AdamNorm

end
-- ==== Proof.AdamConv.lean ====
/-
  The optimiser's step on the short convolution's weights, at once.
-/
module

public import proofs.«01_k».proof.Defs
public import proofs.«01_k».proof.Proof.Adam
public import proofs.«01_k».proof.Proof.Gen.Kernel23Ideal.Value
public import proofs.«01_k».proof.Proof.Gen.Reference23Ideal.Run
public import Idealize.ShloMosaic.Lib.Pipeline.ReadBack

@[expose] public section

set_option maxRecDepth 16384

noncomputable section

namespace Cert.AdamConv

open Idealize.ShloMosaic Idealize.ShloMosaic.TcCoe Idealize.SL.Sem
open Cert.Kernel23Ideal Cert.Kernel23Ideal.Gen Cert.Conv Cert.Adam
variable (m : (ℓ : Loc nD τ sig) → Buf (Elt Ideal) ℓ) (c : Dev nD) (t : Fin grid0.N)

abbrev W : S1x3x512.Idx → EReal := m ((c.tc : Thread nD τ).loc main_arg0)
abbrev G : S3x512.Idx → EReal := m ((c.tc : Thread nD τ).loc main_arg1)
abbrev M : S1x3x512.Idx → EReal := m ((c.tc : Thread nD τ).loc main_arg2)
abbrev V' : S1x3x512.Idx → EReal := m ((c.tc : Thread nD τ).loc main_arg3)

theorem ix0 : ∀ t : Fin grid0.N, win0_0.index t = ![0, t.val, 0] := by decide +kernel
theorem ix1 : ∀ t : Fin grid0.N, win0_1.index t = ![t.val, 0] := by decide +kernel
theorem ix2' : ∀ t : Fin grid0.N, win0_2.index t = ![0, t.val, 0] := by decide +kernel
theorem ix3' : ∀ t : Fin grid0.N, win0_3.index t = ![0, t.val, 0] := by decide +kernel
theorem ix4 : ∀ t : Fin grid0.N, win0_4.index t = ![0, t.val, 0] := by decide +kernel
theorem ix5 : ∀ t : Fin grid0.N, win0_5.index t = ![0, t.val, 0] := by decide +kernel
theorem ix6 : ∀ t : Fin grid0.N, win0_6.index t = ![0, t.val, 0] := by decide +kernel
theorem ix7 : ∀ t : Fin grid0.N, win0_7.index t = ![0, t.val, 0] := by decide +kernel

variable (a : Fin 1) (r : Fin 3) (l : Fin 512)

theorem row : t.val * 3 + r.val < 3 := by
  have := lt_of_lt_of_eq t.isLt N_0
  omega

theorem blk0 : (iblk m c 0 t : S1x3x512.Idx → EReal) (ix3 a r l) = at3 (W m c) (t.val * 3 + r.val) l.val := by
  rw [← at3_of (W m c) 0 ⟨_, row t r⟩ l rfl rfl]
  blk_ext [iblk, V, ix0 t]

theorem blk1 : (iblk m c 1 t : S3x512.Idx → EReal) (ix2 r l) = at2 (G m c) (t.val * 3 + r.val) l.val := by
  rw [← at2_of (G m c) ⟨_, row t r⟩ l rfl rfl]
  blk_ext [iblk, V, ix1 t]

theorem blk2 : (iblk m c 2 t : S1x3x512.Idx → EReal) (ix3 a r l) = at3 (M m c) (t.val * 3 + r.val) l.val := by
  rw [← at3_of (M m c) 0 ⟨_, row t r⟩ l rfl rfl]
  blk_ext [iblk, V, ix2' t]

theorem blk3 : (iblk m c 3 t : S1x3x512.Idx → EReal) (ix3 a r l) = at3 (V' m c) (t.val * 3 + r.val) l.val := by
  rw [← at3_of (V' m c) 0 ⟨_, row t r⟩ l rfl rfl]
  blk_ext [iblk, V, ix3' t]

theorem final4 : (dats m 0 c).arrAt 4 cfg0.N = grads (G m c) := by
  unfold grads
  refine (dats m 0 c).arrAt_eq_of_covers 4 _ (by decide +kernel) fun t hf y => ?_
  blk_simp
  rw [after0_4, ix4]
  idx_vars y
  frame_out
  refine (congrFun (tile_grads (iblk m c 1 t) _) _).trans ?_
  rw [grads_ix, blk1]
  blk_simp

theorem final5 : (dats m 0 c).arrAt 5 cfg0.N = changes (W m c) (G m c) (M m c) (V' m c) := by
  unfold changes
  refine (dats m 0 c).arrAt_eq_of_covers 5 _ (by decide +kernel) fun t hf y => ?_
  blk_simp
  rw [after0_5, ix5]
  idx_vars y
  frame_out
  refine (congrFun (tile_changes _ _ _ _ _ _) _).trans ?_
  rw [changes_ix, blk0, blk1, blk2, blk3]
  blk_simp

theorem final6 : (dats m 0 c).arrAt 6 cfg0.N = means (G m c) (M m c) := by
  unfold means
  refine (dats m 0 c).arrAt_eq_of_covers 6 _ (by decide +kernel) fun t hf y => ?_
  blk_simp
  rw [after0_6, ix6]
  idx_vars y
  frame_out
  refine (congrFun (tile_means _ _ _ _) _).trans ?_
  rw [means_ix, blk1, blk2]
  blk_simp

theorem final7 : (dats m 0 c).arrAt 7 cfg0.N = squares (G m c) (V' m c) := by
  unfold squares
  refine (dats m 0 c).arrAt_eq_of_covers 7 _ (by decide +kernel) fun t hf y => ?_
  blk_simp
  rw [after0_7, ix7]
  idx_vars y
  frame_out
  refine (congrFun (tile_squares _ _ _ _) _).trans ?_
  rw [squares_ix, blk1, blk3]
  blk_simp

/-- Kernel and reference leave the same four arrays. -/
theorem algebraic : Cert.algebraic_Kernel23Ideal_Reference23Ideal := by
  intro m ρ m' ρ' _ hag
  refine ⟨fun c => grads (G m c), fun c => changes (W m c) (G m c) (M m c) (V' m c), fun c => means (G m c) (M m c), fun c => squares (G m c) (V' m c),
    (θ_run defs _ _).mono (fun _ h c => ⟨(h c).1.trans (final4 m c), (h c).2.1.trans (final5 m c), (h c).2.2.1.trans (final6 m c),
      (h c).2.2.2.1.trans (final7 m c), (h c).2.2.2.2⟩) (Cert.Kernel23Ideal.Value.run_blocks (F := Ideal) m ρ),
    (θ_run Cert.Reference23Ideal.defs _ _).mono (fun _ h c => ⟨(h c).1.trans ?_, (h c).2.1.trans ?_, (h c).2.2.1.trans ?_, (h c).2.2.2.1.trans ?_, (h c).2.2.2.2⟩)
      (Cert.Reference23Ideal.Value.run (F := Ideal) m' ρ')⟩ <;> obtain ⟨hw, hg, hm, hv⟩ := hag c
  · rw [hg]; exact host_grads _ _
  · rw [hw, hg, hm, hv]; exact host_changes _ _ _ _ _ _
  · rw [hg, hm]; exact host_means _ _ _ _
  · rw [hg, hv]; exact host_squares _ _ _ _

/-- The reference leaves its arguments. -/
theorem frameR : Cert.quiescent_Reference23Ideal := fun m ρ _ =>
  (θ_run Cert.Reference23Ideal.defs _ _).mono (fun r h => ⟨fun c => (h c).2.2.2.2, sem_eq_zero_of_no_sems (by decide) r.2⟩) (Cert.Reference23Ideal.Value.run (F := Ideal) m ρ)

end Cert.AdamConv

end
-- ==== Proof.AdamBNorm.lean ====
/-
  The optimiser's step on the gains of a norm inside the gating mixer, at once.
-/
module

public import proofs.«01_k».proof.Defs
public import proofs.«01_k».proof.Proof.Adam
public import proofs.«01_k».proof.Proof.Gen.Kernel24Ideal.Value
public import proofs.«01_k».proof.Proof.Gen.Reference24Ideal.Run
public import Idealize.ShloMosaic.Lib.Pipeline.ReadBack

@[expose] public section

set_option maxRecDepth 16384

noncomputable section

namespace Cert.AdamBNorm

open Idealize.ShloMosaic Idealize.ShloMosaic.TcCoe Idealize.SL.Sem
open Cert.Kernel24Ideal Cert.Kernel24Ideal.Gen Cert.Conv Cert.Adam
variable (m : (ℓ : Loc nD τ sig) → Buf (Elt Ideal) ℓ) (c : Dev nD) (t : Fin grid0.N)

abbrev W : S1x1x512.Idx → EReal := m ((c.tc : Thread nD τ).loc main_arg0)
abbrev G : S1x512.Idx → EReal := m ((c.tc : Thread nD τ).loc main_arg1)
abbrev M : S1x1x512.Idx → EReal := m ((c.tc : Thread nD τ).loc main_arg2)
abbrev V' : S1x1x512.Idx → EReal := m ((c.tc : Thread nD τ).loc main_arg3)

theorem ix0 : ∀ t : Fin grid0.N, win0_0.index t = ![0, t.val, 0] := by decide +kernel
theorem ix1 : ∀ t : Fin grid0.N, win0_1.index t = ![t.val, 0] := by decide +kernel
theorem ix2' : ∀ t : Fin grid0.N, win0_2.index t = ![0, t.val, 0] := by decide +kernel
theorem ix3' : ∀ t : Fin grid0.N, win0_3.index t = ![0, t.val, 0] := by decide +kernel
theorem ix4 : ∀ t : Fin grid0.N, win0_4.index t = ![0, t.val, 0] := by decide +kernel
theorem ix5 : ∀ t : Fin grid0.N, win0_5.index t = ![0, t.val, 0] := by decide +kernel
theorem ix6 : ∀ t : Fin grid0.N, win0_6.index t = ![0, t.val, 0] := by decide +kernel
theorem ix7 : ∀ t : Fin grid0.N, win0_7.index t = ![0, t.val, 0] := by decide +kernel

variable (a : Fin 1) (r : Fin 1) (l : Fin 512)

theorem row : t.val * 1 + r.val < 1 := by
  have := lt_of_lt_of_eq t.isLt N_0
  omega

theorem blk0 : (iblk m c 0 t : S1x1x512.Idx → EReal) (ix3 a r l) = at3 (W m c) (t.val * 1 + r.val) l.val := by
  rw [← at3_of (W m c) 0 ⟨_, row t r⟩ l rfl rfl]
  blk_ext [iblk, V, ix0 t]

theorem blk1 : (iblk m c 1 t : S1x512.Idx → EReal) (ix2 r l) = at2 (G m c) (t.val * 1 + r.val) l.val := by
  rw [← at2_of (G m c) ⟨_, row t r⟩ l rfl rfl]
  blk_ext [iblk, V, ix1 t]

theorem blk2 : (iblk m c 2 t : S1x1x512.Idx → EReal) (ix3 a r l) = at3 (M m c) (t.val * 1 + r.val) l.val := by
  rw [← at3_of (M m c) 0 ⟨_, row t r⟩ l rfl rfl]
  blk_ext [iblk, V, ix2' t]

theorem blk3 : (iblk m c 3 t : S1x1x512.Idx → EReal) (ix3 a r l) = at3 (V' m c) (t.val * 1 + r.val) l.val := by
  rw [← at3_of (V' m c) 0 ⟨_, row t r⟩ l rfl rfl]
  blk_ext [iblk, V, ix3' t]

theorem final4 : (dats m 0 c).arrAt 4 cfg0.N = grads (G m c) := by
  unfold grads
  refine (dats m 0 c).arrAt_eq_of_covers 4 _ (by decide +kernel) fun t hf y => ?_
  blk_simp
  rw [after0_4, ix4]
  idx_vars y
  frame_out
  refine (congrFun (tile_grads (iblk m c 1 t) _) _).trans ?_
  rw [grads_ix, blk1]
  blk_simp

theorem final5 : (dats m 0 c).arrAt 5 cfg0.N = changes (W m c) (G m c) (M m c) (V' m c) := by
  unfold changes
  refine (dats m 0 c).arrAt_eq_of_covers 5 _ (by decide +kernel) fun t hf y => ?_
  blk_simp
  rw [after0_5, ix5]
  idx_vars y
  frame_out
  refine (congrFun (tile_changes _ _ _ _ _ _) _).trans ?_
  rw [changes_ix, blk0, blk1, blk2, blk3]
  blk_simp

theorem final6 : (dats m 0 c).arrAt 6 cfg0.N = means (G m c) (M m c) := by
  unfold means
  refine (dats m 0 c).arrAt_eq_of_covers 6 _ (by decide +kernel) fun t hf y => ?_
  blk_simp
  rw [after0_6, ix6]
  idx_vars y
  frame_out
  refine (congrFun (tile_means _ _ _ _) _).trans ?_
  rw [means_ix, blk1, blk2]
  blk_simp

theorem final7 : (dats m 0 c).arrAt 7 cfg0.N = squares (G m c) (V' m c) := by
  unfold squares
  refine (dats m 0 c).arrAt_eq_of_covers 7 _ (by decide +kernel) fun t hf y => ?_
  blk_simp
  rw [after0_7, ix7]
  idx_vars y
  frame_out
  refine (congrFun (tile_squares _ _ _ _) _).trans ?_
  rw [squares_ix, blk1, blk3]
  blk_simp

/-- Kernel and reference leave the same four arrays. -/
theorem algebraic : Cert.algebraic_Kernel24Ideal_Reference24Ideal := by
  intro m ρ m' ρ' _ hag
  refine ⟨fun c => grads (G m c), fun c => changes (W m c) (G m c) (M m c) (V' m c), fun c => means (G m c) (M m c), fun c => squares (G m c) (V' m c),
    (θ_run defs _ _).mono (fun _ h c => ⟨(h c).1.trans (final4 m c), (h c).2.1.trans (final5 m c), (h c).2.2.1.trans (final6 m c),
      (h c).2.2.2.1.trans (final7 m c), (h c).2.2.2.2⟩) (Cert.Kernel24Ideal.Value.run_blocks (F := Ideal) m ρ),
    (θ_run Cert.Reference24Ideal.defs _ _).mono (fun _ h c => ⟨(h c).1.trans ?_, (h c).2.1.trans ?_, (h c).2.2.1.trans ?_, (h c).2.2.2.1.trans ?_, (h c).2.2.2.2⟩)
      (Cert.Reference24Ideal.Value.run (F := Ideal) m' ρ')⟩ <;> obtain ⟨hw, hg, hm, hv⟩ := hag c
  · rw [hg]; exact host_grads _ _
  · rw [hw, hg, hm, hv]; exact host_changes _ _ _ _ _ _
  · rw [hg, hm]; exact host_means _ _ _ _
  · rw [hg, hv]; exact host_squares _ _ _ _

/-- The reference leaves its arguments. -/
theorem frameR : Cert.quiescent_Reference24Ideal := fun m ρ _ =>
  (θ_run Cert.Reference24Ideal.defs _ _).mono (fun r h => ⟨fun c => (h c).2.2.2.2, sem_eq_zero_of_no_sems (by decide) r.2⟩) (Cert.Reference24Ideal.Value.run (F := Ideal) m ρ)

end Cert.AdamBNorm

end
-- ==== Proof.AdamFNorm.lean ====
/-
  The optimiser's step on the gains of the feed-forward layers' norms, at once.
-/
module

public import proofs.«01_k».proof.Defs
public import proofs.«01_k».proof.Proof.Adam
public import proofs.«01_k».proof.Proof.Gen.Kernel25Ideal.Value
public import proofs.«01_k».proof.Proof.Gen.Reference25Ideal.Run
public import Idealize.ShloMosaic.Lib.Pipeline.ReadBack

@[expose] public section

set_option maxRecDepth 16384

noncomputable section

namespace Cert.AdamFNorm

open Idealize.ShloMosaic Idealize.ShloMosaic.TcCoe Idealize.SL.Sem
open Cert.Kernel25Ideal Cert.Kernel25Ideal.Gen Cert.Conv Cert.Adam
variable (m : (ℓ : Loc nD τ sig) → Buf (Elt Ideal) ℓ) (c : Dev nD) (t : Fin grid0.N)

abbrev W : S1x2x2048.Idx → EReal := m ((c.tc : Thread nD τ).loc main_arg0)
abbrev G : S2x2048.Idx → EReal := m ((c.tc : Thread nD τ).loc main_arg1)
abbrev M : S1x2x2048.Idx → EReal := m ((c.tc : Thread nD τ).loc main_arg2)
abbrev V' : S1x2x2048.Idx → EReal := m ((c.tc : Thread nD τ).loc main_arg3)

theorem ix0 : ∀ t : Fin grid0.N, win0_0.index t = ![0, t.val, 0] := by decide +kernel
theorem ix1 : ∀ t : Fin grid0.N, win0_1.index t = ![t.val, 0] := by decide +kernel
theorem ix2' : ∀ t : Fin grid0.N, win0_2.index t = ![0, t.val, 0] := by decide +kernel
theorem ix3' : ∀ t : Fin grid0.N, win0_3.index t = ![0, t.val, 0] := by decide +kernel
theorem ix4 : ∀ t : Fin grid0.N, win0_4.index t = ![0, t.val, 0] := by decide +kernel
theorem ix5 : ∀ t : Fin grid0.N, win0_5.index t = ![0, t.val, 0] := by decide +kernel
theorem ix6 : ∀ t : Fin grid0.N, win0_6.index t = ![0, t.val, 0] := by decide +kernel
theorem ix7 : ∀ t : Fin grid0.N, win0_7.index t = ![0, t.val, 0] := by decide +kernel

variable (a : Fin 1) (r : Fin 2) (l : Fin 2048)

theorem row : t.val * 2 + r.val < 2 := by
  have := lt_of_lt_of_eq t.isLt N_0
  omega

theorem blk0 : (iblk m c 0 t : S1x2x2048.Idx → EReal) (ix3 a r l) = at3 (W m c) (t.val * 2 + r.val) l.val := by
  rw [← at3_of (W m c) 0 ⟨_, row t r⟩ l rfl rfl]
  blk_ext [iblk, V, ix0 t]

theorem blk1 : (iblk m c 1 t : S2x2048.Idx → EReal) (ix2 r l) = at2 (G m c) (t.val * 2 + r.val) l.val := by
  rw [← at2_of (G m c) ⟨_, row t r⟩ l rfl rfl]
  blk_ext [iblk, V, ix1 t]

theorem blk2 : (iblk m c 2 t : S1x2x2048.Idx → EReal) (ix3 a r l) = at3 (M m c) (t.val * 2 + r.val) l.val := by
  rw [← at3_of (M m c) 0 ⟨_, row t r⟩ l rfl rfl]
  blk_ext [iblk, V, ix2' t]

theorem blk3 : (iblk m c 3 t : S1x2x2048.Idx → EReal) (ix3 a r l) = at3 (V' m c) (t.val * 2 + r.val) l.val := by
  rw [← at3_of (V' m c) 0 ⟨_, row t r⟩ l rfl rfl]
  blk_ext [iblk, V, ix3' t]

theorem final4 : (dats m 0 c).arrAt 4 cfg0.N = grads (G m c) := by
  unfold grads
  refine (dats m 0 c).arrAt_eq_of_covers 4 _ (by decide +kernel) fun t hf y => ?_
  blk_simp
  rw [after0_4, ix4]
  idx_vars y
  frame_out
  refine (congrFun (tile_grads (iblk m c 1 t) _) _).trans ?_
  rw [grads_ix, blk1]
  blk_simp

theorem final5 : (dats m 0 c).arrAt 5 cfg0.N = changes (W m c) (G m c) (M m c) (V' m c) := by
  unfold changes
  refine (dats m 0 c).arrAt_eq_of_covers 5 _ (by decide +kernel) fun t hf y => ?_
  blk_simp
  rw [after0_5, ix5]
  idx_vars y
  frame_out
  refine (congrFun (tile_changes _ _ _ _ _ _) _).trans ?_
  rw [changes_ix, blk0, blk1, blk2, blk3]
  blk_simp

theorem final6 : (dats m 0 c).arrAt 6 cfg0.N = means (G m c) (M m c) := by
  unfold means
  refine (dats m 0 c).arrAt_eq_of_covers 6 _ (by decide +kernel) fun t hf y => ?_
  blk_simp
  rw [after0_6, ix6]
  idx_vars y
  frame_out
  refine (congrFun (tile_means _ _ _ _) _).trans ?_
  rw [means_ix, blk1, blk2]
  blk_simp

theorem final7 : (dats m 0 c).arrAt 7 cfg0.N = squares (G m c) (V' m c) := by
  unfold squares
  refine (dats m 0 c).arrAt_eq_of_covers 7 _ (by decide +kernel) fun t hf y => ?_
  blk_simp
  rw [after0_7, ix7]
  idx_vars y
  frame_out
  refine (congrFun (tile_squares _ _ _ _) _).trans ?_
  rw [squares_ix, blk1, blk3]
  blk_simp

/-- Kernel and reference leave the same four arrays. -/
theorem algebraic : Cert.algebraic_Kernel25Ideal_Reference25Ideal := by
  intro m ρ m' ρ' _ hag
  refine ⟨fun c => grads (G m c), fun c => changes (W m c) (G m c) (M m c) (V' m c), fun c => means (G m c) (M m c), fun c => squares (G m c) (V' m c),
    (θ_run defs _ _).mono (fun _ h c => ⟨(h c).1.trans (final4 m c), (h c).2.1.trans (final5 m c), (h c).2.2.1.trans (final6 m c),
      (h c).2.2.2.1.trans (final7 m c), (h c).2.2.2.2⟩) (Cert.Kernel25Ideal.Value.run_blocks (F := Ideal) m ρ),
    (θ_run Cert.Reference25Ideal.defs _ _).mono (fun _ h c => ⟨(h c).1.trans ?_, (h c).2.1.trans ?_, (h c).2.2.1.trans ?_, (h c).2.2.2.1.trans ?_, (h c).2.2.2.2⟩)
      (Cert.Reference25Ideal.Value.run (F := Ideal) m' ρ')⟩ <;> obtain ⟨hw, hg, hm, hv⟩ := hag c
  · rw [hg]; exact host_grads _ _
  · rw [hw, hg, hm, hv]; exact host_changes _ _ _ _ _ _
  · rw [hg, hm]; exact host_means _ _ _ _
  · rw [hg, hv]; exact host_squares _ _ _ _

/-- The reference leaves its arguments. -/
theorem frameR : Cert.quiescent_Reference25Ideal := fun m ρ _ =>
  (θ_run Cert.Reference25Ideal.defs _ _).mono (fun r h => ⟨fun c => (h c).2.2.2.2, sem_eq_zero_of_no_sems (by decide) r.2⟩) (Cert.Reference25Ideal.Value.run (F := Ideal) m ρ)

end Cert.AdamFNorm

end
-- ==== Proof.AdamMix.lean ====
/-
  The optimiser's step on the gating mixer's mixing weights, 256 rows at a grid point.
-/
module

public import proofs.«01_k».proof.Defs
public import proofs.«01_k».proof.Proof.Adam
public import proofs.«01_k».proof.Proof.Gen.Kernel26Ideal.Value
public import proofs.«01_k».proof.Proof.Gen.Reference26Ideal.Run
public import Idealize.ShloMosaic.Lib.Pipeline.ReadBack

@[expose] public section

set_option maxRecDepth 16384

noncomputable section

namespace Cert.AdamMix

open Idealize.ShloMosaic Idealize.ShloMosaic.TcCoe Idealize.SL.Sem
open Cert.Kernel26Ideal Cert.Kernel26Ideal.Gen Cert.Conv Cert.Adam
variable (m : (ℓ : Loc nD τ sig) → Buf (Elt Ideal) ℓ) (c : Dev nD) (t : Fin grid0.N)

abbrev W : S1x1024x128.Idx → EReal := m ((c.tc : Thread nD τ).loc main_arg0)
abbrev G : S1024x128.Idx → EReal := m ((c.tc : Thread nD τ).loc main_arg1)
abbrev M : S1x1024x128.Idx → EReal := m ((c.tc : Thread nD τ).loc main_arg2)
abbrev V' : S1x1024x128.Idx → EReal := m ((c.tc : Thread nD τ).loc main_arg3)

theorem ix0 : ∀ t : Fin grid0.N, win0_0.index t = ![0, t.val, 0] := by decide +kernel
theorem ix1 : ∀ t : Fin grid0.N, win0_1.index t = ![t.val, 0] := by decide +kernel
theorem ix2' : ∀ t : Fin grid0.N, win0_2.index t = ![0, t.val, 0] := by decide +kernel
theorem ix3' : ∀ t : Fin grid0.N, win0_3.index t = ![0, t.val, 0] := by decide +kernel
theorem ix4 : ∀ t : Fin grid0.N, win0_4.index t = ![0, t.val, 0] := by decide +kernel
theorem ix5 : ∀ t : Fin grid0.N, win0_5.index t = ![0, t.val, 0] := by decide +kernel
theorem ix6 : ∀ t : Fin grid0.N, win0_6.index t = ![0, t.val, 0] := by decide +kernel
theorem ix7 : ∀ t : Fin grid0.N, win0_7.index t = ![0, t.val, 0] := by decide +kernel

variable (a : Fin 1) (r : Fin 256) (l : Fin 128)

theorem row : t.val * 256 + r.val < 1024 := by
  have := lt_of_lt_of_eq t.isLt N_0
  omega

theorem blk0 : (iblk m c 0 t : S1x256x128.Idx → EReal) (ix3 a r l) = at3 (W m c) (t.val * 256 + r.val) l.val := by
  rw [← at3_of (W m c) 0 ⟨_, row t r⟩ l rfl rfl]
  blk_ext [iblk, V, ix0 t]

theorem blk1 : (iblk m c 1 t : S256x128.Idx → EReal) (ix2 r l) = at2 (G m c) (t.val * 256 + r.val) l.val := by
  rw [← at2_of (G m c) ⟨_, row t r⟩ l rfl rfl]
  blk_ext [iblk, V, ix1 t]

theorem blk2 : (iblk m c 2 t : S1x256x128.Idx → EReal) (ix3 a r l) = at3 (M m c) (t.val * 256 + r.val) l.val := by
  rw [← at3_of (M m c) 0 ⟨_, row t r⟩ l rfl rfl]
  blk_ext [iblk, V, ix2' t]

theorem blk3 : (iblk m c 3 t : S1x256x128.Idx → EReal) (ix3 a r l) = at3 (V' m c) (t.val * 256 + r.val) l.val := by
  rw [← at3_of (V' m c) 0 ⟨_, row t r⟩ l rfl rfl]
  blk_ext [iblk, V, ix3' t]

theorem final4 : (dats m 0 c).arrAt 4 cfg0.N = grads (G m c) := by
  unfold grads
  refine (dats m 0 c).arrAt_eq_of_covers 4 _ (by decide +kernel) fun t hf y => ?_
  blk_simp
  rw [after0_4, ix4]
  idx_vars y
  frame_out
  refine (congrFun (tile_grads (iblk m c 1 t) _) _).trans ?_
  rw [grads_ix, blk1]
  blk_simp

theorem final5 : (dats m 0 c).arrAt 5 cfg0.N = changes (W m c) (G m c) (M m c) (V' m c) := by
  unfold changes
  refine (dats m 0 c).arrAt_eq_of_covers 5 _ (by decide +kernel) fun t hf y => ?_
  blk_simp
  rw [after0_5, ix5]
  idx_vars y
  frame_out
  refine (congrFun (tile_changes _ _ _ _ _ _) _).trans ?_
  rw [changes_ix, blk0, blk1, blk2, blk3]
  blk_simp

theorem final6 : (dats m 0 c).arrAt 6 cfg0.N = means (G m c) (M m c) := by
  unfold means
  refine (dats m 0 c).arrAt_eq_of_covers 6 _ (by decide +kernel) fun t hf y => ?_
  blk_simp
  rw [after0_6, ix6]
  idx_vars y
  frame_out
  refine (congrFun (tile_means _ _ _ _) _).trans ?_
  rw [means_ix, blk1, blk2]
  blk_simp

theorem final7 : (dats m 0 c).arrAt 7 cfg0.N = squares (G m c) (V' m c) := by
  unfold squares
  refine (dats m 0 c).arrAt_eq_of_covers 7 _ (by decide +kernel) fun t hf y => ?_
  blk_simp
  rw [after0_7, ix7]
  idx_vars y
  frame_out
  refine (congrFun (tile_squares _ _ _ _) _).trans ?_
  rw [squares_ix, blk1, blk3]
  blk_simp

/-- Kernel and reference leave the same four arrays. -/
theorem algebraic : Cert.algebraic_Kernel26Ideal_Reference26Ideal := by
  intro m ρ m' ρ' _ hag
  refine ⟨fun c => grads (G m c), fun c => changes (W m c) (G m c) (M m c) (V' m c), fun c => means (G m c) (M m c), fun c => squares (G m c) (V' m c),
    (θ_run defs _ _).mono (fun _ h c => ⟨(h c).1.trans (final4 m c), (h c).2.1.trans (final5 m c), (h c).2.2.1.trans (final6 m c),
      (h c).2.2.2.1.trans (final7 m c), (h c).2.2.2.2⟩) (Cert.Kernel26Ideal.Value.run_blocks (F := Ideal) m ρ),
    (θ_run Cert.Reference26Ideal.defs _ _).mono (fun _ h c => ⟨(h c).1.trans ?_, (h c).2.1.trans ?_, (h c).2.2.1.trans ?_, (h c).2.2.2.1.trans ?_, (h c).2.2.2.2⟩)
      (Cert.Reference26Ideal.Value.run (F := Ideal) m' ρ')⟩ <;> obtain ⟨hw, hg, hm, hv⟩ := hag c
  · rw [hg]; exact host_grads _ _
  · rw [hw, hg, hm, hv]; exact host_changes _ _ _ _ _ _
  · rw [hg, hm]; exact host_means _ _ _ _
  · rw [hg, hv]; exact host_squares _ _ _ _

/-- The reference leaves its arguments. -/
theorem frameR : Cert.quiescent_Reference26Ideal := fun m ρ _ =>
  (θ_run Cert.Reference26Ideal.defs _ _).mono (fun r h => ⟨fun c => (h c).2.2.2.2, sem_eq_zero_of_no_sems (by decide) r.2⟩) (Cert.Reference26Ideal.Value.run (F := Ideal) m ρ)

end Cert.AdamMix

end
-- ==== Proof.AdamMixBias.lean ====
/-
  The optimiser's step on the gating mixer's mixing offsets, at once.
-/
module

public import proofs.«01_k».proof.Defs
public import proofs.«01_k».proof.Proof.Adam
public import proofs.«01_k».proof.Proof.Gen.Kernel27Ideal.Value
public import proofs.«01_k».proof.Proof.Gen.Reference27Ideal.Run
public import Idealize.ShloMosaic.Lib.Pipeline.ReadBack

@[expose] public section

set_option maxRecDepth 16384

noncomputable section

namespace Cert.AdamMixBias

open Idealize.ShloMosaic Idealize.ShloMosaic.TcCoe Idealize.SL.Sem
open Cert.Kernel27Ideal Cert.Kernel27Ideal.Gen Cert.Conv Cert.Adam
variable (m : (ℓ : Loc nD τ sig) → Buf (Elt Ideal) ℓ) (c : Dev nD) (t : Fin grid0.N)

abbrev W : S1x8x128.Idx → EReal := m ((c.tc : Thread nD τ).loc main_arg0)
abbrev G : S8x128.Idx → EReal := m ((c.tc : Thread nD τ).loc main_arg1)
abbrev M : S1x8x128.Idx → EReal := m ((c.tc : Thread nD τ).loc main_arg2)
abbrev V' : S1x8x128.Idx → EReal := m ((c.tc : Thread nD τ).loc main_arg3)

theorem ix0 : ∀ t : Fin grid0.N, win0_0.index t = ![0, t.val, 0] := by decide +kernel
theorem ix1 : ∀ t : Fin grid0.N, win0_1.index t = ![t.val, 0] := by decide +kernel
theorem ix2' : ∀ t : Fin grid0.N, win0_2.index t = ![0, t.val, 0] := by decide +kernel
theorem ix3' : ∀ t : Fin grid0.N, win0_3.index t = ![0, t.val, 0] := by decide +kernel
theorem ix4 : ∀ t : Fin grid0.N, win0_4.index t = ![0, t.val, 0] := by decide +kernel
theorem ix5 : ∀ t : Fin grid0.N, win0_5.index t = ![0, t.val, 0] := by decide +kernel
theorem ix6 : ∀ t : Fin grid0.N, win0_6.index t = ![0, t.val, 0] := by decide +kernel
theorem ix7 : ∀ t : Fin grid0.N, win0_7.index t = ![0, t.val, 0] := by decide +kernel

variable (a : Fin 1) (r : Fin 8) (l : Fin 128)

theorem row : t.val * 8 + r.val < 8 := by
  have := lt_of_lt_of_eq t.isLt N_0
  omega

theorem blk0 : (iblk m c 0 t : S1x8x128.Idx → EReal) (ix3 a r l) = at3 (W m c) (t.val * 8 + r.val) l.val := by
  rw [← at3_of (W m c) 0 ⟨_, row t r⟩ l rfl rfl]
  blk_ext [iblk, V, ix0 t]

theorem blk1 : (iblk m c 1 t : S8x128.Idx → EReal) (ix2 r l) = at2 (G m c) (t.val * 8 + r.val) l.val := by
  rw [← at2_of (G m c) ⟨_, row t r⟩ l rfl rfl]
  blk_ext [iblk, V, ix1 t]

theorem blk2 : (iblk m c 2 t : S1x8x128.Idx → EReal) (ix3 a r l) = at3 (M m c) (t.val * 8 + r.val) l.val := by
  rw [← at3_of (M m c) 0 ⟨_, row t r⟩ l rfl rfl]
  blk_ext [iblk, V, ix2' t]

theorem blk3 : (iblk m c 3 t : S1x8x128.Idx → EReal) (ix3 a r l) = at3 (V' m c) (t.val * 8 + r.val) l.val := by
  rw [← at3_of (V' m c) 0 ⟨_, row t r⟩ l rfl rfl]
  blk_ext [iblk, V, ix3' t]

theorem final4 : (dats m 0 c).arrAt 4 cfg0.N = grads (G m c) := by
  unfold grads
  refine (dats m 0 c).arrAt_eq_of_covers 4 _ (by decide +kernel) fun t hf y => ?_
  blk_simp
  rw [after0_4, ix4]
  idx_vars y
  frame_out
  refine (congrFun (tile_grads (iblk m c 1 t) _) _).trans ?_
  rw [grads_ix, blk1]
  blk_simp

theorem final5 : (dats m 0 c).arrAt 5 cfg0.N = changes (W m c) (G m c) (M m c) (V' m c) := by
  unfold changes
  refine (dats m 0 c).arrAt_eq_of_covers 5 _ (by decide +kernel) fun t hf y => ?_
  blk_simp
  rw [after0_5, ix5]
  idx_vars y
  frame_out
  refine (congrFun (tile_changes _ _ _ _ _ _) _).trans ?_
  rw [changes_ix, blk0, blk1, blk2, blk3]
  blk_simp

theorem final6 : (dats m 0 c).arrAt 6 cfg0.N = means (G m c) (M m c) := by
  unfold means
  refine (dats m 0 c).arrAt_eq_of_covers 6 _ (by decide +kernel) fun t hf y => ?_
  blk_simp
  rw [after0_6, ix6]
  idx_vars y
  frame_out
  refine (congrFun (tile_means _ _ _ _) _).trans ?_
  rw [means_ix, blk1, blk2]
  blk_simp

theorem final7 : (dats m 0 c).arrAt 7 cfg0.N = squares (G m c) (V' m c) := by
  unfold squares
  refine (dats m 0 c).arrAt_eq_of_covers 7 _ (by decide +kernel) fun t hf y => ?_
  blk_simp
  rw [after0_7, ix7]
  idx_vars y
  frame_out
  refine (congrFun (tile_squares _ _ _ _) _).trans ?_
  rw [squares_ix, blk1, blk3]
  blk_simp

/-- Kernel and reference leave the same four arrays. -/
theorem algebraic : Cert.algebraic_Kernel27Ideal_Reference27Ideal := by
  intro m ρ m' ρ' _ hag
  refine ⟨fun c => grads (G m c), fun c => changes (W m c) (G m c) (M m c) (V' m c), fun c => means (G m c) (M m c), fun c => squares (G m c) (V' m c),
    (θ_run defs _ _).mono (fun _ h c => ⟨(h c).1.trans (final4 m c), (h c).2.1.trans (final5 m c), (h c).2.2.1.trans (final6 m c),
      (h c).2.2.2.1.trans (final7 m c), (h c).2.2.2.2⟩) (Cert.Kernel27Ideal.Value.run_blocks (F := Ideal) m ρ),
    (θ_run Cert.Reference27Ideal.defs _ _).mono (fun _ h c => ⟨(h c).1.trans ?_, (h c).2.1.trans ?_, (h c).2.2.1.trans ?_, (h c).2.2.2.1.trans ?_, (h c).2.2.2.2⟩)
      (Cert.Reference27Ideal.Value.run (F := Ideal) m' ρ')⟩ <;> obtain ⟨hw, hg, hm, hv⟩ := hag c
  · rw [hg]; exact host_grads _ _
  · rw [hw, hg, hm, hv]; exact host_changes _ _ _ _ _ _
  · rw [hg, hm]; exact host_means _ _ _ _
  · rw [hg, hv]; exact host_squares _ _ _ _

/-- The reference leaves its arguments. -/
theorem frameR : Cert.quiescent_Reference27Ideal := fun m ρ _ =>
  (θ_run Cert.Reference27Ideal.defs _ _).mono (fun r h => ⟨fun c => (h c).2.2.2.2, sem_eq_zero_of_no_sems (by decide) r.2⟩) (Cert.Reference27Ideal.Value.run (F := Ideal) m ρ)

end Cert.AdamMixBias

end
-- ==== Proof.AdamFConv.lean ====
/-
  The optimiser's step on the feed-forward layers' convolution weights, at once.
-/
module

public import proofs.«01_k».proof.Defs
public import proofs.«01_k».proof.Proof.Adam
public import proofs.«01_k».proof.Proof.Gen.Kernel28Ideal.Value
public import proofs.«01_k».proof.Proof.Gen.Reference28Ideal.Run
public import Idealize.ShloMosaic.Lib.Pipeline.ReadBack

@[expose] public section

set_option maxRecDepth 16384

noncomputable section

namespace Cert.AdamFConv

open Idealize.ShloMosaic Idealize.ShloMosaic.TcCoe Idealize.SL.Sem
open Cert.Kernel28Ideal Cert.Kernel28Ideal.Gen Cert.Conv Cert.Adam
variable (m : (ℓ : Loc nD τ sig) → Buf (Elt Ideal) ℓ) (c : Dev nD) (t : Fin grid0.N)

abbrev W : S1x6x2816.Idx → EReal := m ((c.tc : Thread nD τ).loc main_arg0)
abbrev G : S6x2816.Idx → EReal := m ((c.tc : Thread nD τ).loc main_arg1)
abbrev M : S1x6x2816.Idx → EReal := m ((c.tc : Thread nD τ).loc main_arg2)
abbrev V' : S1x6x2816.Idx → EReal := m ((c.tc : Thread nD τ).loc main_arg3)

theorem ix0 : ∀ t : Fin grid0.N, win0_0.index t = ![0, t.val, 0] := by decide +kernel
theorem ix1 : ∀ t : Fin grid0.N, win0_1.index t = ![t.val, 0] := by decide +kernel
theorem ix2' : ∀ t : Fin grid0.N, win0_2.index t = ![0, t.val, 0] := by decide +kernel
theorem ix3' : ∀ t : Fin grid0.N, win0_3.index t = ![0, t.val, 0] := by decide +kernel
theorem ix4 : ∀ t : Fin grid0.N, win0_4.index t = ![0, t.val, 0] := by decide +kernel
theorem ix5 : ∀ t : Fin grid0.N, win0_5.index t = ![0, t.val, 0] := by decide +kernel
theorem ix6 : ∀ t : Fin grid0.N, win0_6.index t = ![0, t.val, 0] := by decide +kernel
theorem ix7 : ∀ t : Fin grid0.N, win0_7.index t = ![0, t.val, 0] := by decide +kernel

variable (a : Fin 1) (r : Fin 6) (l : Fin 2816)

theorem row : t.val * 6 + r.val < 6 := by
  have := lt_of_lt_of_eq t.isLt N_0
  omega

theorem blk0 : (iblk m c 0 t : S1x6x2816.Idx → EReal) (ix3 a r l) = at3 (W m c) (t.val * 6 + r.val) l.val := by
  rw [← at3_of (W m c) 0 ⟨_, row t r⟩ l rfl rfl]
  blk_ext [iblk, V, ix0 t]

theorem blk1 : (iblk m c 1 t : S6x2816.Idx → EReal) (ix2 r l) = at2 (G m c) (t.val * 6 + r.val) l.val := by
  rw [← at2_of (G m c) ⟨_, row t r⟩ l rfl rfl]
  blk_ext [iblk, V, ix1 t]

theorem blk2 : (iblk m c 2 t : S1x6x2816.Idx → EReal) (ix3 a r l) = at3 (M m c) (t.val * 6 + r.val) l.val := by
  rw [← at3_of (M m c) 0 ⟨_, row t r⟩ l rfl rfl]
  blk_ext [iblk, V, ix2' t]

theorem blk3 : (iblk m c 3 t : S1x6x2816.Idx → EReal) (ix3 a r l) = at3 (V' m c) (t.val * 6 + r.val) l.val := by
  rw [← at3_of (V' m c) 0 ⟨_, row t r⟩ l rfl rfl]
  blk_ext [iblk, V, ix3' t]

theorem final4 : (dats m 0 c).arrAt 4 cfg0.N = grads (G m c) := by
  unfold grads
  refine (dats m 0 c).arrAt_eq_of_covers 4 _ (by decide +kernel) fun t hf y => ?_
  blk_simp
  rw [after0_4, ix4]
  idx_vars y
  frame_out
  refine (congrFun (tile_grads (iblk m c 1 t) _) _).trans ?_
  rw [grads_ix, blk1]
  blk_simp

theorem final5 : (dats m 0 c).arrAt 5 cfg0.N = changes (W m c) (G m c) (M m c) (V' m c) := by
  unfold changes
  refine (dats m 0 c).arrAt_eq_of_covers 5 _ (by decide +kernel) fun t hf y => ?_
  blk_simp
  rw [after0_5, ix5]
  idx_vars y
  frame_out
  refine (congrFun (tile_changes _ _ _ _ _ _) _).trans ?_
  rw [changes_ix, blk0, blk1, blk2, blk3]
  blk_simp

theorem final6 : (dats m 0 c).arrAt 6 cfg0.N = means (G m c) (M m c) := by
  unfold means
  refine (dats m 0 c).arrAt_eq_of_covers 6 _ (by decide +kernel) fun t hf y => ?_
  blk_simp
  rw [after0_6, ix6]
  idx_vars y
  frame_out
  refine (congrFun (tile_means _ _ _ _) _).trans ?_
  rw [means_ix, blk1, blk2]
  blk_simp

theorem final7 : (dats m 0 c).arrAt 7 cfg0.N = squares (G m c) (V' m c) := by
  unfold squares
  refine (dats m 0 c).arrAt_eq_of_covers 7 _ (by decide +kernel) fun t hf y => ?_
  blk_simp
  rw [after0_7, ix7]
  idx_vars y
  frame_out
  refine (congrFun (tile_squares _ _ _ _) _).trans ?_
  rw [squares_ix, blk1, blk3]
  blk_simp

/-- Kernel and reference leave the same four arrays. -/
theorem algebraic : Cert.algebraic_Kernel28Ideal_Reference28Ideal := by
  intro m ρ m' ρ' _ hag
  refine ⟨fun c => grads (G m c), fun c => changes (W m c) (G m c) (M m c) (V' m c), fun c => means (G m c) (M m c), fun c => squares (G m c) (V' m c),
    (θ_run defs _ _).mono (fun _ h c => ⟨(h c).1.trans (final4 m c), (h c).2.1.trans (final5 m c), (h c).2.2.1.trans (final6 m c),
      (h c).2.2.2.1.trans (final7 m c), (h c).2.2.2.2⟩) (Cert.Kernel28Ideal.Value.run_blocks (F := Ideal) m ρ),
    (θ_run Cert.Reference28Ideal.defs _ _).mono (fun _ h c => ⟨(h c).1.trans ?_, (h c).2.1.trans ?_, (h c).2.2.1.trans ?_, (h c).2.2.2.1.trans ?_, (h c).2.2.2.2⟩)
      (Cert.Reference28Ideal.Value.run (F := Ideal) m' ρ')⟩ <;> obtain ⟨hw, hg, hm, hv⟩ := hag c
  · rw [hg]; exact host_grads _ _
  · rw [hw, hg, hm, hv]; exact host_changes _ _ _ _ _ _
  · rw [hg, hm]; exact host_means _ _ _ _
  · rw [hg, hv]; exact host_squares _ _ _ _

/-- The reference leaves its arguments. -/
theorem frameR : Cert.quiescent_Reference28Ideal := fun m ρ _ =>
  (θ_run Cert.Reference28Ideal.defs _ _).mono (fun r h => ⟨fun c => (h c).2.2.2.2, sem_eq_zero_of_no_sems (by decide) r.2⟩) (Cert.Reference28Ideal.Value.run (F := Ideal) m ρ)

end Cert.AdamFConv

end
-- ==== Proof.AdamFBias.lean ====
/-
  The optimiser's step on the feed-forward layers' convolution offsets, at once.
-/
module

public import proofs.«01_k».proof.Defs
public import proofs.«01_k».proof.Proof.Adam
public import proofs.«01_k».proof.Proof.Gen.Kernel29Ideal.Value
public import proofs.«01_k».proof.Proof.Gen.Reference29Ideal.Run
public import Idealize.ShloMosaic.Lib.Pipeline.ReadBack

@[expose] public section

set_option maxRecDepth 16384

noncomputable section

namespace Cert.AdamFBias

open Idealize.ShloMosaic Idealize.ShloMosaic.TcCoe Idealize.SL.Sem
open Cert.Kernel29Ideal Cert.Kernel29Ideal.Gen Cert.Conv Cert.Adam
variable (m : (ℓ : Loc nD τ sig) → Buf (Elt Ideal) ℓ) (c : Dev nD) (t : Fin grid0.N)

abbrev W : S1x2x11264.Idx → EReal := m ((c.tc : Thread nD τ).loc main_arg0)
abbrev G : S2x11264.Idx → EReal := m ((c.tc : Thread nD τ).loc main_arg1)
abbrev M : S1x2x11264.Idx → EReal := m ((c.tc : Thread nD τ).loc main_arg2)
abbrev V' : S1x2x11264.Idx → EReal := m ((c.tc : Thread nD τ).loc main_arg3)

theorem ix0 : ∀ t : Fin grid0.N, win0_0.index t = ![0, t.val, 0] := by decide +kernel
theorem ix1 : ∀ t : Fin grid0.N, win0_1.index t = ![t.val, 0] := by decide +kernel
theorem ix2' : ∀ t : Fin grid0.N, win0_2.index t = ![0, t.val, 0] := by decide +kernel
theorem ix3' : ∀ t : Fin grid0.N, win0_3.index t = ![0, t.val, 0] := by decide +kernel
theorem ix4 : ∀ t : Fin grid0.N, win0_4.index t = ![0, t.val, 0] := by decide +kernel
theorem ix5 : ∀ t : Fin grid0.N, win0_5.index t = ![0, t.val, 0] := by decide +kernel
theorem ix6 : ∀ t : Fin grid0.N, win0_6.index t = ![0, t.val, 0] := by decide +kernel
theorem ix7 : ∀ t : Fin grid0.N, win0_7.index t = ![0, t.val, 0] := by decide +kernel

variable (a : Fin 1) (r : Fin 2) (l : Fin 11264)

theorem row : t.val * 2 + r.val < 2 := by
  have := lt_of_lt_of_eq t.isLt N_0
  omega

theorem blk0 : (iblk m c 0 t : S1x2x11264.Idx → EReal) (ix3 a r l) = at3 (W m c) (t.val * 2 + r.val) l.val := by
  rw [← at3_of (W m c) 0 ⟨_, row t r⟩ l rfl rfl]
  blk_ext [iblk, V, ix0 t]

theorem blk1 : (iblk m c 1 t : S2x11264.Idx → EReal) (ix2 r l) = at2 (G m c) (t.val * 2 + r.val) l.val := by
  rw [← at2_of (G m c) ⟨_, row t r⟩ l rfl rfl]
  blk_ext [iblk, V, ix1 t]

theorem blk2 : (iblk m c 2 t : S1x2x11264.Idx → EReal) (ix3 a r l) = at3 (M m c) (t.val * 2 + r.val) l.val := by
  rw [← at3_of (M m c) 0 ⟨_, row t r⟩ l rfl rfl]
  blk_ext [iblk, V, ix2' t]

theorem blk3 : (iblk m c 3 t : S1x2x11264.Idx → EReal) (ix3 a r l) = at3 (V' m c) (t.val * 2 + r.val) l.val := by
  rw [← at3_of (V' m c) 0 ⟨_, row t r⟩ l rfl rfl]
  blk_ext [iblk, V, ix3' t]

theorem final4 : (dats m 0 c).arrAt 4 cfg0.N = grads (G m c) := by
  unfold grads
  refine (dats m 0 c).arrAt_eq_of_covers 4 _ (by decide +kernel) fun t hf y => ?_
  blk_simp
  rw [after0_4, ix4]
  idx_vars y
  frame_out
  refine (congrFun (tile_grads (iblk m c 1 t) _) _).trans ?_
  rw [grads_ix, blk1]
  blk_simp

theorem final5 : (dats m 0 c).arrAt 5 cfg0.N = changes (W m c) (G m c) (M m c) (V' m c) := by
  unfold changes
  refine (dats m 0 c).arrAt_eq_of_covers 5 _ (by decide +kernel) fun t hf y => ?_
  blk_simp
  rw [after0_5, ix5]
  idx_vars y
  frame_out
  refine (congrFun (tile_changes _ _ _ _ _ _) _).trans ?_
  rw [changes_ix, blk0, blk1, blk2, blk3]
  blk_simp

theorem final6 : (dats m 0 c).arrAt 6 cfg0.N = means (G m c) (M m c) := by
  unfold means
  refine (dats m 0 c).arrAt_eq_of_covers 6 _ (by decide +kernel) fun t hf y => ?_
  blk_simp
  rw [after0_6, ix6]
  idx_vars y
  frame_out
  refine (congrFun (tile_means _ _ _ _) _).trans ?_
  rw [means_ix, blk1, blk2]
  blk_simp

theorem final7 : (dats m 0 c).arrAt 7 cfg0.N = squares (G m c) (V' m c) := by
  unfold squares
  refine (dats m 0 c).arrAt_eq_of_covers 7 _ (by decide +kernel) fun t hf y => ?_
  blk_simp
  rw [after0_7, ix7]
  idx_vars y
  frame_out
  refine (congrFun (tile_squares _ _ _ _) _).trans ?_
  rw [squares_ix, blk1, blk3]
  blk_simp

/-- Kernel and reference leave the same four arrays. -/
theorem algebraic : Cert.algebraic_Kernel29Ideal_Reference29Ideal := by
  intro m ρ m' ρ' _ hag
  refine ⟨fun c => grads (G m c), fun c => changes (W m c) (G m c) (M m c) (V' m c), fun c => means (G m c) (M m c), fun c => squares (G m c) (V' m c),
    (θ_run defs _ _).mono (fun _ h c => ⟨(h c).1.trans (final4 m c), (h c).2.1.trans (final5 m c), (h c).2.2.1.trans (final6 m c),
      (h c).2.2.2.1.trans (final7 m c), (h c).2.2.2.2⟩) (Cert.Kernel29Ideal.Value.run_blocks (F := Ideal) m ρ),
    (θ_run Cert.Reference29Ideal.defs _ _).mono (fun _ h c => ⟨(h c).1.trans ?_, (h c).2.1.trans ?_, (h c).2.2.1.trans ?_, (h c).2.2.2.1.trans ?_, (h c).2.2.2.2⟩)
      (Cert.Reference29Ideal.Value.run (F := Ideal) m' ρ')⟩ <;> obtain ⟨hw, hg, hm, hv⟩ := hag c
  · rw [hg]; exact host_grads _ _
  · rw [hw, hg, hm, hv]; exact host_changes _ _ _ _ _ _
  · rw [hg, hm]; exact host_means _ _ _ _
  · rw [hg, hv]; exact host_squares _ _ _ _

/-- The reference leaves its arguments. -/
theorem frameR : Cert.quiescent_Reference29Ideal := fun m ρ _ =>
  (θ_run Cert.Reference29Ideal.defs _ _).mono (fun r h => ⟨fun c => (h c).2.2.2.2, sem_eq_zero_of_no_sems (by decide) r.2⟩) (Cert.Reference29Ideal.Value.run (F := Ideal) m ρ)

end Cert.AdamFBias

end
-- ==== Proof.AdamPair.lean ====
/-
  The optimiser's step on weights of two layers, the layer being the first position, the gradient one array for each layer.
-/
module

public import proofs.«01_k».proof.Proof.Adam

@[expose] public section

noncomputable section

namespace Cert.Adam

open Idealize.ShloMosaic Cert.Conv

variable {R C : ℕ}

/-- An array of two layers at layer `k`, row `r` and column `c`. -/
def atL (X : (⟨3, ![2, R, C]⟩ : Shape).Idx → EReal) (k r c : ℕ) : EReal :=
  if h : k < 2 ∧ r < R ∧ c < C then X (ix3 ⟨k, h.1⟩ ⟨r, h.2.1⟩ ⟨c, h.2.2⟩) else 0

theorem atL_of (X : (⟨3, ![2, R, C]⟩ : Shape).Idx → EReal) (k : Fin 2) (r : Fin R) (c : Fin C) {k' r' c' : ℕ} (hk : k.val = k') (hr : r.val = r')
    (hc : c.val = c') : X (ix3 k r c) = atL X k' r' c' := by
  subst hk hr hc
  rw [atL, dif_pos ⟨k.isLt, r.isLt, c.isLt⟩]

/-- One of two gradients. -/
def pick (g0 g1 : (⟨2, ![R, C]⟩ : Shape).Idx → EReal) (k r c : ℕ) : EReal := if k = 0 then at2 g0 r c else at2 g1 r c

section Spec
variable (w m v : (⟨3, ![2, R, C]⟩ : Shape).Idx → EReal) (g0 g1 : (⟨2, ![R, C]⟩ : Shape).Idx → EReal)

/-- Both layers' gradients, changes and moving averages, as arrays. -/
def bothGrads : (⟨3, ![2, R, C]⟩ : Shape).Idx → EReal := fun y => pick g0 g1 (y 0).val (y 1).val (y 2).val

def bothChanges : (⟨3, ![2, R, C]⟩ : Shape).Idx → EReal := fun y => change (atL w (y 0).val (y 1).val (y 2).val) (pick g0 g1 (y 0).val (y 1).val (y 2).val)
  (atL m (y 0).val (y 1).val (y 2).val) (atL v (y 0).val (y 1).val (y 2).val)

def bothMeans : (⟨3, ![2, R, C]⟩ : Shape).Idx → EReal := fun y => mean (pick g0 g1 (y 0).val (y 1).val (y 2).val) (atL m (y 0).val (y 1).val (y 2).val)

def bothSquares : (⟨3, ![2, R, C]⟩ : Shape).Idx → EReal := fun y => square (pick g0 g1 (y 0).val (y 1).val (y 2).val) (atL v (y 0).val (y 1).val (y 2).val)

end Spec

theorem exists_ixL (y : (⟨3, ![2, R, C]⟩ : Shape).Idx) : ∃ (k : Fin 2) (r : Fin R) (c : Fin C), y = ix3 k r c :=
  ⟨y 0, y 1, y 2, by funext a; fin_cases a <;> rfl⟩

section At
variable (w m v : (⟨3, ![2, R, C]⟩ : Shape).Idx → EReal) (g0 g1 : (⟨2, ![R, C]⟩ : Shape).Idx → EReal) (k : Fin 2) (r : Fin R) (c : Fin C)

theorem bothGrads_ix : bothGrads g0 g1 (ix3 k r c) = pick g0 g1 k.val r.val c.val := rfl

theorem bothMeans_ix : bothMeans m g0 g1 (ix3 k r c) = mean (pick g0 g1 k.val r.val c.val) (m (ix3 k r c)) := by
  rw [atL_of m k r c rfl rfl rfl]; rfl

theorem bothSquares_ix : bothSquares v g0 g1 (ix3 k r c) = square (pick g0 g1 k.val r.val c.val) (v (ix3 k r c)) := by
  rw [atL_of v k r c rfl rfl rfl]; rfl

theorem bothChanges_ix : bothChanges w m v g0 g1 (ix3 k r c) = change (w (ix3 k r c)) (pick g0 g1 k.val r.val c.val) (m (ix3 k r c)) (v (ix3 k r c)) := by
  rw [atL_of w k r c rfl rfl rfl, atL_of m k r c rfl rfl rfl, atL_of v k r c rfl rfl rfl]; rfl

end At

/-! ## The step written with host operations -/

section Host
variable (g0 g1 : FVec Ideal ⟨2, ![R, C]⟩ .f32) (w m v : FVec Ideal ⟨3, ![2, R, C]⟩ .f32)
variable (b : (⟨0, ![]⟩ : Shape).BroadcastsInDim ⟨3, ![2, R, C]⟩ (![] : Fin 0 → Fin 3)) (e : (⟨2, ![R, C]⟩ : Shape).BroadcastsInDim ⟨3, ![1, R, C]⟩ (![1, 2] : Fin 2 → Fin 3))
variable (n : Shape.Concatenates [⟨3, ![1, R, C]⟩, ⟨3, ![1, R, C]⟩] ⟨3, ![2, R, C]⟩ 0)

/-- A constant in every position. -/
abbrev fillL (k : BitVec 32) : FVec Ideal ⟨3, ![2, R, C]⟩ .f32 := broadcastInDim ⟨3, ![2, R, C]⟩ ![] b (constant ⟨0, ![]⟩ .f32 k)

/-- The gradients stacked. -/
abbrev stackL : FVec Ideal ⟨3, ![2, R, C]⟩ .f32 := concatenate ⟨3, ![2, R, C]⟩ 0 [⟨⟨3, ![1, R, C]⟩, broadcastInDim ⟨3, ![1, R, C]⟩ ![1, 2] e g0⟩,
  ⟨⟨3, ![1, R, C]⟩, broadcastInDim ⟨3, ![1, R, C]⟩ ![1, 2] e g1⟩] n

theorem stack_grads : stackL g0 g1 e n = bothGrads g0 g1 := by
  unfold stackL
  rw [host_grads, host_grads]
  funext y
  obtain ⟨k, r, c, rfl⟩ := exists_ixL y
  have l := concatenate_pair_apply_left (t := ⟨3, ![2, R, C]⟩) 0 (grads g0) (grads g1) n
  have l' := concatenate_pair_apply_right (t := ⟨3, ![2, R, C]⟩) 0 (grads g0) (grads g1) n
  fin_cases k
  · refine (l _ rfl (ix3 0 r c) fun x => ?_).trans ?_
    · fin_cases x <;> rfl
    · rw [grads_ix, at2_of g0 r c rfl rfl]; rfl
  · refine (l' _ rfl rfl (ix3 0 r c) (fun x hx => ?_) rfl).trans ?_
    · fin_cases x
      · exact absurd rfl hx
      · rfl
      · rfl
    · rw [grads_ix, at2_of g1 r c rfl rfl]; rfl

theorem stack_means : addf (mulf (fillL b 0x3F666666#32) m) (mulf (fillL b 0x3DCCCCCD#32) (stackL g0 g1 e n)) = bothMeans m g0 g1 := by
  rw [stack_grads]
  funext y
  obtain ⟨k, r, c, rfl⟩ := exists_ixL y
  rw [bothMeans_ix, ← bothGrads_ix]; rfl

theorem stack_squares : addf (mulf (fillL b 0x3F7FBE77#32) v) (mulf (fillL b 0x3A83126F#32) (mulf (stackL g0 g1 e n) (stackL g0 g1 e n))) = bothSquares v g0 g1 := by
  rw [stack_grads]
  funext y
  obtain ⟨k, r, c, rfl⟩ := exists_ixL y
  rw [bothSquares_ix, ← bothGrads_ix]; rfl

theorem stack_changes : mulf (fillL b 0xBA83126F#32) (addf (Host.divf
      (Host.divf (addf (mulf (fillL b 0x3F666666#32) m) (mulf (fillL b 0x3DCCCCCD#32) (stackL g0 g1 e n))) (fillL b 0x3F26BD02#32))
      (addf (Host.sqrt (Host.divf (addf (mulf (fillL b 0x3F7FBE77#32) v) (mulf (fillL b 0x3A83126F#32)
        (mulf (stackL g0 g1 e n) (stackL g0 g1 e n)))) (fillL b 0x3C231ACC#32))) (fillL b 0x322BCC77#32)))
    (mulf (fillL b 0x3C23D70A#32) w)) = bothChanges w m v g0 g1 := by
  rw [stack_means, stack_squares]
  funext y
  obtain ⟨k, r, c, rfl⟩ := exists_ixL y
  rw [bothChanges_ix, change, ← bothMeans_ix, ← bothSquares_ix]; rfl

end Host

end Cert.Adam

end
-- ==== Proof.AdamUp.lean ====
/-
  The optimiser's step on the up projection's weights of both layers: one call for each layer, the second over the first's results.
-/
module

public import proofs.«01_k».proof.Defs
public import proofs.«01_k».proof.Proof.AdamPair
public import proofs.«01_k».proof.Proof.Gen.Kernel30Ideal.Frame
public import proofs.«01_k».proof.Proof.Gen.Reference30Ideal.Run
public import Idealize.ShloMosaic.Lib.Pipeline.ReadBack
public import Idealize.ShloMosaic.Lib.Pipeline.ValueKit

@[expose] public section

set_option maxRecDepth 16384

noncomputable section

namespace Cert.AdamUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel30Ideal Cert.Kernel30Ideal.Gen Cert.Conv Cert.Adam

/-! ## One call, over any contents of the arrays -/

section Calls
variable (V : (c : Dev nD) → (b : Ref sig .tc) → Buf (Elt Ideal) ((c : Thread nD τ).loc b)) (c : Dev nD)

abbrev W : S2x2048x2816.Idx → EReal := V c main_arg0
abbrev G0 : S2048x2816.Idx → EReal := V c main_arg1
abbrev G1 : S2048x2816.Idx → EReal := V c main_arg2
abbrev M : S2x2048x2816.Idx → EReal := V c main_arg3
abbrev V' : S2x2048x2816.Idx → EReal := V c main_arg4

section First
variable (t : Fin grid0.N)

theorem ix0 : ∀ t : Fin grid0.N, win0_0.index t = ![1, t.val, 0] := by decide +kernel
theorem ix1 : ∀ t : Fin grid0.N, win0_1.index t = ![t.val, 0] := by decide +kernel
theorem ix2' : ∀ t : Fin grid0.N, win0_2.index t = ![1, t.val, 0] := by decide +kernel
theorem ix3' : ∀ t : Fin grid0.N, win0_3.index t = ![1, t.val, 0] := by decide +kernel
theorem ix4 : ∀ t : Fin grid0.N, win0_4.index t = ![1, t.val, 0] := by decide +kernel
theorem ix5 : ∀ t : Fin grid0.N, win0_5.index t = ![1, t.val, 0] := by decide +kernel
theorem ix6 : ∀ t : Fin grid0.N, win0_6.index t = ![1, t.val, 0] := by decide +kernel
theorem ix7 : ∀ t : Fin grid0.N, win0_7.index t = ![1, t.val, 0] := by decide +kernel

variable (a : Fin 1) (r : Fin 256) (l : Fin 2816)

theorem row0 : t.val * 256 + r.val < 2048 := by
  have := lt_of_lt_of_eq t.isLt N_0
  omega

theorem first0 : (iblk0 V c 0 t : S1x256x2816.Idx → EReal) (ix3 a r l) = atL (W V c) 1 (t.val * 256 + r.val) l.val := by
  rw [← atL_of (W V c) 1 ⟨_, row0 t r⟩ l (k' := 1) rfl rfl rfl]
  blk_ext [iblk0, ix0 t]

theorem first1 : (iblk0 V c 1 t : S256x2816.Idx → EReal) (ix2 r l) = pick (G0 V c) (G1 V c) 1 (t.val * 256 + r.val) l.val := by
  rw [pick, if_neg one_ne_zero, ← at2_of (G1 V c) ⟨_, row0 t r⟩ l rfl rfl]
  blk_ext [iblk0, ix1 t]

theorem first2 : (iblk0 V c 2 t : S1x256x2816.Idx → EReal) (ix3 a r l) = atL (M V c) 1 (t.val * 256 + r.val) l.val := by
  rw [← atL_of (M V c) 1 ⟨_, row0 t r⟩ l (k' := 1) rfl rfl rfl]
  blk_ext [iblk0, ix2' t]

theorem first3 : (iblk0 V c 3 t : S1x256x2816.Idx → EReal) (ix3 a r l) = atL (V' V c) 1 (t.val * 256 + r.val) l.val := by
  rw [← atL_of (V' V c) 1 ⟨_, row0 t r⟩ l (k' := 1) rfl rfl rfl]
  blk_ext [iblk0, ix3' t]

/-- The first call fills the second layer. -/
theorem first4 (y : S2x2048x2816.Idx) (hy : (y 0).val = 1) : (dat0 V c).arrAt 4 cfg0.N y = bothGrads (G0 V c) (G1 V c) y := by
  refine ((dat0 V c).arrAt_apply_of_coversWhere 4 (bothGrads (G0 V c) (G1 V c)) (P := fun i : S2x2048x2816.Idx => (i 0).val / 1 = 1)
    (fun β => β (0 : Fin 3) = 1) (by decide +kernel) (fun t hf y => ?_) (fun j => Iff.rfl) y).trans (if_pos (by rw [Nat.div_one]; exact hy))
  unfold bothGrads
  blk_simp
  rw [after0_4, ix4]
  idx_vars y
  frame_out
  refine (congrFun (tile_grads (iblk0 V c 1 t) _) _).trans ?_
  rw [grads_ix, first1]
  blk_simp

theorem first5 (y : S2x2048x2816.Idx) (hy : (y 0).val = 1) : (dat0 V c).arrAt 5 cfg0.N y = bothChanges (W V c) (M V c) (V' V c) (G0 V c) (G1 V c) y := by
  refine ((dat0 V c).arrAt_apply_of_coversWhere 5 (bothChanges (W V c) (M V c) (V' V c) (G0 V c) (G1 V c)) (P := fun i : S2x2048x2816.Idx => (i 0).val / 1 = 1)
    (fun β => β (0 : Fin 3) = 1) (by decide +kernel) (fun t hf y => ?_) (fun j => Iff.rfl) y).trans (if_pos (by rw [Nat.div_one]; exact hy))
  unfold bothChanges
  blk_simp
  rw [after0_5, ix5]
  idx_vars y
  frame_out
  refine (congrFun (tile_changes _ _ _ _ _ _) _).trans ?_
  rw [changes_ix, first0, first1, first2, first3]
  blk_simp

theorem first6 (y : S2x2048x2816.Idx) (hy : (y 0).val = 1) : (dat0 V c).arrAt 6 cfg0.N y = bothMeans (M V c) (G0 V c) (G1 V c) y := by
  refine ((dat0 V c).arrAt_apply_of_coversWhere 6 (bothMeans (M V c) (G0 V c) (G1 V c)) (P := fun i : S2x2048x2816.Idx => (i 0).val / 1 = 1)
    (fun β => β (0 : Fin 3) = 1) (by decide +kernel) (fun t hf y => ?_) (fun j => Iff.rfl) y).trans (if_pos (by rw [Nat.div_one]; exact hy))
  unfold bothMeans
  blk_simp
  rw [after0_6, ix6]
  idx_vars y
  frame_out
  refine (congrFun (tile_means _ _ _ _) _).trans ?_
  rw [means_ix, first1, first2]
  blk_simp

theorem first7 (y : S2x2048x2816.Idx) (hy : (y 0).val = 1) : (dat0 V c).arrAt 7 cfg0.N y = bothSquares (V' V c) (G0 V c) (G1 V c) y := by
  refine ((dat0 V c).arrAt_apply_of_coversWhere 7 (bothSquares (V' V c) (G0 V c) (G1 V c)) (P := fun i : S2x2048x2816.Idx => (i 0).val / 1 = 1)
    (fun β => β (0 : Fin 3) = 1) (by decide +kernel) (fun t hf y => ?_) (fun j => Iff.rfl) y).trans (if_pos (by rw [Nat.div_one]; exact hy))
  unfold bothSquares
  blk_simp
  rw [after0_7, ix7]
  idx_vars y
  frame_out
  refine (congrFun (tile_squares _ _ _ _) _).trans ?_
  rw [squares_ix, first1, first3]
  blk_simp

end First

section Second
variable (t : Fin grid1.N)

theorem iy0 : ∀ t : Fin grid1.N, win1_0.index t = ![0, t.val, 0] := by decide +kernel
theorem iy1 : ∀ t : Fin grid1.N, win1_1.index t = ![t.val, 0] := by decide +kernel
theorem iy2 : ∀ t : Fin grid1.N, win1_2.index t = ![0, t.val, 0] := by decide +kernel
theorem iy3 : ∀ t : Fin grid1.N, win1_3.index t = ![0, t.val, 0] := by decide +kernel
theorem iy4 : ∀ t : Fin grid1.N, win1_4.index t = ![0, t.val, 0] := by decide +kernel
theorem iy5 : ∀ t : Fin grid1.N, win1_5.index t = ![0, t.val, 0] := by decide +kernel
theorem iy6 : ∀ t : Fin grid1.N, win1_6.index t = ![0, t.val, 0] := by decide +kernel
theorem iy7 : ∀ t : Fin grid1.N, win1_7.index t = ![0, t.val, 0] := by decide +kernel

variable (a : Fin 1) (r : Fin 256) (l : Fin 2816)

theorem row1 : t.val * 256 + r.val < 2048 := by
  have := lt_of_lt_of_eq t.isLt N_1
  omega

theorem second0 : (iblk1 V c 0 t : S1x256x2816.Idx → EReal) (ix3 a r l) = atL (W V c) 0 (t.val * 256 + r.val) l.val := by
  rw [← atL_of (W V c) 0 ⟨_, row1 t r⟩ l (k' := 0) rfl rfl rfl]
  blk_ext [iblk1, iy0 t]

theorem second1 : (iblk1 V c 1 t : S256x2816.Idx → EReal) (ix2 r l) = pick (G0 V c) (G1 V c) 0 (t.val * 256 + r.val) l.val := by
  rw [pick, if_pos rfl, ← at2_of (G0 V c) ⟨_, row1 t r⟩ l rfl rfl]
  blk_ext [iblk1, iy1 t]

theorem second2 : (iblk1 V c 2 t : S1x256x2816.Idx → EReal) (ix3 a r l) = atL (M V c) 0 (t.val * 256 + r.val) l.val := by
  rw [← atL_of (M V c) 0 ⟨_, row1 t r⟩ l (k' := 0) rfl rfl rfl]
  blk_ext [iblk1, iy2 t]

theorem second3 : (iblk1 V c 3 t : S1x256x2816.Idx → EReal) (ix3 a r l) = atL (V' V c) 0 (t.val * 256 + r.val) l.val := by
  rw [← atL_of (V' V c) 0 ⟨_, row1 t r⟩ l (k' := 0) rfl rfl rfl]
  blk_ext [iblk1, iy3 t]

/-- A position outside the first layer is in the second. -/
theorem upper (j : S2x2048x2816.Idx) (hj : ¬(j 0).val / 1 = 0) : (j 0).val = 1 := by
  have : (j 0).val < 2 := (j 0).isLt
  omega

/-- The second call fills the first layer and keeps the second. -/
theorem second4 (h : ∀ y : S2x2048x2816.Idx, (y 0).val = 1 → (V c main_v1_0 : S2x2048x2816.Idx → EReal) y = bothGrads (G0 V c) (G1 V c) y) :
    (dat1 V c).arrAt 4 cfg1.N = bothGrads (G0 V c) (G1 V c) := by
  refine (dat1 V c).arrAt_eq_of_coversWhere_of_agree 4 _ (fun β => β (0 : Fin 3) = 0) (by decide +kernel) (fun t hf y => ?_) (fun j hj => ?_)
  · unfold bothGrads
    blk_simp
    rw [after1_4, iy4]
    unfold outsAt1
    idx_vars y
    frame_out
    refine (congrFun (tile_grads (iblk1 V c 1 t) _) _).trans ?_
    rw [grads_ix, second1]
    blk_simp
  · exact (congrFun (A_eq1 V c 4) _).trans (h _ (upper j hj))

theorem second5 (h : ∀ y : S2x2048x2816.Idx, (y 0).val = 1 → (V c main_v1_1 : S2x2048x2816.Idx → EReal) y = bothChanges (W V c) (M V c) (V' V c) (G0 V c) (G1 V c) y) :
    (dat1 V c).arrAt 5 cfg1.N = bothChanges (W V c) (M V c) (V' V c) (G0 V c) (G1 V c) := by
  refine (dat1 V c).arrAt_eq_of_coversWhere_of_agree 5 _ (fun β => β (0 : Fin 3) = 0) (by decide +kernel) (fun t hf y => ?_) (fun j hj => ?_)
  · unfold bothChanges
    blk_simp
    rw [after1_5, iy5]
    unfold outsAt1
    idx_vars y
    frame_out
    refine (congrFun (tile_changes _ _ _ _ _ _) _).trans ?_
    rw [changes_ix, second0, second1, second2, second3]
    blk_simp
  · exact (congrFun (A_eq1 V c 5) _).trans (h _ (upper j hj))

theorem second6 (h : ∀ y : S2x2048x2816.Idx, (y 0).val = 1 → (V c main_v1_2 : S2x2048x2816.Idx → EReal) y = bothMeans (M V c) (G0 V c) (G1 V c) y) :
    (dat1 V c).arrAt 6 cfg1.N = bothMeans (M V c) (G0 V c) (G1 V c) := by
  refine (dat1 V c).arrAt_eq_of_coversWhere_of_agree 6 _ (fun β => β (0 : Fin 3) = 0) (by decide +kernel) (fun t hf y => ?_) (fun j hj => ?_)
  · unfold bothMeans
    blk_simp
    rw [after1_6, iy6]
    unfold outsAt1
    idx_vars y
    frame_out
    refine (congrFun (tile_means _ _ _ _) _).trans ?_
    rw [means_ix, second1, second2]
    blk_simp
  · exact (congrFun (A_eq1 V c 6) _).trans (h _ (upper j hj))

theorem second7 (h : ∀ y : S2x2048x2816.Idx, (y 0).val = 1 → (V c main_v1_3 : S2x2048x2816.Idx → EReal) y = bothSquares (V' V c) (G0 V c) (G1 V c) y) :
    (dat1 V c).arrAt 7 cfg1.N = bothSquares (V' V c) (G0 V c) (G1 V c) := by
  refine (dat1 V c).arrAt_eq_of_coversWhere_of_agree 7 _ (fun β => β (0 : Fin 3) = 0) (by decide +kernel) (fun t hf y => ?_) (fun j hj => ?_)
  · unfold bothSquares
    blk_simp
    rw [after1_7, iy7]
    unfold outsAt1
    idx_vars y
    frame_out
    refine (congrFun (tile_squares _ _ _ _) _).trans ?_
    rw [squares_ix, second1, second3]
    blk_simp
  · exact (congrFun (A_eq1 V c 7) _).trans (h _ (upper j hj))

end Second

end Calls

/-! ## Both calls -/

variable (m : (ℓ : Loc nD τ sig) → Buf (Elt Ideal) ℓ) (ρ : Dev nD → PrngReg)

/-- The arguments are as they were when the second call starts. -/
theorem kept (c : Dev nD) : W (V2 m ρ) c = W (V0 m ρ) c ∧ G0 (V2 m ρ) c = G0 (V0 m ρ) c ∧ G1 (V2 m ρ) c = G1 (V0 m ρ) c
    ∧ M (V2 m ρ) c = M (V0 m ρ) c ∧ V' (V2 m ρ) c = V' (V0 m ρ) c :=
  ⟨W2_args m ρ c _ (by decide), W2_args m ρ c _ (by decide), W2_args m ρ c _ (by decide), W2_args m ρ c _ (by decide), W2_args m ρ c _ (by decide)⟩

/-- It starts from copies of the first call's results; so both layers are filled in the end. -/
theorem copied0 (c : Dev nD) : V2 m ρ c main_v1_0 = (dat0 (V0 m ρ) c).arrAt 4 cfg0.N := by
  refine Eq.trans ?_ (W1_arr m ρ c 4)
  show StableHlo.after hostOps1 (W1 m ρ c) _ = _
  after_results_simp
  rfl

theorem final0 (c : Dev nD) : W3 m ρ c (Proc.devRef .tc main_v1_0) = bothGrads (G0 (V0 m ρ) c) (G1 (V0 m ρ) c) := by
  obtain ⟨hw, h0, h1, hm, hv⟩ := kept m ρ c
  refine (W3_arr m ρ c 4).trans ?_
  have h := second4 (V2 m ρ) c fun y hy => ?_
  · rw [h]; simp only [hw, h0, h1, hm, hv]
  · simp only [hw, h0, h1, hm, hv]
    exact (congrFun (copied0 m ρ c) y).trans (first4 (V0 m ρ) c y hy)

theorem copied1 (c : Dev nD) : V2 m ρ c main_v1_1 = (dat0 (V0 m ρ) c).arrAt 5 cfg0.N := by
  refine Eq.trans ?_ (W1_arr m ρ c 5)
  show StableHlo.after hostOps1 (W1 m ρ c) _ = _
  after_results_simp
  rfl

theorem final1 (c : Dev nD) : W3 m ρ c (Proc.devRef .tc main_v1_1) = bothChanges (W (V0 m ρ) c) (M (V0 m ρ) c) (V' (V0 m ρ) c) (G0 (V0 m ρ) c) (G1 (V0 m ρ) c) := by
  obtain ⟨hw, h0, h1, hm, hv⟩ := kept m ρ c
  refine (W3_arr m ρ c 5).trans ?_
  have h := second5 (V2 m ρ) c fun y hy => ?_
  · rw [h]; simp only [hw, h0, h1, hm, hv]
  · simp only [hw, h0, h1, hm, hv]
    exact (congrFun (copied1 m ρ c) y).trans (first5 (V0 m ρ) c y hy)

theorem copied2 (c : Dev nD) : V2 m ρ c main_v1_2 = (dat0 (V0 m ρ) c).arrAt 6 cfg0.N := by
  refine Eq.trans ?_ (W1_arr m ρ c 6)
  show StableHlo.after hostOps1 (W1 m ρ c) _ = _
  after_results_simp
  rfl

theorem final2 (c : Dev nD) : W3 m ρ c (Proc.devRef .tc main_v1_2) = bothMeans (M (V0 m ρ) c) (G0 (V0 m ρ) c) (G1 (V0 m ρ) c) := by
  obtain ⟨hw, h0, h1, hm, hv⟩ := kept m ρ c
  refine (W3_arr m ρ c 6).trans ?_
  have h := second6 (V2 m ρ) c fun y hy => ?_
  · rw [h]; simp only [hw, h0, h1, hm, hv]
  · simp only [hw, h0, h1, hm, hv]
    exact (congrFun (copied2 m ρ c) y).trans (first6 (V0 m ρ) c y hy)

theorem copied3 (c : Dev nD) : V2 m ρ c main_v1_3 = (dat0 (V0 m ρ) c).arrAt 7 cfg0.N := by
  refine Eq.trans ?_ (W1_arr m ρ c 7)
  show StableHlo.after hostOps1 (W1 m ρ c) _ = _
  after_results_simp
  rfl

theorem final3 (c : Dev nD) : W3 m ρ c (Proc.devRef .tc main_v1_3) = bothSquares (V' (V0 m ρ) c) (G0 (V0 m ρ) c) (G1 (V0 m ρ) c) := by
  obtain ⟨hw, h0, h1, hm, hv⟩ := kept m ρ c
  refine (W3_arr m ρ c 7).trans ?_
  have h := second7 (V2 m ρ) c fun y hy => ?_
  · rw [h]; simp only [hw, h0, h1, hm, hv]
  · simp only [hw, h0, h1, hm, hv]
    exact (congrFun (copied3 m ρ c) y).trans (first7 (V0 m ρ) c y hy)

set_option backward.isDefEq.respectTransparency.types false in
/-- Both calls run to the end, the results being what the last boundary holds. -/
theorem run : θ_run defs (onTc (τ := τ) (main (F := Ideal))) ⟨m, fun _ => 0, ρ⟩ (fun r => ∀ c : Dev nD,
    ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      · iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Held, -, Owed, -, Reg, -⟩, -⟩
      imodintro
      isplitl [Held]
      · iexact Held
      isplitl [Reg]
      · iexists _
        iexact Reg
      iexists ∅
      iexact Owed)
    (QY := fun c s => ∀ b ∈ Pipeline.ucRefs τ sig, s.mem (((c : Thread nD τ)).1, b) = W3 m ρ c b)
    (hfin := fun c s' => by
      iintro ⟨⟨Held, -⟩, Inv⟩
      unfold StableHlo.held
      imodintro
      iapply (pointsTo_read_all (Pipeline.ucRefs τ sig) (fun b => (((c : Thread nD τ)).1, b)) (W3 m ρ c) s')
      isplitl [Held] <;> iassumption)
    (hQ := fun _ h _ => h)

/-- Kernel and reference leave the same four arrays. -/
theorem algebraic : Cert.algebraic_Kernel30Ideal_Reference30Ideal := by
  intro m ρ m' ρ' _ hag
  refine ⟨fun c => bothGrads (G0 (V0 m ρ) c) (G1 (V0 m ρ) c),
    fun c => bothChanges (W (V0 m ρ) c) (M (V0 m ρ) c) (V' (V0 m ρ) c) (G0 (V0 m ρ) c) (G1 (V0 m ρ) c),
    fun c => bothMeans (M (V0 m ρ) c) (G0 (V0 m ρ) c) (G1 (V0 m ρ) c), fun c => bothSquares (V' (V0 m ρ) c) (G0 (V0 m ρ) c) (G1 (V0 m ρ) c),
    (θ_run defs _ _).mono (fun _ h c => ⟨(h c _ (mem_uc main_v1_0 (by decide))).trans (final0 m ρ c), (h c _ (mem_uc main_v1_1 (by decide))).trans (final1 m ρ c),
      (h c _ (mem_uc main_v1_2 (by decide))).trans (final2 m ρ c), (h c _ (mem_uc main_v1_3 (by decide))).trans (final3 m ρ c),
      (h c _ (mem_uc main_arg0 (by decide))).trans (W3_main_arg0 m ρ c), (h c _ (mem_uc main_arg1 (by decide))).trans (W3_main_arg1 m ρ c),
      (h c _ (mem_uc main_arg2 (by decide))).trans (W3_main_arg2 m ρ c), (h c _ (mem_uc main_arg3 (by decide))).trans (W3_main_arg3 m ρ c),
      (h c _ (mem_uc main_arg4 (by decide))).trans (W3_main_arg4 m ρ c)⟩) (run m ρ),
    (θ_run Cert.Reference30Ideal.defs _ _).mono (fun _ h c => ⟨(h c).1.trans ?_, (h c).2.1.trans ?_, (h c).2.2.1.trans ?_, (h c).2.2.2.1.trans ?_, (h c).2.2.2.2⟩)
      (Cert.Reference30Ideal.Value.run (F := Ideal) m' ρ')⟩ <;> obtain ⟨hw, h0, h1, hm, hv⟩ := hag c
  · rw [h0, h1]; exact stack_grads _ _ _ _
  · rw [hw, h0, h1, hm, hv]; exact stack_changes _ _ _ _ _ _ _ _
  · rw [h0, h1, hm]; exact stack_means _ _ _ _ _ _
  · rw [h0, h1, hv]; exact stack_squares _ _ _ _ _ _

/-- The reference leaves its arguments. -/
theorem frameR : Cert.quiescent_Reference30Ideal := fun m ρ _ =>
  (θ_run Cert.Reference30Ideal.defs _ _).mono (fun r h => ⟨fun c => (h c).2.2.2.2, sem_eq_zero_of_no_sems (by decide) r.2⟩) (Cert.Reference30Ideal.Value.run (F := Ideal) m ρ)

end Cert.AdamUp

end
-- ==== Proof.AdamDown.lean ====
/-
  The optimiser's step on the down projection's weights of both layers: one call for each layer, the second over the first's results.
-/
module

public import proofs.«01_k».proof.Defs
public import proofs.«01_k».proof.Proof.AdamPair
public import proofs.«01_k».proof.Proof.Gen.Kernel31Ideal.Frame
public import proofs.«01_k».proof.Proof.Gen.Reference31Ideal.Run
public import Idealize.ShloMosaic.Lib.Pipeline.ReadBack
public import Idealize.ShloMosaic.Lib.Pipeline.ValueKit

@[expose] public section

set_option maxRecDepth 16384

noncomputable section

namespace Cert.AdamDown

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel31Ideal Cert.Kernel31Ideal.Gen Cert.Conv Cert.Adam

/-! ## One call, over any contents of the arrays -/

section Calls
variable (V : (c : Dev nD) → (b : Ref sig .tc) → Buf (Elt Ideal) ((c : Thread nD τ).loc b)) (c : Dev nD)

abbrev W : S2x1408x2048.Idx → EReal := V c main_arg0
abbrev G0 : S1408x2048.Idx → EReal := V c main_arg1
abbrev G1 : S1408x2048.Idx → EReal := V c main_arg2
abbrev M : S2x1408x2048.Idx → EReal := V c main_arg3
abbrev V' : S2x1408x2048.Idx → EReal := V c main_arg4

section First
variable (t : Fin grid0.N)

theorem ix0 : ∀ t : Fin grid0.N, win0_0.index t = ![1, t.val, 0] := by decide +kernel
theorem ix1 : ∀ t : Fin grid0.N, win0_1.index t = ![t.val, 0] := by decide +kernel
theorem ix2' : ∀ t : Fin grid0.N, win0_2.index t = ![1, t.val, 0] := by decide +kernel
theorem ix3' : ∀ t : Fin grid0.N, win0_3.index t = ![1, t.val, 0] := by decide +kernel
theorem ix4 : ∀ t : Fin grid0.N, win0_4.index t = ![1, t.val, 0] := by decide +kernel
theorem ix5 : ∀ t : Fin grid0.N, win0_5.index t = ![1, t.val, 0] := by decide +kernel
theorem ix6 : ∀ t : Fin grid0.N, win0_6.index t = ![1, t.val, 0] := by decide +kernel
theorem ix7 : ∀ t : Fin grid0.N, win0_7.index t = ![1, t.val, 0] := by decide +kernel

variable (a : Fin 1) (r : Fin 176) (l : Fin 2048)

theorem row0 : t.val * 176 + r.val < 1408 := by
  have := lt_of_lt_of_eq t.isLt N_0
  omega

theorem first0 : (iblk0 V c 0 t : S1x176x2048.Idx → EReal) (ix3 a r l) = atL (W V c) 1 (t.val * 176 + r.val) l.val := by
  rw [← atL_of (W V c) 1 ⟨_, row0 t r⟩ l (k' := 1) rfl rfl rfl]
  blk_ext [iblk0, ix0 t]

theorem first1 : (iblk0 V c 1 t : S176x2048.Idx → EReal) (ix2 r l) = pick (G0 V c) (G1 V c) 1 (t.val * 176 + r.val) l.val := by
  rw [pick, if_neg one_ne_zero, ← at2_of (G1 V c) ⟨_, row0 t r⟩ l rfl rfl]
  blk_ext [iblk0, ix1 t]

theorem first2 : (iblk0 V c 2 t : S1x176x2048.Idx → EReal) (ix3 a r l) = atL (M V c) 1 (t.val * 176 + r.val) l.val := by
  rw [← atL_of (M V c) 1 ⟨_, row0 t r⟩ l (k' := 1) rfl rfl rfl]
  blk_ext [iblk0, ix2' t]

theorem first3 : (iblk0 V c 3 t : S1x176x2048.Idx → EReal) (ix3 a r l) = atL (V' V c) 1 (t.val * 176 + r.val) l.val := by
  rw [← atL_of (V' V c) 1 ⟨_, row0 t r⟩ l (k' := 1) rfl rfl rfl]
  blk_ext [iblk0, ix3' t]

/-- The first call fills the second layer. -/
theorem first4 (y : S2x1408x2048.Idx) (hy : (y 0).val = 1) : (dat0 V c).arrAt 4 cfg0.N y = bothGrads (G0 V c) (G1 V c) y := by
  refine ((dat0 V c).arrAt_apply_of_coversWhere 4 (bothGrads (G0 V c) (G1 V c)) (P := fun i : S2x1408x2048.Idx => (i 0).val / 1 = 1)
    (fun β => β (0 : Fin 3) = 1) (by decide +kernel) (fun t hf y => ?_) (fun j => Iff.rfl) y).trans (if_pos (by rw [Nat.div_one]; exact hy))
  unfold bothGrads
  blk_simp
  rw [after0_4, ix4]
  idx_vars y
  frame_out
  refine (congrFun (tile_grads (iblk0 V c 1 t) _) _).trans ?_
  rw [grads_ix, first1]
  blk_simp

theorem first5 (y : S2x1408x2048.Idx) (hy : (y 0).val = 1) : (dat0 V c).arrAt 5 cfg0.N y = bothChanges (W V c) (M V c) (V' V c) (G0 V c) (G1 V c) y := by
  refine ((dat0 V c).arrAt_apply_of_coversWhere 5 (bothChanges (W V c) (M V c) (V' V c) (G0 V c) (G1 V c)) (P := fun i : S2x1408x2048.Idx => (i 0).val / 1 = 1)
    (fun β => β (0 : Fin 3) = 1) (by decide +kernel) (fun t hf y => ?_) (fun j => Iff.rfl) y).trans (if_pos (by rw [Nat.div_one]; exact hy))
  unfold bothChanges
  blk_simp
  rw [after0_5, ix5]
  idx_vars y
  frame_out
  refine (congrFun (tile_changes _ _ _ _ _ _) _).trans ?_
  rw [changes_ix, first0, first1, first2, first3]
  blk_simp

theorem first6 (y : S2x1408x2048.Idx) (hy : (y 0).val = 1) : (dat0 V c).arrAt 6 cfg0.N y = bothMeans (M V c) (G0 V c) (G1 V c) y := by
  refine ((dat0 V c).arrAt_apply_of_coversWhere 6 (bothMeans (M V c) (G0 V c) (G1 V c)) (P := fun i : S2x1408x2048.Idx => (i 0).val / 1 = 1)
    (fun β => β (0 : Fin 3) = 1) (by decide +kernel) (fun t hf y => ?_) (fun j => Iff.rfl) y).trans (if_pos (by rw [Nat.div_one]; exact hy))
  unfold bothMeans
  blk_simp
  rw [after0_6, ix6]
  idx_vars y
  frame_out
  refine (congrFun (tile_means _ _ _ _) _).trans ?_
  rw [means_ix, first1, first2]
  blk_simp

theorem first7 (y : S2x1408x2048.Idx) (hy : (y 0).val = 1) : (dat0 V c).arrAt 7 cfg0.N y = bothSquares (V' V c) (G0 V c) (G1 V c) y := by
  refine ((dat0 V c).arrAt_apply_of_coversWhere 7 (bothSquares (V' V c) (G0 V c) (G1 V c)) (P := fun i : S2x1408x2048.Idx => (i 0).val / 1 = 1)
    (fun β => β (0 : Fin 3) = 1) (by decide +kernel) (fun t hf y => ?_) (fun j => Iff.rfl) y).trans (if_pos (by rw [Nat.div_one]; exact hy))
  unfold bothSquares
  blk_simp
  rw [after0_7, ix7]
  idx_vars y
  frame_out
  refine (congrFun (tile_squares _ _ _ _) _).trans ?_
  rw [squares_ix, first1, first3]
  blk_simp

end First

section Second
variable (t : Fin grid1.N)

theorem iy0 : ∀ t : Fin grid1.N, win1_0.index t = ![0, t.val, 0] := by decide +kernel
theorem iy1 : ∀ t : Fin grid1.N, win1_1.index t = ![t.val, 0] := by decide +kernel
theorem iy2 : ∀ t : Fin grid1.N, win1_2.index t = ![0, t.val, 0] := by decide +kernel
theorem iy3 : ∀ t : Fin grid1.N, win1_3.index t = ![0, t.val, 0] := by decide +kernel
theorem iy4 : ∀ t : Fin grid1.N, win1_4.index t = ![0, t.val, 0] := by decide +kernel
theorem iy5 : ∀ t : Fin grid1.N, win1_5.index t = ![0, t.val, 0] := by decide +kernel
theorem iy6 : ∀ t : Fin grid1.N, win1_6.index t = ![0, t.val, 0] := by decide +kernel
theorem iy7 : ∀ t : Fin grid1.N, win1_7.index t = ![0, t.val, 0] := by decide +kernel

variable (a : Fin 1) (r : Fin 176) (l : Fin 2048)

theorem row1 : t.val * 176 + r.val < 1408 := by
  have := lt_of_lt_of_eq t.isLt N_1
  omega

theorem second0 : (iblk1 V c 0 t : S1x176x2048.Idx → EReal) (ix3 a r l) = atL (W V c) 0 (t.val * 176 + r.val) l.val := by
  rw [← atL_of (W V c) 0 ⟨_, row1 t r⟩ l (k' := 0) rfl rfl rfl]
  blk_ext [iblk1, iy0 t]

theorem second1 : (iblk1 V c 1 t : S176x2048.Idx → EReal) (ix2 r l) = pick (G0 V c) (G1 V c) 0 (t.val * 176 + r.val) l.val := by
  rw [pick, if_pos rfl, ← at2_of (G0 V c) ⟨_, row1 t r⟩ l rfl rfl]
  blk_ext [iblk1, iy1 t]

theorem second2 : (iblk1 V c 2 t : S1x176x2048.Idx → EReal) (ix3 a r l) = atL (M V c) 0 (t.val * 176 + r.val) l.val := by
  rw [← atL_of (M V c) 0 ⟨_, row1 t r⟩ l (k' := 0) rfl rfl rfl]
  blk_ext [iblk1, iy2 t]

theorem second3 : (iblk1 V c 3 t : S1x176x2048.Idx → EReal) (ix3 a r l) = atL (V' V c) 0 (t.val * 176 + r.val) l.val := by
  rw [← atL_of (V' V c) 0 ⟨_, row1 t r⟩ l (k' := 0) rfl rfl rfl]
  blk_ext [iblk1, iy3 t]

/-- A position outside the first layer is in the second. -/
theorem upper (j : S2x1408x2048.Idx) (hj : ¬(j 0).val / 1 = 0) : (j 0).val = 1 := by
  have : (j 0).val < 2 := (j 0).isLt
  omega

/-- The second call fills the first layer and keeps the second. -/
theorem second4 (h : ∀ y : S2x1408x2048.Idx, (y 0).val = 1 → (V c main_v1_0 : S2x1408x2048.Idx → EReal) y = bothGrads (G0 V c) (G1 V c) y) :
    (dat1 V c).arrAt 4 cfg1.N = bothGrads (G0 V c) (G1 V c) := by
  refine (dat1 V c).arrAt_eq_of_coversWhere_of_agree 4 _ (fun β => β (0 : Fin 3) = 0) (by decide +kernel) (fun t hf y => ?_) (fun j hj => ?_)
  · unfold bothGrads
    blk_simp
    rw [after1_4, iy4]
    unfold outsAt1
    idx_vars y
    frame_out
    refine (congrFun (tile_grads (iblk1 V c 1 t) _) _).trans ?_
    rw [grads_ix, second1]
    blk_simp
  · exact (congrFun (A_eq1 V c 4) _).trans (h _ (upper j hj))

theorem second5 (h : ∀ y : S2x1408x2048.Idx, (y 0).val = 1 → (V c main_v1_1 : S2x1408x2048.Idx → EReal) y = bothChanges (W V c) (M V c) (V' V c) (G0 V c) (G1 V c) y) :
    (dat1 V c).arrAt 5 cfg1.N = bothChanges (W V c) (M V c) (V' V c) (G0 V c) (G1 V c) := by
  refine (dat1 V c).arrAt_eq_of_coversWhere_of_agree 5 _ (fun β => β (0 : Fin 3) = 0) (by decide +kernel) (fun t hf y => ?_) (fun j hj => ?_)
  · unfold bothChanges
    blk_simp
    rw [after1_5, iy5]
    unfold outsAt1
    idx_vars y
    frame_out
    refine (congrFun (tile_changes _ _ _ _ _ _) _).trans ?_
    rw [changes_ix, second0, second1, second2, second3]
    blk_simp
  · exact (congrFun (A_eq1 V c 5) _).trans (h _ (upper j hj))

theorem second6 (h : ∀ y : S2x1408x2048.Idx, (y 0).val = 1 → (V c main_v1_2 : S2x1408x2048.Idx → EReal) y = bothMeans (M V c) (G0 V c) (G1 V c) y) :
    (dat1 V c).arrAt 6 cfg1.N = bothMeans (M V c) (G0 V c) (G1 V c) := by
  refine (dat1 V c).arrAt_eq_of_coversWhere_of_agree 6 _ (fun β => β (0 : Fin 3) = 0) (by decide +kernel) (fun t hf y => ?_) (fun j hj => ?_)
  · unfold bothMeans
    blk_simp
    rw [after1_6, iy6]
    unfold outsAt1
    idx_vars y
    frame_out
    refine (congrFun (tile_means _ _ _ _) _).trans ?_
    rw [means_ix, second1, second2]
    blk_simp
  · exact (congrFun (A_eq1 V c 6) _).trans (h _ (upper j hj))

theorem second7 (h : ∀ y : S2x1408x2048.Idx, (y 0).val = 1 → (V c main_v1_3 : S2x1408x2048.Idx → EReal) y = bothSquares (V' V c) (G0 V c) (G1 V c) y) :
    (dat1 V c).arrAt 7 cfg1.N = bothSquares (V' V c) (G0 V c) (G1 V c) := by
  refine (dat1 V c).arrAt_eq_of_coversWhere_of_agree 7 _ (fun β => β (0 : Fin 3) = 0) (by decide +kernel) (fun t hf y => ?_) (fun j hj => ?_)
  · unfold bothSquares
    blk_simp
    rw [after1_7, iy7]
    unfold outsAt1
    idx_vars y
    frame_out
    refine (congrFun (tile_squares _ _ _ _) _).trans ?_
    rw [squares_ix, second1, second3]
    blk_simp
  · exact (congrFun (A_eq1 V c 7) _).trans (h _ (upper j hj))

end Second

end Calls

/-! ## Both calls -/

variable (m : (ℓ : Loc nD τ sig) → Buf (Elt Ideal) ℓ) (ρ : Dev nD → PrngReg)

/-- The arguments are as they were when the second call starts. -/
theorem kept (c : Dev nD) : W (V2 m ρ) c = W (V0 m ρ) c ∧ G0 (V2 m ρ) c = G0 (V0 m ρ) c ∧ G1 (V2 m ρ) c = G1 (V0 m ρ) c
    ∧ M (V2 m ρ) c = M (V0 m ρ) c ∧ V' (V2 m ρ) c = V' (V0 m ρ) c :=
  ⟨W2_args m ρ c _ (by decide), W2_args m ρ c _ (by decide), W2_args m ρ c _ (by decide), W2_args m ρ c _ (by decide), W2_args m ρ c _ (by decide)⟩

/-- It starts from copies of the first call's results; so both layers are filled in the end. -/
theorem copied0 (c : Dev nD) : V2 m ρ c main_v1_0 = (dat0 (V0 m ρ) c).arrAt 4 cfg0.N := by
  refine Eq.trans ?_ (W1_arr m ρ c 4)
  show StableHlo.after hostOps1 (W1 m ρ c) _ = _
  after_results_simp
  rfl

theorem final0 (c : Dev nD) : W3 m ρ c (Proc.devRef .tc main_v1_0) = bothGrads (G0 (V0 m ρ) c) (G1 (V0 m ρ) c) := by
  obtain ⟨hw, h0, h1, hm, hv⟩ := kept m ρ c
  refine (W3_arr m ρ c 4).trans ?_
  have h := second4 (V2 m ρ) c fun y hy => ?_
  · rw [h]; simp only [hw, h0, h1, hm, hv]
  · simp only [hw, h0, h1, hm, hv]
    exact (congrFun (copied0 m ρ c) y).trans (first4 (V0 m ρ) c y hy)

theorem copied1 (c : Dev nD) : V2 m ρ c main_v1_1 = (dat0 (V0 m ρ) c).arrAt 5 cfg0.N := by
  refine Eq.trans ?_ (W1_arr m ρ c 5)
  show StableHlo.after hostOps1 (W1 m ρ c) _ = _
  after_results_simp
  rfl

theorem final1 (c : Dev nD) : W3 m ρ c (Proc.devRef .tc main_v1_1) = bothChanges (W (V0 m ρ) c) (M (V0 m ρ) c) (V' (V0 m ρ) c) (G0 (V0 m ρ) c) (G1 (V0 m ρ) c) := by
  obtain ⟨hw, h0, h1, hm, hv⟩ := kept m ρ c
  refine (W3_arr m ρ c 5).trans ?_
  have h := second5 (V2 m ρ) c fun y hy => ?_
  · rw [h]; simp only [hw, h0, h1, hm, hv]
  · simp only [hw, h0, h1, hm, hv]
    exact (congrFun (copied1 m ρ c) y).trans (first5 (V0 m ρ) c y hy)

theorem copied2 (c : Dev nD) : V2 m ρ c main_v1_2 = (dat0 (V0 m ρ) c).arrAt 6 cfg0.N := by
  refine Eq.trans ?_ (W1_arr m ρ c 6)
  show StableHlo.after hostOps1 (W1 m ρ c) _ = _
  after_results_simp
  rfl

theorem final2 (c : Dev nD) : W3 m ρ c (Proc.devRef .tc main_v1_2) = bothMeans (M (V0 m ρ) c) (G0 (V0 m ρ) c) (G1 (V0 m ρ) c) := by
  obtain ⟨hw, h0, h1, hm, hv⟩ := kept m ρ c
  refine (W3_arr m ρ c 6).trans ?_
  have h := second6 (V2 m ρ) c fun y hy => ?_
  · rw [h]; simp only [hw, h0, h1, hm, hv]
  · simp only [hw, h0, h1, hm, hv]
    exact (congrFun (copied2 m ρ c) y).trans (first6 (V0 m ρ) c y hy)

theorem copied3 (c : Dev nD) : V2 m ρ c main_v1_3 = (dat0 (V0 m ρ) c).arrAt 7 cfg0.N := by
  refine Eq.trans ?_ (W1_arr m ρ c 7)
  show StableHlo.after hostOps1 (W1 m ρ c) _ = _
  after_results_simp
  rfl

theorem final3 (c : Dev nD) : W3 m ρ c (Proc.devRef .tc main_v1_3) = bothSquares (V' (V0 m ρ) c) (G0 (V0 m ρ) c) (G1 (V0 m ρ) c) := by
  obtain ⟨hw, h0, h1, hm, hv⟩ := kept m ρ c
  refine (W3_arr m ρ c 7).trans ?_
  have h := second7 (V2 m ρ) c fun y hy => ?_
  · rw [h]; simp only [hw, h0, h1, hm, hv]
  · simp only [hw, h0, h1, hm, hv]
    exact (congrFun (copied3 m ρ c) y).trans (first7 (V0 m ρ) c y hy)

set_option backward.isDefEq.respectTransparency.types false in
/-- Both calls run to the end, the results being what the last boundary holds. -/
theorem run : θ_run defs (onTc (τ := τ) (main (F := Ideal))) ⟨m, fun _ => 0, ρ⟩ (fun r => ∀ c : Dev nD,
    ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      · iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Held, -, Owed, -, Reg, -⟩, -⟩
      imodintro
      isplitl [Held]
      · iexact Held
      isplitl [Reg]
      · iexists _
        iexact Reg
      iexists ∅
      iexact Owed)
    (QY := fun c s => ∀ b ∈ Pipeline.ucRefs τ sig, s.mem (((c : Thread nD τ)).1, b) = W3 m ρ c b)
    (hfin := fun c s' => by
      iintro ⟨⟨Held, -⟩, Inv⟩
      unfold StableHlo.held
      imodintro
      iapply (pointsTo_read_all (Pipeline.ucRefs τ sig) (fun b => (((c : Thread nD τ)).1, b)) (W3 m ρ c) s')
      isplitl [Held] <;> iassumption)
    (hQ := fun _ h _ => h)

/-- Kernel and reference leave the same four arrays. -/
theorem algebraic : Cert.algebraic_Kernel31Ideal_Reference31Ideal := by
  intro m ρ m' ρ' _ hag
  refine ⟨fun c => bothGrads (G0 (V0 m ρ) c) (G1 (V0 m ρ) c),
    fun c => bothChanges (W (V0 m ρ) c) (M (V0 m ρ) c) (V' (V0 m ρ) c) (G0 (V0 m ρ) c) (G1 (V0 m ρ) c),
    fun c => bothMeans (M (V0 m ρ) c) (G0 (V0 m ρ) c) (G1 (V0 m ρ) c), fun c => bothSquares (V' (V0 m ρ) c) (G0 (V0 m ρ) c) (G1 (V0 m ρ) c),
    (θ_run defs _ _).mono (fun _ h c => ⟨(h c _ (mem_uc main_v1_0 (by decide))).trans (final0 m ρ c), (h c _ (mem_uc main_v1_1 (by decide))).trans (final1 m ρ c),
      (h c _ (mem_uc main_v1_2 (by decide))).trans (final2 m ρ c), (h c _ (mem_uc main_v1_3 (by decide))).trans (final3 m ρ c),
      (h c _ (mem_uc main_arg0 (by decide))).trans (W3_main_arg0 m ρ c), (h c _ (mem_uc main_arg1 (by decide))).trans (W3_main_arg1 m ρ c),
      (h c _ (mem_uc main_arg2 (by decide))).trans (W3_main_arg2 m ρ c), (h c _ (mem_uc main_arg3 (by decide))).trans (W3_main_arg3 m ρ c),
      (h c _ (mem_uc main_arg4 (by decide))).trans (W3_main_arg4 m ρ c)⟩) (run m ρ),
    (θ_run Cert.Reference31Ideal.defs _ _).mono (fun _ h c => ⟨(h c).1.trans ?_, (h c).2.1.trans ?_, (h c).2.2.1.trans ?_, (h c).2.2.2.1.trans ?_, (h c).2.2.2.2⟩)
      (Cert.Reference31Ideal.Value.run (F := Ideal) m' ρ')⟩ <;> obtain ⟨hw, h0, h1, hm, hv⟩ := hag c
  · rw [h0, h1]; exact stack_grads _ _ _ _
  · rw [hw, h0, h1, hm, hv]; exact stack_changes _ _ _ _ _ _ _ _
  · rw [h0, h1, hm]; exact stack_means _ _ _ _ _ _
  · rw [h0, h1, hv]; exact stack_squares _ _ _ _ _ _

/-- The reference leaves its arguments. -/
theorem frameR : Cert.quiescent_Reference31Ideal := fun m ρ _ =>
  (θ_run Cert.Reference31Ideal.defs _ _).mono (fun r h => ⟨fun c => (h c).2.2.2.2, sem_eq_zero_of_no_sems (by decide) r.2⟩) (Cert.Reference31Ideal.Value.run (F := Ideal) m ρ)

end Cert.AdamDown

end
-- ==== Proof.NormLaw.lean ====
/-
  The gradient of a row's normalisation, in two forms: as the chain rule gives it, and with the mean of the products taken
  over the normalised row. They are equal at all values, the infinite ones included.
-/
module

public import proofs.«01_k».proof.Proof.ConvSpec
public import Idealize.ShloMosaic.Lib.Pipeline.ValueKit
public import Idealize.ShloMosaic.PureOps.Ideal.Laws

@[expose] public section

noncomputable section

namespace Cert.NormLaw

open Idealize.ShloMosaic

/-- The mean of a row's squares and a small constant. -/
def spread (x : ℕ → EReal) : EReal := Ideal.div (∑ k : Fin 2048, x k.val * x k.val) (Ideal.ofBits .f32 0x45000000#32) + Ideal.ofBits .f32 0x3727C5AC#32

/-- The factor of the row. -/
def scale (x : ℕ → EReal) : EReal := Ideal.rsqrt (spread x)

/-- What the factor's gradient gives back to the row. -/
def pull (x a : ℕ → EReal) : EReal :=
  Ideal.div ((∑ k : Fin 2048, x k.val * a k.val) * (Ideal.ofBits .f32 0xBF000000#32 * Ideal.div (scale x) (spread x))) (Ideal.ofBits .f32 0x45000000#32)

/-- The gradient by the chain rule. -/
def grad (x a : ℕ → EReal) (j : ℕ) : EReal := (a j * scale x + x j * pull x a) + pull x a * x j

/-- The gradient over the normalised row. -/
def gradN (x a : ℕ → EReal) (j : ℕ) : EReal :=
  scale x * (a j - (x j * scale x) * Ideal.div (∑ k : Fin 2048, a k.val * (x k.val * scale x)) (Ideal.ofBits .f32 0x45000000#32))

theorem count : Ideal.ofBits .f32 0x45000000#32 = ((2048 : ℝ) : EReal) := by
  simp [Ideal.ofBits, Ideal.ieee, -EReal.coe_mul]; norm_num

theorem minusHalf : Ideal.ofBits .f32 0xBF000000#32 = ((-(1 / 2) : ℝ) : EReal) := by
  simp [Ideal.ofBits, Ideal.ieee, -EReal.coe_mul]; norm_num

theorem small : ∃ e : ℝ, 0 < e ∧ Ideal.ofBits .f32 0x3727C5AC#32 = (e : EReal) := by
  refine ⟨_, ?_, by simp [Ideal.ofBits, Ideal.ieee, -EReal.coe_mul]; norm_num; rfl⟩
  norm_num

theorem sq_nonneg (u : EReal) : 0 ≤ u * u := by
  rcases le_total 0 u with h | h
  · exact mul_nonneg h h
  · rw [← neg_mul_neg]
    exact mul_nonneg (EReal.neg_nonneg.mpr h) (EReal.neg_nonneg.mpr h)

theorem mean_nonneg (x : ℕ → EReal) : 0 ≤ Ideal.div (∑ k : Fin 2048, x k.val * x k.val) (Ideal.ofBits .f32 0x45000000#32) := by
  rw [count, Ideal.div_coe (by norm_num)]
  exact mul_nonneg (Finset.sum_nonneg fun k _ => sq_nonneg _) (by exact_mod_cast (by norm_num : (0 : ℝ) ≤ 1 / 2048))

/-- A row of finite spread is real. -/
theorem real_of (x : ℕ → EReal) (h : spread x ≠ ⊤) : ∀ k : Fin 2048, ∃ ξ : ℝ, x k.val = (ξ : EReal) := by
  intro k
  by_contra hk
  have hx : x k.val * x k.val = ⊤ := by
    induction hv : x k.val using EReal.rec with
    | bot => rfl
    | top => rfl
    | coe r => exact absurd ⟨r, hv⟩ hk
  have hs : ∑ k : Fin 2048, x k.val * x k.val = ⊤ := by
    refine top_le_iff.mp (hx ▸ Finset.single_le_sum (f := fun k : Fin 2048 => x k.val * x k.val) (fun k _ => sq_nonneg _) (Finset.mem_univ k))
  refine h ?_
  obtain ⟨e, _, he⟩ := small
  rw [spread, hs, count, Ideal.div_coe (by norm_num), he, EReal.top_mul_coe_of_pos (by norm_num), EReal.top_add_coe]

theorem spread_pos (x : ℕ → EReal) : 0 < spread x := by
  obtain ⟨e, he, h⟩ := small
  rw [spread, h]
  exact lt_of_lt_of_le (by exact_mod_cast he) (le_add_of_nonneg_left (mean_nonneg x))

/-- A nonnegative real factor of a sum. -/
theorem sum_mul_real {n : ℕ} (s : ℝ) (hs : 0 ≤ s) (f : Fin n → EReal) : ∑ k, f k * (s : EReal) = (∑ k, f k) * (s : EReal) := by
  induction (Finset.univ : Finset (Fin n)) using Finset.induction_on with
  | empty => simp
  | insert k S hk ih =>
    rw [Finset.sum_insert hk, Finset.sum_insert hk, ih, EReal.right_distrib_of_nonneg_of_ne_top (by exact_mod_cast hs) (EReal.coe_ne_top s)]

/-- Both forms are equal. -/
theorem grad_eq (x a : ℕ → EReal) (j : Fin 2048) : grad x a j.val = gradN x a j.val := by
  by_cases ht : spread x = ⊤
  · have h0 : scale x = 0 := by rw [scale, ht]; rfl
    have hp : pull x a = 0 := by
      have hd : Ideal.div 0 ⊤ = 0 := by rw [Ideal.div, if_neg EReal.top_ne_zero, zero_mul]
      rw [pull, h0, ht, hd, mul_zero, mul_zero, count, Ideal.div_coe (by norm_num), zero_mul]
    rw [grad, gradN, h0, hp]
    simp
  · obtain ⟨ρ, hρ⟩ : ∃ ρ : ℝ, spread x = (ρ : EReal) := ⟨(spread x).toReal, (EReal.coe_toReal ht (ne_bot_of_gt (spread_pos x))).symm⟩
    have hpos : 0 < ρ := by have := spread_pos x; rw [hρ] at this; exact_mod_cast this
    have hne := hpos.ne'
    choose ξ hξ using real_of x ht
    have hs0 : 0 < (Real.sqrt ρ)⁻¹ := inv_pos.mpr (Real.sqrt_pos.mpr hpos)
    have hs2 : ρ⁻¹ = (Real.sqrt ρ)⁻¹ * (Real.sqrt ρ)⁻¹ := by
      rw [← mul_inv, Real.mul_self_sqrt hpos.le]
    have hscale : scale x = (((Real.sqrt ρ)⁻¹ : ℝ) : EReal) := by
      rw [scale, hρ, Ideal.rsqrt_coe, if_neg (not_lt.mpr hpos.le), if_neg hne]
    generalize (Real.sqrt ρ)⁻¹ = s at hs0 hs2 hscale
    have hpull : pull x a = (∑ k : Fin 2048, x k.val * a k.val) * ((-(1 / 2) * (s * (s * s)) * (1 / 2048) : ℝ) : EReal) := by
      rw [pull, hscale, hρ, Ideal.div_coe hne, count, Ideal.div_coe (by norm_num), minusHalf, ← EReal.coe_mul, ← EReal.coe_mul, mul_assoc, ← EReal.coe_mul,
        one_div ρ, hs2]
    have hsum : ∑ k : Fin 2048, a k.val * (x k.val * (s : EReal)) = (∑ k : Fin 2048, x k.val * a k.val) * (s : EReal) := by
      rw [← sum_mul_real s hs0.le]
      exact Finset.sum_congr rfl fun k _ => by rw [← mul_assoc, mul_comm (a k.val)]
    rw [grad, gradN, hpull, hscale, hsum, hξ j, count, Ideal.div_coe (by norm_num), sub_eq_add_neg,
      EReal.left_distrib_of_nonneg_of_ne_top (by exact_mod_cast hs0.le) (EReal.coe_ne_top s)]
    generalize ∑ k : Fin 2048, x k.val * a k.val = S
    have e1 : ((ξ j : ℝ) : EReal) * (S * ((-(1 / 2) * (s * (s * s)) * (1 / 2048) : ℝ) : EReal)) = S * ((ξ j * (-(1 / 2) * (s * (s * s)) * (1 / 2048)) : ℝ) : EReal) := by
      rw [mul_left_comm, ← EReal.coe_mul]
    have e2 : (s : EReal) * -((ξ j : EReal) * (s : EReal) * (S * (s : EReal) * ((1 / 2048 : ℝ) : EReal))) = S * ((-(s * (ξ j * s * (s * (1 / 2048)))) : ℝ) : EReal) := by
      rw [mul_neg, mul_assoc S, mul_left_comm _ S, mul_left_comm _ S, EReal.coe_neg, mul_neg]
      simp only [EReal.coe_mul]
    rw [mul_comm (S * _) ((ξ j : ℝ) : EReal), e1, e2, mul_comm (a j.val), add_assoc]
    congr 1
    have e3 (p : EReal) : p + p = p * ((2 : ℝ) : EReal) := by
      have := EReal.left_distrib_of_nonneg (a := 1) (b := 1) (c := p) zero_le_one zero_le_one
      rw [mul_one] at this
      rw [← this]
      congr 1
      norm_num
      rfl
    rw [e3, mul_assoc, ← EReal.coe_mul]
    congr 2
    ring

end Cert.NormLaw

end
-- ==== Proof.TopRow.lean ====
/-
  An accumulator of eight rows of which only the first is added to.
-/
module

public import proofs.«01_k».proof.Proof.ConvKernel

@[expose] public section

set_option maxRecDepth 16384

noncomputable section

namespace Cert.TopRow

open Idealize.ShloMosaic Idealize.ShloMosaic.TcCoe Idealize.SL.Sem
open Cert.Conv

abbrev S8 : Shape := ⟨2, ![8, 2048]⟩
abbrev S1 : Shape := ⟨2, ![1, 2048]⟩

theorem top_inb : ∀ a : Fin 2, (![0, 0] : Fin 2 → ℕ) a + (![1, 2048] : Fin 2 → ℕ) a ≤ (![8, 2048] : Fin 2 → ℕ) a := by decide
theorem full_inb : ∀ a : Fin 2, (![0, 0] : Fin 2 → ℕ) a + (![8, 2048] : Fin 2 → ℕ) a ≤ (![8, 2048] : Fin 2 → ℕ) a := by decide

/-- `P` with its first row replaced by `v`. -/
def over (P : Vec Ideal S8 .f32) (v : Vec Ideal S1 .f32) : Vec Ideal S8 .f32 := fun y => if (y 0).val = 0 then v (ix2 0 (y 1)) else P y

/-- The store of the first row. -/
abbrev top (v : Vec Ideal S1 .f32) : View.Piece (Elt Ideal) S8 .f32 := ⟨Rect.unit ![0, 0] ![1, 2048] top_inb, v⟩
/-- The store of all rows. -/
abbrev full (P : Vec Ideal S8 .f32) : View.Piece (Elt Ideal) S8 .f32 := ⟨Rect.unit ![0, 0] ![8, 2048] full_inb, P⟩

variable (P : Vec Ideal S8 .f32) (v : Vec Ideal S1 .f32) (y : S8.Idx)

theorem top_of : View.PiecesOf (over P v) [top v] :=
  ⟨Kernel.unit_piece (s := S8) (e := .f32) (over P v) ![0, 0] ![1, 2048] top_inb _ fun (x : S1.Idx) y hy => by
    have h0 : (x 0).val < 1 := (x 0).isLt
    have h1 : (y 0).val = 0 + (x 0).val := hy 0
    have h2 : (y 1).val = 0 + (x 1).val := hy 1
    unfold over
    rw [if_pos (by omega)]
    refine congrArg v (funext fun a => Fin.ext ?_)
    fin_cases a
    · show (x 0).val = 0
      omega
    · show (x 1).val = (y 1).val
      omega, trivial⟩

theorem top_cover (h : (y 0).val = 0) : ∃ p ∈ [top v], y ∈ p.1.set := by
  have h1 : (y 1).val < 2048 := (y 1).isLt
  simp only [List.mem_singleton, exists_eq_left, Rect.mem_set_unit, Fin.forall_fin_two]
  simp only [Matrix.cons_val_zero, Matrix.cons_val_one, Matrix.cons_val_fin_one]
  omega

theorem over_off (h : ¬(y 0).val = 0) : over P v y = P y := if_neg h

/-- A store of the first row over a store of all rows. -/
theorem first : View.canon [top v, full P] y = over P v y := by
  change View.canon ([top v] ++ [full P]) y = _
  by_cases hy : ∃ p ∈ [top v], y ∈ p.1.set
  · exact View.canon_append_of_piecesOf (over P v) _ [top v] (top_of P v) y hy
  · rw [Kernel.canon_under _ _ _ fun p hp hm => hy ⟨p, hp, hm⟩, over_off P v y fun h => hy (top_cover v y h)]
    exact congrFun (Kernel.canon_full P) y

/-- A store of the first row over what a buffer holds. -/
theorem next {sig : RefSig} {κ : Kind} {σ : Space} (M : Memref sig κ σ S8 .f32) (hM : M.IsWhole) :
    M.view.read (Elt Ideal) (M.view.writes (Elt Ideal) (hM.unread P) [top v]) y = over P v y := by
  by_cases hy : ∃ p ∈ [top v], y ∈ p.1.set
  · exact View.read_writes_apply_of_pieces _ _ _ [top v] (top_of P v).mem y hy
  · refine (View.read_writes_apply_of_forall_not_mem _ _ y [top v] fun p hp hm => hy ⟨p, hp, hm⟩).trans ?_
    rw [over_off P v y fun h => hy (top_cover v y h)]
    exact congrFun (hM.read_unread P) y

/-- The first row read back. -/
theorem ld_top (j : Fin 2048) : (View.ld P (Rect.unit ![0, 0] ![1, 2048] top_inb) : S1.Idx → EReal) (ix2 0 j) = P (ix2 0 j) :=
  View.ld_unit_apply_of P _ _ _ _ _ fun a => by fin_cases a <;> simp

end Cert.TopRow

end
-- ==== Proof.NormGrad.lean ====
/-
  The gradient of the row normalisation: of the rows, added to another gradient of theirs, and of the gains, accumulated
  over the grid points in the first of eight rows.
-/
module

public import proofs.«01_k».proof.Defs
public import proofs.«01_k».proof.Proof.NormLaw
public import proofs.«01_k».proof.Proof.TopRow
public import proofs.«01_k».proof.Proof.Gen.Kernel32Ideal.Value
public import proofs.«01_k».proof.Proof.Gen.Reference32Ideal.Read
public import Idealize.ShloMosaic.Lib.Pipeline.ReadBack

@[expose] public section

set_option maxRecDepth 16384

noncomputable section

namespace Cert.NormGrad

open Idealize.ShloMosaic Idealize.ShloMosaic.TcCoe Idealize.SL.Sem
open Cert.Kernel32Ideal Cert.Kernel32Ideal.Gen Cert.Conv Cert.NormLaw Cert.TopRow
open Idealize.ShloMosaic.Pipeline (Dat)

/-- The gradient of the rows and the other gradient. -/
def res (h x : S8192x2048.Idx → EReal) (g : S1x2048.Idx → EReal) (d : S8192x2048.Idx → EReal) : S8192x2048.Idx → EReal :=
  fun y => at2 d (y 0).val (y 1).val + grad (fun k => at2 x (y 0).val k) (fun k => at2 h (y 0).val k * at2 g 0 k) (y 1).val

/-- The gradient of the gains, in the first row. -/
def resG (h x : S8192x2048.Idx → EReal) : S8x2048.Idx → EReal :=
  fun y => if (y 0).val = 0 then ∑ i : Fin 8192, at2 h i.val (y 1).val * (at2 x i.val (y 1).val * scale fun k => at2 x i.val k) else 0

open Cert.Reference32Ideal.Read in
theorem ref_spread (x : S8192x2048.Idx → EReal) (r : Fin 8192) (z : Fin 1) : val_main_v7 (F := Ideal) x (ix2 r z) = spread fun k => at2 x r.val k := by
  pointwise [val_main_v7, val_main_v6, val_main_v5, val_main_v4, val_main_v3, val_main_v2, val_main_v1, val_main_cst, val_main_cst_0, val_main_cst_1]
  unfold spread
  simp only [at2_of x]

open Cert.Reference32Ideal.Read in
theorem ref (h x : S8192x2048.Idx → EReal) (g : S1x2048.Idx → EReal) (d : S8192x2048.Idx → EReal) :
    val_main_v38 (F := Ideal) h x g d = res h x g d := by
  funext y
  idx_vars y
  pointwise [val_main_v38, val_main_v37, val_main_v36, val_main_v35, val_main_v34, val_main_v33, val_main_v32, val_main_v31, val_main_v30, val_main_v29,
    val_main_v28, val_main_v27, val_main_v26, val_main_v25, val_main_v24, val_main_v22, val_main_v21, val_main_v17, val_main_v14, val_main_v0, val_main_v11,
    val_main_v10, val_main_v9, val_main_v8, ref_spread, val_main_cst_2, val_main_cst_5, val_main_cst_6, val_main_cst_7]
  change _ = at2 d y0.val y1.val + grad (fun k => at2 x y0.val k) (fun k => at2 h y0.val k * at2 g 0 k) y1.val
  simp only [Finset.univ_unique, Finset.sum_singleton, zero_add, at2_ix2]
  rfl

open Cert.Reference32Ideal.Read in
theorem refG (h x : S8192x2048.Idx → EReal) :
    val_main_v41 (F := Ideal) h x = resG h x := by
  funext y
  idx_vars y
  pointwise [val_main_v41, val_main_v40, val_main_v23, val_main_v20, val_main_v19, val_main_v18, val_main_v17, val_main_v13, val_main_v12, val_main_v8, ref_spread,
    val_main_cst_4, val_main_cst_3, val_main_call0_v0]
  by_cases h0 : y0.val = 0
  · refine Eq.trans ?_ (if_pos h0).symm
    rw [dif_pos (by omega)]
    simp only [Finset.univ_unique, Finset.sum_singleton, zero_add]
    exact Finset.sum_congr rfl fun i _ => (mul_comm _ _).trans (congrArg₂ (· * ·) (at2_ix2 h i y1) (congrArg (· * _) (at2_ix2 x i y1)))
  · refine Eq.trans ?_ (if_neg h0).symm
    rw [dif_neg (by omega)]
    show (((0#32 : BitVec 32).toInt : ℝ) : EReal) = 0
    norm_num

variable (m : (ℓ : Loc nD τ sig) → Buf (Elt Ideal) ℓ) (c : Dev nD) (t : Fin grid0.N)

abbrev H : S8192x2048.Idx → EReal := m ((c.tc : Thread nD τ).loc main_arg0)
abbrev X : S8192x2048.Idx → EReal := m ((c.tc : Thread nD τ).loc main_arg1)
abbrev G : S1x2048.Idx → EReal := m ((c.tc : Thread nD τ).loc main_arg2)
abbrev D : S8192x2048.Idx → EReal := m ((c.tc : Thread nD τ).loc main_arg3)

theorem ix0 : ∀ t : Fin grid0.N, win0_0.index t = ![t.val, 0] := by decide +kernel
theorem ix1 : ∀ t : Fin grid0.N, win0_1.index t = ![t.val, 0] := by decide +kernel
theorem ix2' : ∀ t : Fin grid0.N, win0_2.index t = ![0, 0] := by decide +kernel
theorem ix3' : ∀ t : Fin grid0.N, win0_3.index t = ![t.val, 0] := by decide +kernel
theorem ix4 : ∀ t : Fin grid0.N, win0_4.index t = ![t.val, 0] := by decide +kernel
theorem ix5 : ∀ t : Fin grid0.N, win0_5.index t = ![t.val, 0] := by decide +kernel

theorem blk0 (r : Fin 512) (l : Fin 2048) :
    (iblk m c 0 t : S512x2048.Idx → EReal) (ix2 r l) = at2 (H m c) (512 * t.val + r.val) l.val := by
  have := lt_of_lt_of_eq t.isLt N_0
  rw [← at2_of (H m c) ⟨512 * t.val + r.val, by omega⟩ ⟨l.val, by omega⟩ rfl rfl]
  blk_ext [iblk, V, ix0 t]

theorem blk1 (r : Fin 512) (l : Fin 2048) :
    (iblk m c 1 t : S512x2048.Idx → EReal) (ix2 r l) = at2 (X m c) (512 * t.val + r.val) l.val := by
  have := lt_of_lt_of_eq t.isLt N_0
  rw [← at2_of (X m c) ⟨512 * t.val + r.val, by omega⟩ ⟨l.val, by omega⟩ rfl rfl]
  blk_ext [iblk, V, ix1 t]

theorem blk2 (l : Fin 2048) : (iblk m c 2 t : S1x2048.Idx → EReal) (ix2 0 l) = at2 (G m c) 0 l.val := by
  rw [← at2_of (G m c) 0 l (r' := 0) rfl rfl]
  blk_ext [iblk, V, ix2' t]

theorem blk3 (r : Fin 512) (l : Fin 2048) :
    (iblk m c 3 t : S512x2048.Idx → EReal) (ix2 r l) = at2 (D m c) (512 * t.val + r.val) l.val := by
  have := lt_of_lt_of_eq t.isLt N_0
  rw [← at2_of (D m c) ⟨512 * t.val + r.val, by omega⟩ ⟨l.val, by omega⟩ rfl rfl]
  blk_ext [iblk, V, ix3' t]

/-- The factor of a row of one block. -/
theorem factor (i : Fin 512) (z : Fin 1) : (k0_pay2 (F := Ideal) (iblk m c 1 t) : S512x1.Idx → EReal) (ix2 i z)
    = scale fun k => at2 (X m c) (512 * t.val + i.val) k := by
  pointwise [k0_pay2]
  simp only [blk1]
  rfl

theorem hat (i : Fin 512) (j : Fin 2048) : (k0_pay3 (F := Ideal) (iblk m c 1 t) : S512x2048.Idx → EReal) (ix2 i j)
    = at2 (X m c) (512 * t.val + i.val) j.val * scale fun k => at2 (X m c) (512 * t.val + i.val) k := by
  pointwise [k0_pay3]
  rw [blk1, factor]

/-- One grid point's rows. -/
theorem rows (i : Fin 512) (j : Fin 2048) : (k0_pay5 (F := Ideal) (iblk m c 1 t) (iblk m c 0 t) (iblk m c 2 t) (iblk m c 3 t) : S512x2048.Idx → EReal) (ix2 i j)
    = at2 (D m c) (512 * t.val + i.val) j.val + grad (fun k => at2 (X m c) (512 * t.val + i.val) k)
      (fun k => at2 (H m c) (512 * t.val + i.val) k * at2 (G m c) 0 k) j.val := by
  rw [grad_eq]
  pointwise [k0_pay5, k0_pay4]
  simp only [hat, factor, blk0, blk2, blk3]
  rfl

/-- What one grid point computes. -/
theorem out : ((outsAt0 m c t.val t.isLt).1 : S512x2048.Idx → EReal) = k0_pay5 (F := Ideal) (iblk m c 1 t) (iblk m c 0 t) (iblk m c 2 t) (iblk m c 3 t) := by
  by_cases hc : t.val % 16 = 0
  · rw [outsAt0_A m c t hc]
    frame_out
  · rw [outsAt0_B m c t hc]
    frame_out

theorem out1 : ((outsAt0 m c t.val t.isLt).2.1 : S512x2048.Idx → EReal) = k0_pay5 (F := Ideal) (iblk m c 1 t) (iblk m c 0 t) (iblk m c 2 t) (iblk m c 3 t) := by
  by_cases hc : t.val % 16 = 0
  · rw [outsAt0_A m c t hc]
    frame_out
    rfl
  · rw [outsAt0_B m c t hc]
    frame_out
    rfl

/-- The first result after the run. -/
theorem final : (dats m 0 c).arrAt 4 cfg0.N = res (H m c) (X m c) (G m c) (D m c) := by
  unfold res
  refine (dats m 0 c).arrAt_eq_of_covers 4 _ (by decide +kernel) fun t hf y => ?_
  blk_simp
  rw [after0_4, out, ix4]
  obtain ⟨i, j, rfl⟩ : ∃ (i : Fin 512) (j : Fin 2048), y = ix2 i j := ⟨y 0, y 1, (ix2_eta y).symm⟩
  rw [rows]
  show _ = at2 _ (t.val * 512 + i.val) (0 * 2048 + j.val) + grad (fun k => at2 _ (t.val * 512 + i.val) k) (fun k => at2 _ (t.val * 512 + i.val) k * at2 _ 0 k) (0 * 2048 + j.val)
  simp only [Nat.zero_mul, Nat.zero_add, Nat.mul_comm]

/-- The second result after the run. -/
theorem final1 : (dats m 0 c).arrAt 5 cfg0.N = res (H m c) (X m c) (G m c) (D m c) := by
  unfold res
  refine (dats m 0 c).arrAt_eq_of_covers 5 _ (by decide +kernel) fun t hf y => ?_
  blk_simp
  rw [after0_5, out1, ix5]
  obtain ⟨i, j, rfl⟩ : ∃ (i : Fin 512) (j : Fin 2048), y = ix2 i j := ⟨y 0, y 1, (ix2_eta y).symm⟩
  rw [rows]
  show _ = at2 _ (t.val * 512 + i.val) (0 * 2048 + j.val) + grad (fun k => at2 _ (t.val * 512 + i.val) k) (fun k => at2 _ (t.val * 512 + i.val) k * at2 _ 0 k) (0 * 2048 + j.val)
  simp only [Nat.zero_mul, Nat.zero_add, Nat.mul_comm]

/-! ## The gradient of the gains -/

/-- What point `n` adds. -/
def term (n : ℕ) (y : S8x2048.Idx) : EReal :=
  if (y 0).val = 0 then ∑ r : Fin 512, at2 (H m c) (512 * n + r.val) (y 1).val * (at2 (X m c) (512 * n + r.val) (y 1).val * scale fun k => at2 (X m c) (512 * n + r.val) k)
  else 0

/-- The first row with the point's sums added. -/
abbrev sums (P : Vec Ideal S8 .f32) : Vec Ideal S1 .f32 :=
  k0_pay1 (F := Ideal) (k0_pay3 (iblk m c 1 t)) (k0_pay4 (iblk m c 0 t)) (View.ld P (Rect.unit ![0, 0] ![1, 2048] top_inb))

theorem over_sums (P : Vec Ideal S8 .f32) (y : S8.Idx) : over P (sums m c t P) y = P y + term m c t.val y := by
  obtain ⟨i, j, rfl⟩ : ∃ (i : Fin 8) (j : Fin 2048), y = ix2 i j := ⟨y 0, y 1, (ix2_eta y).symm⟩
  by_cases h : i.val = 0
  · obtain rfl : i = 0 := Fin.ext h
    refine Eq.trans ?_ (congrArg (P (ix2 0 j) + ·) (if_pos h).symm)
    show (sums m c t P) (ix2 0 j) = _
    pointwise [k0_pay1, k0_pay4]
    simp only [hat, blk0]
  · exact (if_neg h).trans ((add_zero _).symm.trans (congrArg (P (ix2 i j) + ·) (if_neg h).symm))

theorem point_first (hc : t.val % 16 = 0) (y : S8x2048.Idx) : (outsAt0 m c t.val t.isLt).2.2 y = 0 + term m c t.val y := by
  have hz : k0_pay7 (F := Ideal) y = 0 := by pointwise [k0_pay7]
  refine Eq.trans ?_ (congrArg (· + term m c t.val y) hz)
  rw [← over_sums, outsAt0_A m c t hc]
  frame_open
  simp (disch := decide) only [↓ View.readCov_skip, ↓ View.readCov_cons_toLoadRect, ↓ View.readCov_fill]
  frame_out
  exact first (k0_pay7 (F := Ideal)) _ y

theorem point_next (hc : ¬t.val % 16 = 0) (y : S8x2048.Idx) :
    (outsAt0 m c t.val t.isLt).2.2 y = (outsAt0 m c (t.val - 1) (Nat.lt_of_le_of_lt (Nat.sub_le _ _) t.isLt)).2.2 y + term m c t.val y := by
  rw [← over_sums, outsAt0_B m c t hc]
  frame_out
  exact next _ _ y (ms0_6 t) (hs0_6 t)

theorem sum_rows (f : ℕ → EReal) : ∑ n : Fin 16, ∑ r : Fin 512, f (512 * n.val + r.val) = ∑ r : Fin 8192, f r.val := by
  rw [← Fin.sum_univ_mul_divmod 16 512 fun a b => f (512 * a + b)]
  exact Finset.sum_congr rfl fun r _ => congrArg f (Nat.div_add_mod _ _)

theorem term_sum (j : S8x2048.Idx) : ∑ n : Fin cfg0.N, term m c n.val j = resG (H m c) (X m c) j := by
  unfold term resG
  by_cases h : (j 0).val = 0
  · simp only [if_pos h]
    exact sum_rows fun r => at2 (H m c) r (j 1).val * (at2 (X m c) r (j 1).val * scale fun k => at2 (X m c) r k)
  · simp only [if_neg h, Finset.sum_const_zero]

/-- The last grid point. -/
abbrev last' : Fin cfg0.N := ⟨15, by rw [show cfg0.N = 16 from N_0]; decide⟩

/-- The third result after the run. -/
theorem final2 : (dats m 0 c).arrAt 6 cfg0.N = resG (H m c) (X m c) := by
  refine Dat.arrAt_eq_of_after_last (dats m 0 c) 6 last' (by decide +kernel) _ fun j => ?_
  blk_simp
  rw [after0_6]
  rw [Pipeline.eq_sum_fin_of_reset_step_apply_last (fun n h => (outsAt0 m c n h).2.2) 16 (fun _ => 0) (fun n => term m c n.val)
    (fun t h j => point_first m c t h j) (fun t h j => point_next m c t h j) (le_of_eq N_0) last' rfl, zero_add]
  exact term_sum m c j

/-- Kernel and reference leave the same three arrays. -/
theorem algebraic : Cert.algebraic_Kernel32Ideal_Reference32Ideal := by
  intro m ρ m' ρ' _ hag
  refine ⟨fun c => res (H m c) (X m c) (G m c) (D m c), fun c => res (H m c) (X m c) (G m c) (D m c), fun c => resG (H m c) (X m c),
    (θ_run defs _ _).mono (fun _ h c => ⟨(h c).1.trans (final m c), (h c).2.1.trans (final1 m c), (h c).2.2.1.trans (final2 m c), (h c).2.2.2⟩)
      (Cert.Kernel32Ideal.Value.run_blocks (F := Ideal) m ρ), ?_⟩
  refine (θ_run Cert.Reference32Ideal.defs _ _).mono (fun _ h c => ⟨((h c).1.trans (Cert.Reference32Ideal.Read.val_main_v38_eq _ _)).trans ?_,
      ((h c).2.1.trans (Cert.Reference32Ideal.Read.val_main_v39_eq _ _)).trans ?_, ((h c).2.2.1.trans (Cert.Reference32Ideal.Read.val_main_v41_eq _ _)).trans ?_, (h c).2.2.2⟩)
    (Cert.Reference32Ideal.Value.run (F := Ideal) m' ρ')
  · rw [(hag c).1, (hag c).2.1, (hag c).2.2.1, (hag c).2.2.2]
    exact ref _ _ _ _
  · rw [(hag c).1, (hag c).2.1, (hag c).2.2.1, (hag c).2.2.2]
    exact ref _ _ _ _
  · rw [(hag c).1, (hag c).2.1]
    exact refG _ _

/-- The reference leaves its arguments. -/
theorem frameR : Cert.quiescent_Reference32Ideal := fun m ρ _ =>
  (θ_run Cert.Reference32Ideal.defs _ _).mono (fun r h => ⟨fun c => (h c).2.2.2, sem_eq_zero_of_no_sems (by decide) r.2⟩) (Cert.Reference32Ideal.Value.run (F := Ideal) m ρ)

end Cert.NormGrad

end
-- ==== Proof.Norm.lean ====
/-
  The row normalisation: each row times the reciprocal root of the mean of its squares, times a gain for each column. Each
  grid point computes 1024 rows.
-/
module

public import proofs.«01_k».proof.Defs
public import proofs.«01_k».proof.Proof.NormLaw
public import proofs.«01_k».proof.Proof.Gen.Kernel33Ideal.Value
public import proofs.«01_k».proof.Proof.Gen.Reference33Ideal.Read
public import Idealize.ShloMosaic.Lib.Pipeline.ReadBack

@[expose] public section

set_option maxRecDepth 16384

noncomputable section

namespace Cert.Norm

open Idealize.ShloMosaic Idealize.ShloMosaic.TcCoe Idealize.SL.Sem
open Cert.Kernel33Ideal Cert.Kernel33Ideal.Gen Cert.Conv Cert.NormLaw
open Idealize.ShloMosaic.Pipeline (Dat)

/-- The normalised rows. -/
def res (x : S8192x2048.Idx → EReal) (g : S1x2048.Idx → EReal) : S8192x2048.Idx → EReal :=
  fun y => at2 x (y 0).val (y 1).val * scale (fun k => at2 x (y 0).val k) * at2 g 0 (y 1).val

open Cert.Reference33Ideal.Read in
theorem ref (x : S8192x2048.Idx → EReal) (g : S1x2048.Idx → EReal) : val_main_v14 (F := Ideal) x g = res x g := by
  funext y
  idx_vars y
  pointwise [val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  change _ = at2 x y0.val y1.val * scale (fun k => at2 x y0.val k) * at2 g 0 y1.val
  simp only [at2_ix2]
  rfl

variable (m : (ℓ : Loc nD τ sig) → Buf (Elt Ideal) ℓ) (c : Dev nD) (t : Fin grid0.N)

abbrev X : S8192x2048.Idx → EReal := m ((c.tc : Thread nD τ).loc main_arg0)
abbrev G : S1x2048.Idx → EReal := m ((c.tc : Thread nD τ).loc main_arg1)

theorem ix0 : ∀ t : Fin grid0.N, win0_0.index t = ![t.val, 0] := by decide +kernel
theorem ix1 : ∀ t : Fin grid0.N, win0_1.index t = ![0, 0] := by decide +kernel
theorem ix2' : ∀ t : Fin grid0.N, win0_2.index t = ![t.val, 0] := by decide +kernel

theorem blk0 (r : Fin 1024) (l : Fin 2048) :
    (iblk m c 0 t : S1024x2048.Idx → EReal) (ix2 r l) = at2 (X m c) (1024 * t.val + r.val) l.val := by
  have := lt_of_lt_of_eq t.isLt N_0
  rw [← at2_of (X m c) ⟨1024 * t.val + r.val, by omega⟩ ⟨l.val, by omega⟩ rfl rfl]
  blk_ext [iblk, V, ix0 t]

theorem blk1 (l : Fin 2048) : (iblk m c 1 t : S1x2048.Idx → EReal) (ix2 0 l) = at2 (G m c) 0 l.val := by
  rw [← at2_of (G m c) 0 l (r' := 0) rfl rfl]
  blk_ext [iblk, V, ix1 t]

/-- What one grid point computes. -/
theorem out (i : Fin 1024) (j : Fin 2048) : (out0_2 (F := Ideal) (iblk m c 0 t) (iblk m c 1 t) : S1024x2048.Idx → EReal) (ix2 i j)
    = at2 (X m c) (1024 * t.val + i.val) j.val * scale (fun k => at2 (X m c) (1024 * t.val + i.val) k) * at2 (G m c) 0 j.val := by
  frame_out
  pointwise [k0_pay1]
  simp only [blk0, blk1]
  rfl

/-- The result after the run. -/
theorem final : (dats m 0 c).arrAt 2 cfg0.N = res (X m c) (G m c) := by
  unfold res
  refine (dats m 0 c).arrAt_eq_of_covers 2 _ (by decide +kernel) fun t hf y => ?_
  blk_simp
  rw [after0_2, ix2']
  obtain ⟨i, j, rfl⟩ : ∃ (i : Fin 1024) (j : Fin 2048), y = ix2 i j := ⟨y 0, y 1, (ix2_eta y).symm⟩
  rw [out]
  show _ = at2 _ (t.val * 1024 + i.val) (0 * 2048 + j.val) * scale (fun k => at2 _ (t.val * 1024 + i.val) k) * at2 _ 0 (0 * 2048 + j.val)
  simp only [Nat.zero_mul, Nat.zero_add, Nat.mul_comm]

/-- Kernel and reference leave the same array. -/
theorem algebraic : Cert.algebraic_Kernel33Ideal_Reference33Ideal := by
  intro m ρ m' ρ' _ hag
  refine ⟨fun c => res (X m c) (G m c),
    (θ_run defs _ _).mono (fun _ h c => ⟨(h c).1.trans (final m c), (h c).2⟩) (Cert.Kernel33Ideal.Value.run_blocks (F := Ideal) m ρ), ?_⟩
  refine (θ_run Cert.Reference33Ideal.defs _ _).mono (fun _ h c => ⟨((h c).1.trans (Cert.Reference33Ideal.Read.val_main_v14_eq _ _)).trans ?_, (h c).2⟩)
    (Cert.Reference33Ideal.Value.run (F := Ideal) m' ρ')
  rw [(hag c).1, (hag c).2]
  exact ref _ _

/-- The reference leaves its arguments. -/
theorem frameR : Cert.quiescent_Reference33Ideal := fun m ρ _ =>
  (θ_run Cert.Reference33Ideal.defs _ _).mono (fun r h => ⟨fun c => (h c).2, sem_eq_zero_of_no_sems (by decide) r.2⟩) (Cert.Reference33Ideal.Value.run (F := Ideal) m ρ)

end Cert.Norm

end
-- ==== Proof.Final.lean ====
/-
  The loss head: the normalised rows against the targets. The loss by columns and the gradient of the gains are accumulated
  over the grid points, each in the first of eight rows; the gradient of the rows comes row by row.
-/
module

public import proofs.«01_k».proof.Defs
public import proofs.«01_k».proof.Proof.NormLaw
public import proofs.«01_k».proof.Proof.TopRow
public import proofs.«01_k».proof.Proof.Gen.Kernel34Ideal.Value
public import proofs.«01_k».proof.Proof.Gen.Reference34Ideal.Read
public import Idealize.ShloMosaic.Lib.Pipeline.ReadBack

@[expose] public section

set_option maxRecDepth 16384

noncomputable section

namespace Cert.Final

open Idealize.ShloMosaic Idealize.ShloMosaic.TcCoe Idealize.SL.Sem
open Cert.Kernel34Ideal Cert.Kernel34Ideal.Gen Cert.Conv Cert.NormLaw Cert.TopRow
open Idealize.ShloMosaic.Pipeline (Dat)

section Spec

variable (x tg : S8192x2048.Idx → EReal) (g : S1x2048.Idx → EReal)

/-- A normalised entry before the gain. -/
def hatOf (i j : ℕ) : EReal := at2 x i j * scale fun k => at2 x i k

/-- The error of an entry. -/
def err (i j : ℕ) : EReal := hatOf x i j * at2 g 0 j - at2 tg i j

/-- The gradient of an entry. -/
def dy (i j : ℕ) : EReal := err x tg g i j * Ideal.ofBits .f32 0x3A000000#32

/-- The loss by columns, in the first row. -/
def resL : S8x2048.Idx → EReal :=
  fun y => if (y 0).val = 0 then (∑ i : Fin 8192, err x tg g i.val (y 1).val * err x tg g i.val (y 1).val) * Ideal.ofBits .f32 0x39800000#32 else 0

/-- The gradient of the rows. -/
def res : S8192x2048.Idx → EReal :=
  fun y => grad (fun k => at2 x (y 0).val k) (fun k => dy x tg g (y 0).val k * at2 g 0 k) (y 1).val

/-- The gradient of the gains, in the first row. -/
def resG : S8x2048.Idx → EReal :=
  fun y => if (y 0).val = 0 then ∑ i : Fin 8192, dy x tg g i.val (y 1).val * hatOf x i.val (y 1).val else 0

/-- Twice a half of a 2048th is a 2048th. -/
theorem unit_step (e : EReal) : Ideal.div (Ideal.ofBits .f32 0x3F000000#32) (Ideal.ofBits .f32 0x45000000#32) * (Ideal.ofBits .f32 0x40000000#32 * e)
    = e * Ideal.ofBits .f32 0x3A000000#32 := by
  have h1 : Ideal.ofBits .f32 0x3F000000#32 = ((1 / 2 : ℝ) : EReal) := by simp [Ideal.ofBits, Ideal.ieee, -EReal.coe_mul]; norm_num
  have h3 : Ideal.ofBits .f32 0x40000000#32 = ((2 : ℝ) : EReal) := by simp [Ideal.ofBits, Ideal.ieee, -EReal.coe_mul]; norm_num
  have h4 : Ideal.ofBits .f32 0x3A000000#32 = ((1 / 2048 : ℝ) : EReal) := by simp [Ideal.ofBits, Ideal.ieee, -EReal.coe_mul]; norm_num
  rw [h1, h3, h4, count, Ideal.div_coe (by norm_num), ← mul_assoc, mul_comm _ e, ← EReal.coe_mul, ← EReal.coe_mul]
  norm_num

theorem step : Ideal.ofBits .f32 0x39800000#32 = ((1 / 4096 : ℝ) : EReal) := by
  simp [Ideal.ofBits, Ideal.ieee, -EReal.coe_mul]; norm_num

theorem half_mean (s : EReal) : Ideal.div (Ideal.ofBits .f32 0x3F000000#32 * s) (Ideal.ofBits .f32 0x45000000#32) = s * Ideal.ofBits .f32 0x39800000#32 := by
  have h1 : Ideal.ofBits .f32 0x3F000000#32 = ((1 / 2 : ℝ) : EReal) := by simp [Ideal.ofBits, Ideal.ieee, -EReal.coe_mul]; norm_num
  rw [h1, step, count, Ideal.div_coe (by norm_num), mul_comm _ s, mul_assoc, ← EReal.coe_mul]
  norm_num

theorem zero_word : (((0#32 : BitVec 32).toInt : ℝ) : EReal) = 0 := by norm_num

open Cert.Reference34Ideal.Read

theorem ref_hat (i : Fin 8192) (j : Fin 2048) : val_main_v13 (F := Ideal) x (ix2 i j) = hatOf x i.val j.val := by
  pointwise [val_main_v13, val_main_v12, val_main_v8, val_main_v7, val_main_v6, val_main_v5, val_main_v4, val_main_v3, val_main_v2, val_main_v1, val_main_cst, val_main_cst_0,
    val_main_cst_1]
  simp only [at2_ix2]
  rfl

theorem ref_spread (i : Fin 8192) (z : Fin 1) : val_main_v7 (F := Ideal) x (ix2 i z) = spread fun k => at2 x i.val k := by
  pointwise [val_main_v7, val_main_v6, val_main_v5, val_main_v4, val_main_v3, val_main_v2, val_main_v1, val_main_cst, val_main_cst_0, val_main_cst_1]
  simp only [at2_ix2]
  rfl

theorem ref_err (i : Fin 8192) (j : Fin 2048) : val_main_v17 (F := Ideal) x tg g (ix2 i j) = err x tg g i.val j.val := by
  pointwise [val_main_v17, val_main_v16, val_main_v15, val_main_v14, val_main_v0, ref_hat]
  simp only [at2_ix2]
  rfl

theorem ref_err' (i : Fin 8192) (j : Fin 2048) : val_main_v66 (F := Ideal) x tg g (ix2 i j) = err x tg g i.val j.val := ref_err x tg g i j

theorem ref_dy (i : Fin 8192) (j : Fin 2048) : val_main_v31 (F := Ideal) x tg g (ix2 i j) = dy x tg g i.val j.val := by
  pointwise [val_main_v31, val_main_v30, val_main_v29, val_main_v28, val_main_v27, val_main_v26, val_main_v20, val_main_v19, val_main_cst_3, val_main_cst_8, val_main_cst_9,
    val_main_cst_10, ref_err]
  exact unit_step _

theorem ref : val_main_v51 (F := Ideal) x tg g = res x tg g := by
  funext y
  idx_vars y
  pointwise [val_main_v51, val_main_v50, val_main_v49, val_main_v48, val_main_v47, val_main_v46, val_main_v45, val_main_v44, val_main_v43, val_main_v42, val_main_v41,
    val_main_v40, val_main_v39, val_main_v38, val_main_v36, val_main_v35, val_main_v14, val_main_v0, val_main_v11, val_main_v10, val_main_v9, val_main_v8, val_main_cst_2,
    val_main_cst_13, val_main_cst_14, val_main_cst_15, ref_spread, ref_dy]
  change _ = grad (fun k => at2 x y0.val k) (fun k => dy x tg g y0.val k * at2 g 0 k) y1.val
  simp only [Finset.univ_unique, Finset.sum_singleton, zero_add, at2_ix2]
  rfl

theorem refL : val_main_v74 (F := Ideal) x tg g = resL x tg g := by
  funext y
  idx_vars y
  pointwise [val_main_v74, val_main_v73, val_main_v72, val_main_v71, val_main_v70, val_main_v69, val_main_v68, val_main_v67, val_main_cst_19, val_main_cst_20, val_main_cst_21,
    val_main_call0_v0, ref_err']
  by_cases h0 : y0.val = 0
  · refine Eq.trans ?_ (if_pos h0).symm
    rw [dif_pos (by omega)]
    exact half_mean _
  · refine Eq.trans ?_ (if_neg h0).symm
    rw [dif_neg (by omega)]
    exact zero_word

theorem refG : val_main_v77 (F := Ideal) x tg g = resG x tg g := by
  funext y
  idx_vars y
  pointwise [val_main_v77, val_main_v76, val_main_v37, val_main_v34, val_main_v33, val_main_v32, val_main_cst_11, val_main_cst_12, val_main_call1_v0, ref_hat, ref_dy]
  by_cases h0 : y0.val = 0
  · refine Eq.trans ?_ (if_pos h0).symm
    rw [dif_pos (by omega)]
    simp only [Finset.univ_unique, Finset.sum_singleton, zero_add]
    exact Finset.sum_congr rfl fun i _ => mul_comm _ _
  · refine Eq.trans ?_ (if_neg h0).symm
    rw [dif_neg (by omega)]
    exact zero_word

end Spec

variable (m : (ℓ : Loc nD τ sig) → Buf (Elt Ideal) ℓ) (c : Dev nD) (t : Fin grid0.N)

abbrev X : S8192x2048.Idx → EReal := m ((c.tc : Thread nD τ).loc main_arg0)
abbrev T : S8192x2048.Idx → EReal := m ((c.tc : Thread nD τ).loc main_arg1)
abbrev G : S1x2048.Idx → EReal := m ((c.tc : Thread nD τ).loc main_arg2)

theorem ix0 : ∀ t : Fin grid0.N, win0_0.index t = ![t.val, 0] := by decide +kernel
theorem ix1 : ∀ t : Fin grid0.N, win0_1.index t = ![t.val, 0] := by decide +kernel
theorem ix2' : ∀ t : Fin grid0.N, win0_2.index t = ![0, 0] := by decide +kernel
theorem ix4 : ∀ t : Fin grid0.N, win0_4.index t = ![t.val, 0] := by decide +kernel
theorem ix5 : ∀ t : Fin grid0.N, win0_5.index t = ![t.val, 0] := by decide +kernel

theorem blk0 (r : Fin 512) (l : Fin 2048) :
    (iblk m c 0 t : S512x2048.Idx → EReal) (ix2 r l) = at2 (X m c) (512 * t.val + r.val) l.val := by
  have := lt_of_lt_of_eq t.isLt N_0
  rw [← at2_of (X m c) ⟨512 * t.val + r.val, by omega⟩ ⟨l.val, by omega⟩ rfl rfl]
  blk_ext [iblk, V, ix0 t]

theorem blk1 (r : Fin 512) (l : Fin 2048) :
    (iblk m c 1 t : S512x2048.Idx → EReal) (ix2 r l) = at2 (T m c) (512 * t.val + r.val) l.val := by
  have := lt_of_lt_of_eq t.isLt N_0
  rw [← at2_of (T m c) ⟨512 * t.val + r.val, by omega⟩ ⟨l.val, by omega⟩ rfl rfl]
  blk_ext [iblk, V, ix1 t]

theorem blk2 (l : Fin 2048) : (iblk m c 2 t : S1x2048.Idx → EReal) (ix2 0 l) = at2 (G m c) 0 l.val := by
  rw [← at2_of (G m c) 0 l (r' := 0) rfl rfl]
  blk_ext [iblk, V, ix2' t]

/-- The factor of a row of one block. -/
theorem factor (i : Fin 512) (z : Fin 1) : (k0_pay3 (F := Ideal) (iblk m c 0 t) : S512x1.Idx → EReal) (ix2 i z)
    = scale fun k => at2 (X m c) (512 * t.val + i.val) k := by
  pointwise [k0_pay3]
  simp only [blk0]
  rfl

theorem hat (i : Fin 512) (j : Fin 2048) : (k0_pay4 (F := Ideal) (iblk m c 0 t) : S512x2048.Idx → EReal) (ix2 i j) = hatOf (X m c) (512 * t.val + i.val) j.val := by
  pointwise [k0_pay4]
  rw [blk0, factor]
  rfl

/-- The errors of one block. -/
abbrev errs : FVec Ideal S512x2048 .f32 := k0_pay5 (F := Ideal) (iblk m c 0 t) (iblk m c 2 t) (iblk m c 1 t)
/-- The gradients of one block. -/
abbrev dys : FVec Ideal S512x2048 .f32 := k0_pay6 (F := Ideal) (iblk m c 0 t) (iblk m c 2 t) (iblk m c 1 t)

theorem errs_ix (i : Fin 512) (j : Fin 2048) : (errs m c t : S512x2048.Idx → EReal) (ix2 i j) = err (X m c) (T m c) (G m c) (512 * t.val + i.val) j.val := by
  pointwise [k0_pay5]
  rw [hat, blk1, blk2]
  rfl

theorem dys_ix (i : Fin 512) (j : Fin 2048) : (dys m c t : S512x2048.Idx → EReal) (ix2 i j) = dy (X m c) (T m c) (G m c) (512 * t.val + i.val) j.val := by
  pointwise [k0_pay6]
  exact congrArg (· * _) (errs_ix m c t i j)

/-- One grid point's rows. -/
theorem rows (i : Fin 512) (j : Fin 2048) : (k0_pay7 (F := Ideal) (iblk m c 0 t) (iblk m c 2 t) (iblk m c 1 t) : S512x2048.Idx → EReal) (ix2 i j)
    = grad (fun k => at2 (X m c) (512 * t.val + i.val) k) (fun k => dy (X m c) (T m c) (G m c) (512 * t.val + i.val) k * at2 (G m c) 0 k) j.val := by
  rw [grad_eq]
  pointwise [k0_pay7]
  simp only [hat, factor, dys_ix, blk2]
  rfl

/-- What one grid point computes. -/
theorem out : ((outsAt0 m c t.val t.isLt).2.1 : S512x2048.Idx → EReal) = k0_pay7 (F := Ideal) (iblk m c 0 t) (iblk m c 2 t) (iblk m c 1 t) := by
  by_cases hc : t.val % 16 = 0
  · rw [outsAt0_A m c t hc]
    frame_out
  · rw [outsAt0_B m c t hc]
    frame_out

theorem out1 : ((outsAt0 m c t.val t.isLt).2.2.1 : S512x2048.Idx → EReal) = k0_pay7 (F := Ideal) (iblk m c 0 t) (iblk m c 2 t) (iblk m c 1 t) := by
  by_cases hc : t.val % 16 = 0
  · rw [outsAt0_A m c t hc]
    frame_out
    rfl
  · rw [outsAt0_B m c t hc]
    frame_out
    rfl

/-- The gradient of the rows after the run. -/
theorem final : (dats m 0 c).arrAt 4 cfg0.N = res (X m c) (T m c) (G m c) := by
  unfold res
  refine (dats m 0 c).arrAt_eq_of_covers 4 _ (by decide +kernel) fun t hf y => ?_
  blk_simp
  rw [after0_4, out, ix4]
  obtain ⟨i, j, rfl⟩ : ∃ (i : Fin 512) (j : Fin 2048), y = ix2 i j := ⟨y 0, y 1, (ix2_eta y).symm⟩
  rw [rows]
  show _ = grad (fun k => at2 _ (t.val * 512 + i.val) k) (fun k => dy _ _ _ (t.val * 512 + i.val) k * at2 _ 0 k) (0 * 2048 + j.val)
  simp only [Nat.zero_mul, Nat.zero_add, Nat.mul_comm]

theorem final1 : (dats m 0 c).arrAt 5 cfg0.N = res (X m c) (T m c) (G m c) := by
  unfold res
  refine (dats m 0 c).arrAt_eq_of_covers 5 _ (by decide +kernel) fun t hf y => ?_
  blk_simp
  rw [after0_5, out1, ix5]
  obtain ⟨i, j, rfl⟩ : ∃ (i : Fin 512) (j : Fin 2048), y = ix2 i j := ⟨y 0, y 1, (ix2_eta y).symm⟩
  rw [rows]
  show _ = grad (fun k => at2 _ (t.val * 512 + i.val) k) (fun k => dy _ _ _ (t.val * 512 + i.val) k * at2 _ 0 k) (0 * 2048 + j.val)
  simp only [Nat.zero_mul, Nat.zero_add, Nat.mul_comm]

/-! ## The two accumulators -/

/-- What point `n` adds to the loss. -/
def termL (n : ℕ) (y : S8x2048.Idx) : EReal :=
  if (y 0).val = 0 then (∑ r : Fin 512, err (X m c) (T m c) (G m c) (512 * n + r.val) (y 1).val * err (X m c) (T m c) (G m c) (512 * n + r.val) (y 1).val) * Ideal.ofBits .f32 0x39800000#32
  else 0

/-- What point `n` adds to the gradient of the gains. -/
def termG (n : ℕ) (y : S8x2048.Idx) : EReal :=
  if (y 0).val = 0 then ∑ r : Fin 512, dy (X m c) (T m c) (G m c) (512 * n + r.val) (y 1).val * hatOf (X m c) (512 * n + r.val) (y 1).val else 0

abbrev sumsL (P : Vec Ideal S8 .f32) : Vec Ideal S1 .f32 := k0_pay1 (F := Ideal) (errs m c t) (View.ld P (Rect.unit ![0, 0] ![1, 2048] top_inb))
abbrev sumsG (P : Vec Ideal S8 .f32) : Vec Ideal S1 .f32 := k0_pay2 (F := Ideal) (k0_pay4 (iblk m c 0 t)) (dys m c t) (View.ld P (Rect.unit ![0, 0] ![1, 2048] top_inb))

theorem over_sumsL (P : Vec Ideal S8 .f32) (y : S8.Idx) : over P (sumsL m c t P) y = P y + termL m c t.val y := by
  obtain ⟨i, j, rfl⟩ : ∃ (i : Fin 8) (j : Fin 2048), y = ix2 i j := ⟨y 0, y 1, (ix2_eta y).symm⟩
  by_cases h : i.val = 0
  · obtain rfl : i = 0 := Fin.ext h
    refine Eq.trans ?_ (congrArg (P (ix2 0 j) + ·) (if_pos h).symm)
    show (sumsL m c t P) (ix2 0 j) = _
    pointwise [k0_pay1]
    simp only [errs_ix]
  · exact (if_neg h).trans ((add_zero _).symm.trans (congrArg (P (ix2 i j) + ·) (if_neg h).symm))

theorem over_sumsG (P : Vec Ideal S8 .f32) (y : S8.Idx) : over P (sumsG m c t P) y = P y + termG m c t.val y := by
  obtain ⟨i, j, rfl⟩ : ∃ (i : Fin 8) (j : Fin 2048), y = ix2 i j := ⟨y 0, y 1, (ix2_eta y).symm⟩
  by_cases h : i.val = 0
  · obtain rfl : i = 0 := Fin.ext h
    refine Eq.trans ?_ (congrArg (P (ix2 0 j) + ·) (if_pos h).symm)
    show (sumsG m c t P) (ix2 0 j) = _
    pointwise [k0_pay2]
    simp only [hat, dys_ix]
  · exact (if_neg h).trans ((add_zero _).symm.trans (congrArg (P (ix2 i j) + ·) (if_neg h).symm))

theorem firstL (hc : t.val % 16 = 0) (y : S8x2048.Idx) : (outsAt0 m c t.val t.isLt).1 y = 0 + termL m c t.val y := by
  have hz : k0_pay9 (F := Ideal) y = 0 := by pointwise [k0_pay9]
  refine Eq.trans ?_ (congrArg (· + termL m c t.val y) hz)
  rw [← over_sumsL, outsAt0_A m c t hc]
  frame_open
  simp (disch := decide) only [↓ View.readCov_skip, ↓ View.readCov_cons_toLoadRect, ↓ View.readCov_fill]
  frame_out
  exact first (k0_pay9 (F := Ideal)) _ y

theorem firstG (hc : t.val % 16 = 0) (y : S8x2048.Idx) : (outsAt0 m c t.val t.isLt).2.2.2 y = 0 + termG m c t.val y := by
  have hz : k0_pay10 (F := Ideal) y = 0 := by pointwise [k0_pay10]
  refine Eq.trans ?_ (congrArg (· + termG m c t.val y) hz)
  rw [← over_sumsG, outsAt0_A m c t hc]
  frame_open
  simp (disch := decide) only [↓ View.readCov_skip, ↓ View.readCov_cons_toLoadRect, ↓ View.readCov_fill]
  frame_out
  exact first (k0_pay10 (F := Ideal)) _ y

theorem nextL (hc : ¬t.val % 16 = 0) (y : S8x2048.Idx) :
    (outsAt0 m c t.val t.isLt).1 y = (outsAt0 m c (t.val - 1) (Nat.lt_of_le_of_lt (Nat.sub_le _ _) t.isLt)).1 y + termL m c t.val y := by
  rw [← over_sumsL, outsAt0_B m c t hc]
  frame_out
  exact next _ _ y (ms0_3 t) (hs0_3 t)

theorem nextG (hc : ¬t.val % 16 = 0) (y : S8x2048.Idx) :
    (outsAt0 m c t.val t.isLt).2.2.2 y = (outsAt0 m c (t.val - 1) (Nat.lt_of_le_of_lt (Nat.sub_le _ _) t.isLt)).2.2.2 y + termG m c t.val y := by
  rw [← over_sumsG, outsAt0_B m c t hc]
  frame_out
  exact next _ _ y (ms0_6 t) (hs0_6 t)

theorem sum_rows (f : ℕ → EReal) : ∑ n : Fin 16, ∑ r : Fin 512, f (512 * n.val + r.val) = ∑ r : Fin 8192, f r.val := by
  rw [← Fin.sum_univ_mul_divmod 16 512 fun a b => f (512 * a + b)]
  exact Finset.sum_congr rfl fun r _ => congrArg f (Nat.div_add_mod _ _)

theorem term_sumL (j : S8x2048.Idx) : ∑ n : Fin cfg0.N, termL m c n.val j = resL (X m c) (T m c) (G m c) j := by
  unfold termL resL
  by_cases h : (j 0).val = 0
  · simp only [if_pos h]
    rw [step, sum_mul_real _ (by norm_num)]
    exact congrArg (· * _) (sum_rows fun r => err (X m c) (T m c) (G m c) r (j 1).val * err (X m c) (T m c) (G m c) r (j 1).val)
  · simp only [if_neg h, Finset.sum_const_zero]

theorem term_sumG (j : S8x2048.Idx) : ∑ n : Fin cfg0.N, termG m c n.val j = resG (X m c) (T m c) (G m c) j := by
  unfold termG resG
  by_cases h : (j 0).val = 0
  · simp only [if_pos h]
    exact sum_rows fun r => dy (X m c) (T m c) (G m c) r (j 1).val * hatOf (X m c) r (j 1).val
  · simp only [if_neg h, Finset.sum_const_zero]

/-- The last grid point. -/
abbrev last' : Fin cfg0.N := ⟨15, by rw [show cfg0.N = 16 from N_0]; decide⟩

/-- The loss after the run. -/
theorem finalL : (dats m 0 c).arrAt 3 cfg0.N = resL (X m c) (T m c) (G m c) := by
  refine Dat.arrAt_eq_of_after_last (dats m 0 c) 3 last' (by decide +kernel) _ fun j => ?_
  blk_simp
  rw [after0_3]
  rw [Pipeline.eq_sum_fin_of_reset_step_apply_last (fun n h => (outsAt0 m c n h).1) 16 (fun _ => 0) (fun n => termL m c n.val)
    (fun t h j => firstL m c t h j) (fun t h j => nextL m c t h j) (le_of_eq N_0) last' rfl, zero_add]
  exact term_sumL m c j

/-- The gradient of the gains after the run. -/
theorem finalG : (dats m 0 c).arrAt 6 cfg0.N = resG (X m c) (T m c) (G m c) := by
  refine Dat.arrAt_eq_of_after_last (dats m 0 c) 6 last' (by decide +kernel) _ fun j => ?_
  blk_simp
  rw [after0_6]
  rw [Pipeline.eq_sum_fin_of_reset_step_apply_last (fun n h => (outsAt0 m c n h).2.2.2) 16 (fun _ => 0) (fun n => termG m c n.val)
    (fun t h j => firstG m c t h j) (fun t h j => nextG m c t h j) (le_of_eq N_0) last' rfl, zero_add]
  exact term_sumG m c j

/-- Kernel and reference leave the same four arrays. -/
theorem algebraic : Cert.algebraic_Kernel34Ideal_Reference34Ideal := by
  intro m ρ m' ρ' _ hag
  refine ⟨fun c => resL (X m c) (T m c) (G m c), fun c => res (X m c) (T m c) (G m c), fun c => res (X m c) (T m c) (G m c), fun c => resG (X m c) (T m c) (G m c),
    (θ_run defs _ _).mono (fun _ h c => ⟨(h c).1.trans (finalL m c), (h c).2.1.trans (final m c), (h c).2.2.1.trans (final1 m c), (h c).2.2.2.1.trans (finalG m c), (h c).2.2.2.2⟩)
      (Cert.Kernel34Ideal.Value.run_blocks (F := Ideal) m ρ), ?_⟩
  refine (θ_run Cert.Reference34Ideal.defs _ _).mono (fun _ h c => ⟨(h c).1.trans ?_, (h c).2.1.trans ?_, (h c).2.2.1.trans ?_, (h c).2.2.2.1.trans ?_, (h c).2.2.2.2⟩)
    (Cert.Reference34Ideal.Value.run (F := Ideal) m' ρ')
  · refine (Cert.Reference34Ideal.Read.val_main_v74_eq _ _ _).trans ?_
    rw [(hag c).1, (hag c).2.1, (hag c).2.2]
    exact refL _ _ _
  · refine (Cert.Reference34Ideal.Read.val_main_v51_eq _ _).trans ?_
    rw [(hag c).1, (hag c).2.1, (hag c).2.2]
    exact ref _ _ _
  · refine (Cert.Reference34Ideal.Read.val_main_v75_eq _ _).trans ?_
    rw [(hag c).1, (hag c).2.1, (hag c).2.2]
    exact ref _ _ _
  · refine (Cert.Reference34Ideal.Read.val_main_v77_eq _ _ _).trans ?_
    rw [(hag c).1, (hag c).2.1, (hag c).2.2]
    exact refG _ _ _

/-- The reference leaves its arguments. -/
theorem frameR : Cert.quiescent_Reference34Ideal := fun m ρ _ =>
  (θ_run Cert.Reference34Ideal.defs _ _).mono (fun r h => ⟨fun c => (h c).2.2.2.2, sem_eq_zero_of_no_sems (by decide) r.2⟩) (Cert.Reference34Ideal.Value.run (F := Ideal) m ρ)

end Cert.Final

end
-- ==== Proof.Slots.lean ====
/-
  The sum over eight devices: a device's own part where its number stands, the parts received elsewhere.
-/
module

public import proofs.«01_k».proof.Proof.ConvSpec
public import Idealize.ShloMosaic.Lib.Pipeline.ValueKit

@[expose] public section

set_option maxRecDepth 16384

noncomputable section

namespace Cert.Slots

open Idealize.ShloMosaic Idealize.ShloMosaic.TcCoe Idealize.SL.Sem
open Cert.Conv

/-- One device's part: the own one `p` for the device numbered `me`, the received one `s` for any other. -/
def part (me : BitVec 32) (p s : EReal) (k : ℕ) : EReal := if me = BitVec.ofNat 32 k then p else s

/-- The sum of the eight parts, index by index. -/
def total {n : ℕ} (me : BitVec 32) (p : (⟨2, ![n, 128]⟩ : Shape).Idx → EReal) (s : (⟨3, ![8, n, 128]⟩ : Shape).Idx → EReal) :
    (⟨2, ![n, 128]⟩ : Shape).Idx → EReal :=
  fun y => ∑ k : Fin 8, part me (p y) (s (ix3 k (y 0) (y 1))) k.val

/-- A choice by an equality of words. -/
theorem select_eq (a b : BitVec 32) (x y : EReal) : Scalar.select (Scalar.cmpi .eq a b) x y = if a = b then x else y := by
  by_cases h : a = b
  · simp [Scalar.select, Scalar.cmpi, IntOp.cmpi, h]
  · simp [Scalar.select, Scalar.cmpi, IntOp.cmpi, h, show (a == b) = false by simpa using h]

/-- The same choice with the words exchanged. -/
theorem select_eq' (a b : BitVec 32) (x y : EReal) : Scalar.select (IntOp.cmpi .eq a b) x y = if b = a then x else y := by
  exact (select_eq a b x y).trans (if_congr eq_comm rfl rfl)

/-- One device's part read out of all that were received. -/
theorem received (X : Vec Ideal ⟨3, ![8, 512, 128]⟩ .f32) (k : ℕ) (hk : k < 8)
    (h : ∀ a : Fin 3, (![k, 0, 0] : Fin 3 → ℕ) a + (![1, 512, 128] : Fin 3 → ℕ) a ≤ (![8, 512, 128] : Fin 3 → ℕ) a) (i : Fin 512) (j : Fin 128) :
    (View.ld X (Rect.unit ![k, 0, 0] ![1, 512, 128] h) : (⟨3, ![1, 512, 128]⟩ : Shape).Idx → EReal) (ix3 0 i j) = X (ix3 ⟨k, hk⟩ i j) :=
  View.ld_unit_apply_of X _ _ _ _ _ fun a => by fin_cases a <;> simp

end Cert.Slots

end
-- ==== Proof.SumLate.lean ====
/-
  The sum over the devices of the gradients that are computed last.
-/
module

public import proofs.«01_k».proof.Defs
public import proofs.«01_k».proof.Proof.Slots
public import proofs.«01_k».proof.Proof.Gen.Kernel35Ideal.Frame
public import proofs.«01_k».proof.Proof.Gen.Reference35Ideal.Read
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.SumLate

open Idealize.ShloMosaic Idealize.ShloMosaic.TcCoe Idealize.SL.Sem
open Cert.Kernel35Ideal Cert.Kernel35Ideal.Gen Cert.Conv Cert.Slots
open Idealize.ShloMosaic.Pipeline (Dat)

open Cert.Reference35Ideal.Read in
theorem ref (p : S512x128.Idx → EReal) (s : S8x512x128.Idx → EReal) (n : S1.Idx → BitVec 32) :
    val_main_v6 (F := Ideal) p s n = total (n (ix1 0)) p s := by
  funext y
  idx_vars y
  pointwise [val_main_v6, val_main_v5, val_main_call0_v0, val_main_call0_v1, val_main_v4, val_main_v3, val_main_v2, val_main_v1, val_main_v0, val_main_cst]
  simp only [select_eq']
  rfl

variable (m : (ℓ : Loc nD τ sig) → Buf (Elt Ideal) ℓ) (c : Dev nD)

/-- The number of the device selects no block. -/
theorem ok : Ok m := trivial

abbrev P : S512x128.Idx → EReal := m ((c.tc : Thread nD τ).loc main_arg0)
abbrev S : S8x512x128.Idx → EReal := m ((c.tc : Thread nD τ).loc main_arg1)
abbrev N : S1.Idx → BitVec 32 := m ((c.tc : Thread nD τ).loc main_arg2)

variable (t : Fin (cfgM m (ok m)).N)

theorem at0 : ((cfgM m (ok m)).win 0).index t = ![t.val, 0] :=
  (by decide +kernel : ∀ t : Fin grid0.N, cc0_transform_0 (grid0.coords t) = ![t.val, 0]) t
theorem at1 : ((cfgM m (ok m)).win 1).index t = ![0, t.val, 0] :=
  (by decide +kernel : ∀ t : Fin grid0.N, cc0_transform_1 (grid0.coords t) = ![0, t.val, 0]) t
theorem at2' : ((cfgM m (ok m)).win 2).index t = ![t.val, 0] :=
  (by decide +kernel : ∀ t : Fin grid0.N, cc0_transform_2 (grid0.coords t) = ![t.val, 0]) t

/-- A row of a block is a row of the array. -/
theorem row (i : Fin 512) : t.val * 512 + i.val < 512 := by
  have h : t.val < 1 := t.isLt
  omega

/-- A block of the device's own part. -/
theorem blk0 (i : Fin 512) (j : Fin 128) : (iblk m (ok m) c 0 t : S512x128.Idx → EReal) (ix2 i j) = P m c (ix2 ⟨_, row m t i⟩ j) := by
  blk_ext [iblk, V, at0 m t]

/-- A block of the parts received. -/
theorem blk1 (k : Fin 8) (i : Fin 512) (j : Fin 128) : (iblk m (ok m) c 1 t : S8x512x128.Idx → EReal) (ix3 k i j) = S m c (ix3 k ⟨_, row m t i⟩ j) := by
  blk_ext [iblk, V, at1 m t]

/-- What the body stores. -/
theorem stored (w : BitVec 32) (x : Vec Ideal S512x128 .f32) (s0 s1 s2 s3 s4 s5 s6 s7 : Vec Ideal S1x512x128 .f32) (i : Fin 512) (j : Fin 128) :
    (k0_pay1 (F := Ideal) (k0_pay2 (F := Ideal) w x s0 w x s1 w x s2 w x s3) (Scalar.cmpi .eq w 4#32) x s4 w x s5 w x s6 w x s7 : S512x128.Idx → EReal) (ix2 i j)
      = part w (x (ix2 i j)) (s0 (ix3 0 i j)) 0 + part w (x (ix2 i j)) (s1 (ix3 0 i j)) 1 + part w (x (ix2 i j)) (s2 (ix3 0 i j)) 2
        + part w (x (ix2 i j)) (s3 (ix3 0 i j)) 3 + part w (x (ix2 i j)) (s4 (ix3 0 i j)) 4 + part w (x (ix2 i j)) (s5 (ix3 0 i j)) 5
        + part w (x (ix2 i j)) (s6 (ix3 0 i j)) 6 + part w (x (ix2 i j)) (s7 (ix3 0 i j)) 7 := by
  pointwise [k0_pay1, k0_pay2]
  simp only [select_eq]
  rfl

/-- The number of the device as the body reads it. -/
theorem word (xt : S1.Idx → BitVec 32) : (View.read (Elt Ideal) (View.whole main_arg2) xt (Shape.Idx.first (by decide)) : BitVec 32) = xt (ix1 0) := by
  refine congrArg xt (funext fun a => Fin.ext ?_)
  fin_cases a
  rfl

/-- What one run of the body leaves. -/
theorem body (g : grid0.Coords) (a2 : Memref sig .tc .vmem S512x128 .f32) (h2 : a2.IsWhole) (a3 : Memref sig .tc .vmem S8x512x128 .f32) (h3 : a3.IsWhole)
    (a4 : Memref sig .tc .vmem S512x128 .f32) (h4 : a4.IsWhole) (x : Vec Ideal S512x128 .f32) (s : Vec Ideal S8x512x128 .f32) (xt : S1.Idx → BitVec 32)
    (i : Fin 512) (j : Fin 128) :
    (out0_A_2 (F := Ideal) c g a2 h2 a3 h3 a4 h4 x s xt : S512x128.Idx → EReal) (ix2 i j)
      = ∑ k : Fin 8, part (xt (ix1 0)) (x (ix2 i j)) (s (ix3 k i j)) k.val := by
  frame_out
  refine (stored _ _ _ _ _ _ _ _ _ _ i j).trans ?_
  rw [Fin.sum_univ_eight, word, received s 0 (by decide), received s 1 (by decide), received s 2 (by decide), received s 3 (by decide),
    received s 4 (by decide), received s 5 (by decide), received s 6 (by decide), received s 7 (by decide)]
  rfl

/-- What one grid point leaves. -/
theorem out (i : Fin 512) (j : Fin 128) :
    (outsAt0 m (ok m) c t : S512x128.Idx → EReal) (ix2 i j) = total (N m c (ix1 0)) (P m c) (S m c) (ix2 ⟨_, row m t i⟩ j) := by
  obtain rfl : c = 0 := Subsingleton.elim _ _
  refine (body 0 _ _ _ _ _ _ _ _ _ _ i j).trans ?_
  simp only [blk0, blk1]
  rfl

/-- The result after the run. -/
theorem final : (dats m (ok m) 0 c).arrAt 2 (cfgM m (ok m)).N = total (N m c (ix1 0)) (P m c) (S m c) := by
  refine (dats m (ok m) 0 c).arrAt_eq_of_covers 2 _ ?_ fun t hf y => ?_
  · refine ⟨(by decide : ∀ a : Fin 2, 0 < (![512, 128] : Fin 2 → ℕ) a), fun β =>
      ⟨⟨(β (0 : Fin 2)).val, lt_of_lt_of_eq (β (0 : Fin 2)).isLt (show (512 + 512 - 1) / 512 = grid0.N by decide)⟩,
        flush0_2 _ _, fun a => ⟨?_, .inl rfl⟩⟩⟩
    rw [at2' m]
    have h1 : (β (1 : Fin 2)).val < 1 := lt_of_lt_of_eq (β (1 : Fin 2)).isLt (show (128 + 128 - 1) / 128 = 1 by decide)
    revert a
    refine (Fin.forall_fin_two (p := fun a => (![(β (0 : Fin 2)).val, 0] : Fin 2 → ℕ) a = (β a).val)).2 ⟨rfl, ?_⟩
    show 0 = _
    omega
  blk_simp
  rw [after0_2]
  obtain ⟨i, j, rfl⟩ : ∃ (i : Fin 512) (j : Fin 128), y = (ix2 i j : S512x128.Idx) :=
    ⟨y (0 : Fin 2), y (1 : Fin 2), (ix2_eta (y : S512x128.Idx)).symm⟩
  rw [out]
  blk_ext [at2' m t]

/-- Kernel and reference leave the same array. -/
theorem algebraic : Cert.algebraic_Kernel35Ideal_Reference35Ideal := by
  intro m ρ m' ρ' _ hag
  refine ⟨fun c => total (N m c (ix1 0)) (P m c) (S m c),
    (θ_run defs _ _).mono (fun _ h c => ⟨((h.1 c).1 2).trans (final m c), h.2 c⟩)
      (θ_run_and (run_main (F := Ideal) m ρ (ok m)) (unchanged (F := Ideal) m ρ (ok m))), ?_⟩
  refine (θ_run Cert.Reference35Ideal.defs _ _).mono (fun _ h c => ⟨((h c).1.trans (Cert.Reference35Ideal.Read.val_main_v6_eq _ _ _)).trans ?_, (h c).2⟩)
    (Cert.Reference35Ideal.Value.run (F := Ideal) m' ρ')
  rw [(hag c).1, (hag c).2.1, (hag c).2.2]
  exact ref _ _ _

/-- The reference leaves its arguments. -/
theorem frameR : Cert.quiescent_Reference35Ideal := fun m ρ _ =>
  (θ_run Cert.Reference35Ideal.defs _ _).mono (fun r h => ⟨fun c => (h c).2, sem_eq_zero_of_no_sems (by decide) r.2⟩) (Cert.Reference35Ideal.Value.run (F := Ideal) m ρ)

end Cert.SumLate

end
-- ==== Proof.SumEarly.lean ====
/-
  The sum over the devices of the loss and of the gradients that are computed first. Each grid point adds 512 rows, as
  in `SumLate.lean`.
-/
module

public import proofs.«01_k».proof.Defs
public import proofs.«01_k».proof.Proof.SumLate
public import proofs.«01_k».proof.Proof.Gen.Kernel36Ideal.Frame
public import proofs.«01_k».proof.Proof.Gen.Reference36Ideal.Read
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.SumEarly

open Idealize.ShloMosaic Idealize.ShloMosaic.TcCoe Idealize.SL.Sem
open Cert.Kernel36Ideal Cert.Kernel36Ideal.Gen Cert.Conv Cert.Slots
open Idealize.ShloMosaic.Pipeline (Dat)

open Cert.Reference36Ideal.Read in
theorem ref (p : S3584x128.Idx → EReal) (s : S8x3584x128.Idx → EReal) (n : S1.Idx → BitVec 32) :
    val_main_v6 (F := Ideal) p s n = total (n (ix1 0)) p s := by
  funext y
  idx_vars y
  pointwise [val_main_v6, val_main_v5, val_main_call0_v0, val_main_call0_v1, val_main_v4, val_main_v3, val_main_v2, val_main_v1, val_main_v0, val_main_cst]
  simp only [select_eq']
  rfl

variable (m : (ℓ : Loc nD τ sig) → Buf (Elt Ideal) ℓ) (c : Dev nD)

/-- The number of the device selects no block. -/
theorem ok : Ok m := trivial

abbrev P : S3584x128.Idx → EReal := m ((c.tc : Thread nD τ).loc main_arg0)
abbrev S : S8x3584x128.Idx → EReal := m ((c.tc : Thread nD τ).loc main_arg1)
abbrev N : S1.Idx → BitVec 32 := m ((c.tc : Thread nD τ).loc main_arg2)

variable (t : Fin (cfgM m (ok m)).N)

theorem at0 : ((cfgM m (ok m)).win 0).index t = ![t.val, 0] :=
  (by decide +kernel : ∀ t : Fin grid0.N, cc0_transform_0 (grid0.coords t) = ![t.val, 0]) t
theorem at1 : ((cfgM m (ok m)).win 1).index t = ![0, t.val, 0] :=
  (by decide +kernel : ∀ t : Fin grid0.N, cc0_transform_1 (grid0.coords t) = ![0, t.val, 0]) t
theorem at2' : ((cfgM m (ok m)).win 2).index t = ![t.val, 0] :=
  (by decide +kernel : ∀ t : Fin grid0.N, cc0_transform_2 (grid0.coords t) = ![t.val, 0]) t

/-- A row of a block is a row of the array. -/
theorem row (i : Fin 512) : t.val * 512 + i.val < 3584 := by
  have h : t.val < 7 := t.isLt
  omega

/-- A block of the device's own part. -/
theorem blk0 (i : Fin 512) (j : Fin 128) : (iblk m (ok m) c 0 t : S512x128.Idx → EReal) (ix2 i j) = P m c (ix2 ⟨_, row m t i⟩ j) := by
  blk_ext [iblk, V, at0 m t]

/-- A block of the parts received. -/
theorem blk1 (k : Fin 8) (i : Fin 512) (j : Fin 128) : (iblk m (ok m) c 1 t : S8x512x128.Idx → EReal) (ix3 k i j) = S m c (ix3 k ⟨_, row m t i⟩ j) := by
  blk_ext [iblk, V, at1 m t]

/-- The number of the device as the body reads it. -/
theorem word (xt : S1.Idx → BitVec 32) : (View.read (Elt Ideal) (View.whole main_arg2) xt (Shape.Idx.first (by decide)) : BitVec 32) = xt (ix1 0) := by
  refine congrArg xt (funext fun a => Fin.ext ?_)
  fin_cases a
  rfl

/-- What one run of the body leaves. -/
theorem body (g : grid0.Coords) (a2 : Memref sig .tc .vmem S512x128 .f32) (h2 : a2.IsWhole) (a3 : Memref sig .tc .vmem S8x512x128 .f32) (h3 : a3.IsWhole)
    (a4 : Memref sig .tc .vmem S512x128 .f32) (h4 : a4.IsWhole) (x : Vec Ideal S512x128 .f32) (s : Vec Ideal S8x512x128 .f32) (xt : S1.Idx → BitVec 32)
    (i : Fin 512) (j : Fin 128) :
    (out0_A_2 (F := Ideal) c g a2 h2 a3 h3 a4 h4 x s xt : S512x128.Idx → EReal) (ix2 i j)
      = ∑ k : Fin 8, part (xt (ix1 0)) (x (ix2 i j)) (s (ix3 k i j)) k.val := by
  frame_out
  refine (SumLate.stored _ _ _ _ _ _ _ _ _ _ i j).trans ?_
  rw [Fin.sum_univ_eight, word, received s 0 (by decide), received s 1 (by decide), received s 2 (by decide), received s 3 (by decide),
    received s 4 (by decide), received s 5 (by decide), received s 6 (by decide), received s 7 (by decide)]
  rfl

/-- What one grid point leaves. -/
theorem out (i : Fin 512) (j : Fin 128) :
    (outsAt0 m (ok m) c t : S512x128.Idx → EReal) (ix2 i j) = total (N m c (ix1 0)) (P m c) (S m c) (ix2 ⟨_, row m t i⟩ j) := by
  obtain rfl : c = 0 := Subsingleton.elim _ _
  refine (body 0 _ _ _ _ _ _ _ _ _ _ i j).trans ?_
  simp only [blk0, blk1]
  rfl

/-- The result after the run. -/
theorem final : (dats m (ok m) 0 c).arrAt 2 (cfgM m (ok m)).N = total (N m c (ix1 0)) (P m c) (S m c) := by
  refine (dats m (ok m) 0 c).arrAt_eq_of_covers 2 _ ?_ fun t hf y => ?_
  · refine ⟨(by decide : ∀ a : Fin 2, 0 < (![512, 128] : Fin 2 → ℕ) a), fun β =>
      ⟨⟨(β (0 : Fin 2)).val, lt_of_lt_of_eq (β (0 : Fin 2)).isLt (show (3584 + 512 - 1) / 512 = grid0.N by decide)⟩,
        flush0_2 _ _, fun a => ⟨?_, .inl rfl⟩⟩⟩
    rw [at2' m]
    have h1 : (β (1 : Fin 2)).val < 1 := lt_of_lt_of_eq (β (1 : Fin 2)).isLt (show (128 + 128 - 1) / 128 = 1 by decide)
    revert a
    refine (Fin.forall_fin_two (p := fun a => (![(β (0 : Fin 2)).val, 0] : Fin 2 → ℕ) a = (β a).val)).2 ⟨rfl, ?_⟩
    show 0 = _
    omega
  blk_simp
  rw [after0_2]
  obtain ⟨i, j, rfl⟩ : ∃ (i : Fin 512) (j : Fin 128), y = (ix2 i j : S512x128.Idx) :=
    ⟨y (0 : Fin 2), y (1 : Fin 2), (ix2_eta (y : S512x128.Idx)).symm⟩
  rw [out]
  blk_ext [at2' m t]

/-- Kernel and reference leave the same array. -/
theorem algebraic : Cert.algebraic_Kernel36Ideal_Reference36Ideal := by
  intro m ρ m' ρ' _ hag
  refine ⟨fun c => total (N m c (ix1 0)) (P m c) (S m c),
    (θ_run defs _ _).mono (fun _ h c => ⟨((h.1 c).1 2).trans (final m c), h.2 c⟩)
      (θ_run_and (run_main (F := Ideal) m ρ (ok m)) (unchanged (F := Ideal) m ρ (ok m))), ?_⟩
  refine (θ_run Cert.Reference36Ideal.defs _ _).mono (fun _ h c => ⟨((h c).1.trans (Cert.Reference36Ideal.Read.val_main_v6_eq _ _ _)).trans ?_, (h c).2⟩)
    (Cert.Reference36Ideal.Value.run (F := Ideal) m' ρ')
  rw [(hag c).1, (hag c).2.1, (hag c).2.2]
  exact ref _ _ _

/-- The reference leaves its arguments. -/
theorem frameR : Cert.quiescent_Reference36Ideal := fun m ρ _ =>
  (θ_run Cert.Reference36Ideal.defs _ _).mono (fun r h => ⟨fun c => (h c).2, sem_eq_zero_of_no_sems (by decide) r.2⟩) (Cert.Reference36Ideal.Value.run (F := Ideal) m ρ)

end Cert.SumEarly

end
-- ==== Proof.lean ====
/-
  The certificate: the frames, and the value claims of the calls taken.
-/
module

public import proofs.«01_k».proof.Defs
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel25.Frame
public import proofs.«01_k».proof.Proof.Gen.Kernel26.Frame
public import proofs.«01_k».proof.Proof.Gen.Kernel27.Frame
public import proofs.«01_k».proof.Proof.Gen.Kernel28.Frame
public import proofs.«01_k».proof.Proof.Gen.Kernel29.Frame
public import proofs.«01_k».proof.Proof.Gen.Kernel30.Frame
public import proofs.«01_k».proof.Proof.Gen.Kernel31.Frame
public import proofs.«01_k».proof.Proof.Gen.Kernel32.Frame
public import proofs.«01_k».proof.Proof.Gen.Kernel33.Frame
public import proofs.«01_k».proof.Proof.Gen.Kernel34.Frame
public import proofs.«01_k».proof.Proof.Gen.Kernel35.Frame
public import proofs.«01_k».proof.Proof.Gen.Kernel36.Frame
public import proofs.«01_k».proof.Proof.ConvClaim
public import proofs.«01_k».proof.Proof.UpW
public import proofs.«01_k».proof.Proof.UpX
public import proofs.«01_k».proof.Proof.DownW
public import proofs.«01_k».proof.Proof.DownX
public import proofs.«01_k».proof.Proof.AInW
public import proofs.«01_k».proof.Proof.AInX
public import proofs.«01_k».proof.Proof.BInW
public import proofs.«01_k».proof.Proof.BInX
public import proofs.«01_k».proof.Proof.OutW
public import proofs.«01_k».proof.Proof.BOutX
public import proofs.«01_k».proof.Proof.AOutX
public import proofs.«01_k».proof.Proof.FfnUp
public import proofs.«01_k».proof.Proof.FfnDown
public import proofs.«01_k».proof.Proof.AIn
public import proofs.«01_k».proof.Proof.AOut
public import proofs.«01_k».proof.Proof.BIn
public import proofs.«01_k».proof.Proof.BOut
public import proofs.«01_k».proof.Proof.AdamAIn
public import proofs.«01_k».proof.Proof.AdamOut
public import proofs.«01_k».proof.Proof.AdamBIn
public import proofs.«01_k».proof.Proof.AdamNorm
public import proofs.«01_k».proof.Proof.AdamConv
public import proofs.«01_k».proof.Proof.AdamBNorm
public import proofs.«01_k».proof.Proof.AdamFNorm
public import proofs.«01_k».proof.Proof.AdamMix
public import proofs.«01_k».proof.Proof.AdamMixBias
public import proofs.«01_k».proof.Proof.AdamFConv
public import proofs.«01_k».proof.Proof.AdamFBias
public import proofs.«01_k».proof.Proof.AdamUp
public import proofs.«01_k».proof.Proof.AdamDown
public import proofs.«01_k».proof.Proof.NormGrad
public import proofs.«01_k».proof.Proof.Norm
public import proofs.«01_k».proof.Proof.Final
public import proofs.«01_k».proof.Proof.SumLate
public import proofs.«01_k».proof.Proof.SumEarly

@[expose] public section

set_option maxRecDepth 16384

noncomputable section

namespace Cert.Proof

open Idealize.ShloMosaic Idealize.SL.Sem

/-- Every program's side conditions, the frames, and the value claims. -/
theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Reference5Ideal.Gen.facts,
   Cert.Kernel6.Gen.facts, Cert.Kernel6Ideal.Gen.facts, Cert.Reference6Ideal.Gen.facts,
   Cert.Kernel7.Gen.facts, Cert.Kernel7Ideal.Gen.facts, Cert.Reference7Ideal.Gen.facts,
   Cert.Kernel8.Gen.facts, Cert.Kernel8Ideal.Gen.facts, Cert.Reference8Ideal.Gen.facts,
   Cert.Kernel9.Gen.facts, Cert.Kernel9Ideal.Gen.facts, Cert.Reference9Ideal.Gen.facts,
   Cert.Kernel10.Gen.facts, Cert.Kernel10Ideal.Gen.facts, Cert.Reference10Ideal.Gen.facts,
   Cert.Kernel11.Gen.facts, Cert.Kernel11Ideal.Gen.facts, Cert.Reference11Ideal.Gen.facts,
   Cert.Kernel12.Gen.facts, Cert.Kernel12Ideal.Gen.facts, Cert.Reference12Ideal.Gen.facts,
   Cert.Kernel13.Gen.facts, Cert.Kernel13Ideal.Gen.facts, Cert.Reference13Ideal.Gen.facts,
   Cert.Kernel14.Gen.facts, Cert.Kernel14Ideal.Gen.facts, Cert.Reference14Ideal.Gen.facts,
   Cert.Kernel15.Gen.facts, Cert.Kernel15Ideal.Gen.facts, Cert.Reference15Ideal.Gen.facts,
   Cert.Kernel16.Gen.facts, Cert.Kernel16Ideal.Gen.facts, Cert.Reference16Ideal.Gen.facts,
   Cert.Kernel17.Gen.facts, Cert.Kernel17Ideal.Gen.facts, Cert.Reference17Ideal.Gen.facts,
   Cert.Kernel18.Gen.facts, Cert.Kernel18Ideal.Gen.facts, Cert.Reference18Ideal.Gen.facts,
   Cert.Kernel19.Gen.facts, Cert.Kernel19Ideal.Gen.facts, Cert.Reference19Ideal.Gen.facts,
   Cert.Kernel20.Gen.facts, Cert.Kernel20Ideal.Gen.facts, Cert.Reference20Ideal.Gen.facts,
   Cert.Kernel21.Gen.facts, Cert.Kernel21Ideal.Gen.facts, Cert.Reference21Ideal.Gen.facts,
   Cert.Kernel22.Gen.facts, Cert.Kernel22Ideal.Gen.facts, Cert.Reference22Ideal.Gen.facts,
   Cert.Kernel23.Gen.facts, Cert.Kernel23Ideal.Gen.facts, Cert.Reference23Ideal.Gen.facts,
   Cert.Kernel24.Gen.facts, Cert.Kernel24Ideal.Gen.facts, Cert.Reference24Ideal.Gen.facts,
   Cert.Kernel25.Gen.facts, Cert.Kernel25Ideal.Gen.facts, Cert.Reference25Ideal.Gen.facts,
   Cert.Kernel26.Gen.facts, Cert.Kernel26Ideal.Gen.facts, Cert.Reference26Ideal.Gen.facts,
   Cert.Kernel27.Gen.facts, Cert.Kernel27Ideal.Gen.facts, Cert.Reference27Ideal.Gen.facts,
   Cert.Kernel28.Gen.facts, Cert.Kernel28Ideal.Gen.facts, Cert.Reference28Ideal.Gen.facts,
   Cert.Kernel29.Gen.facts, Cert.Kernel29Ideal.Gen.facts, Cert.Reference29Ideal.Gen.facts,
   Cert.Kernel30.Gen.facts, Cert.Kernel30Ideal.Gen.facts, Cert.Reference30Ideal.Gen.facts,
   Cert.Kernel31.Gen.facts, Cert.Kernel31Ideal.Gen.facts, Cert.Reference31Ideal.Gen.facts,
   Cert.Kernel32.Gen.facts, Cert.Kernel32Ideal.Gen.facts, Cert.Reference32Ideal.Gen.facts,
   Cert.Kernel33.Gen.facts, Cert.Kernel33Ideal.Gen.facts, Cert.Reference33Ideal.Gen.facts,
   Cert.Kernel34.Gen.facts, Cert.Kernel34Ideal.Gen.facts, Cert.Reference34Ideal.Gen.facts,
   Cert.Kernel35.Gen.facts, Cert.Kernel35Ideal.Gen.facts, Cert.Reference35Ideal.Gen.facts,
   Cert.Kernel36.Gen.facts, Cert.Kernel36Ideal.Gen.facts, Cert.Reference36Ideal.Gen.facts,
   fun m ρ _ => Cert.Kernel.Gen.frame m ρ, fun m ρ _ => Cert.KernelIdeal.Gen.frame m ρ, Cert.Conv.frameR,
   fun m ρ _ => Cert.Kernel2.Gen.frame m ρ, fun m ρ _ => Cert.Kernel2Ideal.Gen.frame m ρ, Cert.UpW.frameR,
   fun m ρ _ => Cert.Kernel3.Gen.frame m ρ, fun m ρ _ => Cert.Kernel3Ideal.Gen.frame m ρ, Cert.UpX.frameR,
   fun m ρ _ => Cert.Kernel4.Gen.frame m ρ, fun m ρ _ => Cert.Kernel4Ideal.Gen.frame m ρ, Cert.DownW.frameR,
   fun m ρ _ => Cert.Kernel5.Gen.frame m ρ, fun m ρ _ => Cert.Kernel5Ideal.Gen.frame m ρ, Cert.DownX.frameR,
   fun m ρ _ => Cert.Kernel6.Gen.frame m ρ, fun m ρ _ => Cert.Kernel6Ideal.Gen.frame m ρ, Cert.AInW.frameR,
   fun m ρ _ => Cert.Kernel7.Gen.frame m ρ, fun m ρ _ => Cert.Kernel7Ideal.Gen.frame m ρ, Cert.AInX.frameR,
   fun m ρ _ => Cert.Kernel8.Gen.frame m ρ, fun m ρ _ => Cert.Kernel8Ideal.Gen.frame m ρ, Cert.BInW.frameR,
   fun m ρ _ => Cert.Kernel9.Gen.frame m ρ, fun m ρ _ => Cert.Kernel9Ideal.Gen.frame m ρ, Cert.BInX.frameR,
   fun m ρ _ => Cert.Kernel10.Gen.frame m ρ, fun m ρ _ => Cert.Kernel10Ideal.Gen.frame m ρ, Cert.OutW.frameR,
   fun m ρ _ => Cert.Kernel11.Gen.frame m ρ, fun m ρ _ => Cert.Kernel11Ideal.Gen.frame m ρ, Cert.BOutX.frameR,
   fun m ρ _ => Cert.Kernel12.Gen.frame m ρ, fun m ρ _ => Cert.Kernel12Ideal.Gen.frame m ρ, Cert.AOutX.frameR,
   fun m ρ _ => Cert.Kernel13.Gen.frame m ρ, fun m ρ _ => Cert.Kernel13Ideal.Gen.frame m ρ, Cert.FfnUp.frameR,
   fun m ρ _ => Cert.Kernel14.Gen.frame m ρ, fun m ρ _ => Cert.Kernel14Ideal.Gen.frame m ρ, Cert.FfnDown.frameR,
   fun m ρ _ => Cert.Kernel15.Gen.frame m ρ, fun m ρ _ => Cert.Kernel15Ideal.Gen.frame m ρ, Cert.AIn.frameR,
   fun m ρ _ => Cert.Kernel16.Gen.frame m ρ, fun m ρ _ => Cert.Kernel16Ideal.Gen.frame m ρ, Cert.AOut.frameR,
   fun m ρ _ => Cert.Kernel17.Gen.frame m ρ, fun m ρ _ => Cert.Kernel17Ideal.Gen.frame m ρ, Cert.BIn.frameR,
   fun m ρ _ => Cert.Kernel18.Gen.frame m ρ, fun m ρ _ => Cert.Kernel18Ideal.Gen.frame m ρ, Cert.BOut.frameR,
   fun m ρ _ => Cert.Kernel19.Gen.frame m ρ, fun m ρ _ => Cert.Kernel19Ideal.Gen.frame m ρ, Cert.AdamAIn.frameR,
   fun m ρ _ => Cert.Kernel20.Gen.frame m ρ, fun m ρ _ => Cert.Kernel20Ideal.Gen.frame m ρ, Cert.AdamOut.frameR,
   fun m ρ _ => Cert.Kernel21.Gen.frame m ρ, fun m ρ _ => Cert.Kernel21Ideal.Gen.frame m ρ, Cert.AdamBIn.frameR,
   fun m ρ _ => Cert.Kernel22.Gen.frame m ρ, fun m ρ _ => Cert.Kernel22Ideal.Gen.frame m ρ, Cert.AdamNorm.frameR,
   fun m ρ _ => Cert.Kernel23.Gen.frame m ρ, fun m ρ _ => Cert.Kernel23Ideal.Gen.frame m ρ, Cert.AdamConv.frameR,
   fun m ρ _ => Cert.Kernel24.Gen.frame m ρ, fun m ρ _ => Cert.Kernel24Ideal.Gen.frame m ρ, Cert.AdamBNorm.frameR,
   fun m ρ _ => Cert.Kernel25.Gen.frame m ρ, fun m ρ _ => Cert.Kernel25Ideal.Gen.frame m ρ, Cert.AdamFNorm.frameR,
   fun m ρ _ => Cert.Kernel26.Gen.frame m ρ, fun m ρ _ => Cert.Kernel26Ideal.Gen.frame m ρ, Cert.AdamMix.frameR,
   fun m ρ _ => Cert.Kernel27.Gen.frame m ρ, fun m ρ _ => Cert.Kernel27Ideal.Gen.frame m ρ, Cert.AdamMixBias.frameR,
   fun m ρ _ => Cert.Kernel28.Gen.frame m ρ, fun m ρ _ => Cert.Kernel28Ideal.Gen.frame m ρ, Cert.AdamFConv.frameR,
   fun m ρ _ => Cert.Kernel29.Gen.frame m ρ, fun m ρ _ => Cert.Kernel29Ideal.Gen.frame m ρ, Cert.AdamFBias.frameR,
   fun m ρ _ => Cert.Kernel30.Gen.frame m ρ, fun m ρ _ => Cert.Kernel30Ideal.Gen.frame m ρ, Cert.AdamUp.frameR,
   fun m ρ _ => Cert.Kernel31.Gen.frame m ρ, fun m ρ _ => Cert.Kernel31Ideal.Gen.frame m ρ, Cert.AdamDown.frameR,
   fun m ρ _ => Cert.Kernel32.Gen.frame m ρ, fun m ρ _ => Cert.Kernel32Ideal.Gen.frame m ρ, Cert.NormGrad.frameR,
   fun m ρ _ => Cert.Kernel33.Gen.frame m ρ, fun m ρ _ => Cert.Kernel33Ideal.Gen.frame m ρ, Cert.Norm.frameR,
   fun m ρ _ => Cert.Kernel34.Gen.frame m ρ, fun m ρ _ => Cert.Kernel34Ideal.Gen.frame m ρ, Cert.Final.frameR,
   fun m ρ _ => Cert.Kernel35.Gen.frame m ρ trivial, fun m ρ _ => Cert.Kernel35Ideal.Gen.frame m ρ trivial, Cert.SumLate.frameR,
   fun m ρ _ => Cert.Kernel36.Gen.frame m ρ trivial, fun m ρ _ => Cert.Kernel36Ideal.Gen.frame m ρ trivial, Cert.SumEarly.frameR,
   trivial, Cert.Conv.algebraic, trivial, Cert.UpW.algebraic, trivial, Cert.UpX.algebraic, trivial, Cert.DownW.algebraic,
   trivial, Cert.DownX.algebraic, trivial, Cert.AInW.algebraic, trivial, Cert.AInX.algebraic, trivial, Cert.BInW.algebraic,
   trivial, Cert.BInX.algebraic, trivial, Cert.OutW.algebraic, trivial, Cert.BOutX.algebraic, trivial, Cert.AOutX.algebraic,
   trivial, Cert.FfnUp.algebraic, trivial, Cert.FfnDown.algebraic, trivial, Cert.AIn.algebraic, trivial, Cert.AOut.algebraic,
   trivial, Cert.BIn.algebraic, trivial, Cert.BOut.algebraic, trivial, Cert.AdamAIn.algebraic, trivial, Cert.AdamOut.algebraic,
   trivial, Cert.AdamBIn.algebraic, trivial, Cert.AdamNorm.algebraic, trivial, Cert.AdamConv.algebraic, trivial, Cert.AdamBNorm.algebraic,
   trivial, Cert.AdamFNorm.algebraic, trivial, Cert.AdamMix.algebraic, trivial, Cert.AdamMixBias.algebraic, trivial, Cert.AdamFConv.algebraic,
   trivial, Cert.AdamFBias.algebraic, trivial, Cert.AdamUp.algebraic, trivial, Cert.AdamDown.algebraic, trivial, Cert.NormGrad.algebraic,
   trivial, Cert.Norm.algebraic, trivial, Cert.Final.algebraic, trivial, Cert.SumLate.algebraic, trivial, Cert.SumEarly.algebraic⟩

end Cert.Proof

end
